-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_ResidualIdeal (m : (ℓ : Loc Cert.ResidualIdeal.nD Cert.ResidualIdeal.τ Cert.ResidualIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetIdeal_finite_logits [hPre_finite_logits : Cert.Pre_finite_logits.Facts] (m : (ℓ : Loc Cert.ForgetIdeal.nD Cert.ForgetIdeal.τ Cert.ForgetIdeal.sig) → Buf (Elt Ideal) ℓ) : Prop :=
  ∀ c : Dev Cert.ForgetIdeal.nD,
    (Cert.Pre_finite_logits.fn (F := Ideal) (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1))) = (fun _ => 1#1)

def Pre_GatesIdeal (m : (ℓ : Loc Cert.GatesIdeal.nD Cert.GatesIdeal.τ Cert.GatesIdeal.sig) → Buf (Elt Ideal) ℓ) : Prop :=
  True

def Pre_GatesIdeal_finite_logits [hPre_finite_logits : Cert.Pre_finite_logits.Facts] (m : (ℓ : Loc Cert.GatesIdeal.nD Cert.GatesIdeal.τ Cert.GatesIdeal.sig) → Buf (Elt Ideal) ℓ) : Prop :=
  ∀ c : Dev Cert.GatesIdeal.nD,
    (Cert.Pre_finite_logits.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
      ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4)
      ∧ r.2.mem ((c.tc : Thread Cert.ResidualIdeal.nD Cert.ResidualIdeal.τ).loc Cert.ResidualIdeal.main_arg5) = m ((c.tc : Thread Cert.ResidualIdeal.nD Cert.ResidualIdeal.τ).loc Cert.ResidualIdeal.main_arg5)
      ∧ r.2.mem ((c.tc : Thread Cert.ResidualIdeal.nD Cert.ResidualIdeal.τ).loc Cert.ResidualIdeal.main_arg6) = m ((c.tc : Thread Cert.ResidualIdeal.nD Cert.ResidualIdeal.τ).loc Cert.ResidualIdeal.main_arg6)
      ∧ r.2.mem ((c.tc : Thread Cert.ResidualIdeal.nD Cert.ResidualIdeal.τ).loc Cert.ResidualIdeal.main_arg7) = m ((c.tc : Thread Cert.ResidualIdeal.nD Cert.ResidualIdeal.τ).loc Cert.ResidualIdeal.main_arg7)
      ∧ r.2.mem ((c.tc : Thread Cert.ResidualIdeal.nD Cert.ResidualIdeal.τ).loc Cert.ResidualIdeal.main_arg8) = m ((c.tc : Thread Cert.ResidualIdeal.nD Cert.ResidualIdeal.τ).loc Cert.ResidualIdeal.main_arg8)
      ∧ r.2.mem ((c.tc : Thread Cert.ResidualIdeal.nD Cert.ResidualIdeal.τ).loc Cert.ResidualIdeal.main_arg9) = m ((c.tc : Thread Cert.ResidualIdeal.nD Cert.ResidualIdeal.τ).loc Cert.ResidualIdeal.main_arg9)
      ∧ r.2.mem ((c.tc : Thread Cert.ResidualIdeal.nD Cert.ResidualIdeal.τ).loc Cert.ResidualIdeal.main_arg10) = m ((c.tc : Thread Cert.ResidualIdeal.nD Cert.ResidualIdeal.τ).loc Cert.ResidualIdeal.main_arg10)
      ∧ r.2.mem ((c.tc : Thread Cert.ResidualIdeal.nD Cert.ResidualIdeal.τ).loc Cert.ResidualIdeal.main_arg11) = m ((c.tc : Thread Cert.ResidualIdeal.nD Cert.ResidualIdeal.τ).loc Cert.ResidualIdeal.main_arg11))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetIdeal_pre_finite_logits [hForgetIdeal : Cert.ForgetIdeal.Facts] [hPre_finite_logits : Cert.Pre_finite_logits.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal_finite_logits m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesIdeal_pre_finite_logits [hGatesIdeal : Cert.GatesIdeal.Facts] [hPre_finite_logits : Cert.Pre_finite_logits.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_finite_logits m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Inproj_InprojIdeal : Prop :=
  IdealRules.named_const.Statement Cert.InprojIdeal.κ "prescale" .f32 0x3E0293EE#32 (((Real.sqrt 128)⁻¹ * (Real.log 2)⁻¹ : ℝ) : EReal)

def algebraic_InprojIdeal_ProjectionsIdeal [hInprojIdeal : Cert.InprojIdeal.Facts] [hProjectionsIdeal : Cert.ProjectionsIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.ProjectionsIdeal.nD Cert.ProjectionsIdeal.τ Cert.ProjectionsIdeal.sig) → Buf (Elt Ideal) ℓ) (g' : Dev Cert.ProjectionsIdeal.nD → PrngReg), Pre_InprojIdeal m →
    (∀ c : Dev Cert.InprojIdeal.nD,
      m' ((c.tc : Thread Cert.ProjectionsIdeal.nD Cert.ProjectionsIdeal.τ).loc Cert.ProjectionsIdeal.main_arg0) = m ((c.tc : Thread Cert.InprojIdeal.nD Cert.InprojIdeal.τ).loc Cert.InprojIdeal.main_arg0)
      ∧ m' ((c.tc : Thread Cert.ProjectionsIdeal.nD Cert.ProjectionsIdeal.τ).loc Cert.ProjectionsIdeal.main_arg1) = m ((c.tc : Thread Cert.InprojIdeal.nD Cert.InprojIdeal.τ).loc Cert.InprojIdeal.main_arg1)
      ∧ m' ((c.tc : Thread Cert.ProjectionsIdeal.nD Cert.ProjectionsIdeal.τ).loc Cert.ProjectionsIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v8_0)) (v1 : (c : Dev Cert.InprojIdeal.nD) → Buf (Elt Ideal) ((c.tc : Thread Cert.InprojIdeal.nD Cert.InprojIdeal.τ).loc Cert.InprojIdeal.main_v8_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v8_0) = v0 c
          ∧ r.2.mem ((c.tc : Thread Cert.InprojIdeal.nD Cert.InprojIdeal.τ).loc Cert.InprojIdeal.main_v8_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.ProjectionsIdeal.defs (F := Ideal)) (onTc (τ := Cert.ProjectionsIdeal.τ) (Cert.ProjectionsIdeal.main (F := Ideal))) ⟨m', fun _ => 0, g'⟩ (fun r => ∀ c : Dev Cert.ProjectionsIdeal.nD,
          r.2.mem ((c.tc : Thread Cert.ProjectionsIdeal.nD Cert.ProjectionsIdeal.τ).loc Cert.ProjectionsIdeal.main_v26) = v0 c
          ∧ r.2.mem ((c.tc : Thread Cert.ProjectionsIdeal.nD Cert.ProjectionsIdeal.τ).loc Cert.ProjectionsIdeal.main_v25) = v1 c
          ∧ r.2.mem ((c.tc : Thread Cert.ProjectionsIdeal.nD Cert.ProjectionsIdeal.τ).loc Cert.ProjectionsIdeal.main_arg0) = m' ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m' ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m' ((c.tc : Thread Cert.ProjectionsIdeal.nD Cert.ProjectionsIdeal.τ).loc Cert.ProjectionsIdeal.main_arg2))

def preserves_Merge_MergeIdeal : Prop :=
  IdealRules.bf16_pair.BufferStatement Cert.MergeIdeal.S131072x2x128 Cert.MergeIdeal.S131072x1x128
  ∧ IdealRules.bf16_pair.BufferStatement Cert.MergeIdeal.S2048x2x128 Cert.MergeIdeal.S2048x1x128
  ∧ IdealRules.bf16_pair.Statement Cert.MergeIdeal.S512x2x128 Cert.MergeIdeal.S512x1x128
  ∧ IdealRules.bf16_pack.Statement Cert.MergeIdeal.S512x128

def algebraic_MergeIdeal_ResidualIdeal [hMergeIdeal : Cert.MergeIdeal.Facts] [hResidualIdeal : Cert.ResidualIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.ResidualIdeal.nD Cert.ResidualIdeal.τ Cert.ResidualIdeal.sig) → Buf (Elt Ideal) ℓ) (g' : Dev Cert.ResidualIdeal.nD → PrngReg), Pre_MergeIdeal m →
    (∀ c : Dev Cert.MergeIdeal.nD,
      m' ((c.tc : Thread Cert.ResidualIdeal.nD Cert.ResidualIdeal.τ).loc Cert.ResidualIdeal.main_arg0) = m ((c.tc : Thread Cert.MergeIdeal.nD Cert.MergeIdeal.τ).loc Cert.MergeIdeal.main_arg0)
      ∧ m' ((c.tc : Thread Cert.ResidualIdeal.nD Cert.ResidualIdeal.τ).loc Cert.ResidualIdeal.main_arg1) = m ((c.tc : Thread Cert.MergeIdeal.nD Cert.MergeIdeal.τ).loc Cert.MergeIdeal.main_arg1)
      ∧ m' ((c.tc : Thread Cert.ResidualIdeal.nD Cert.ResidualIdeal.τ).loc Cert.ResidualIdeal.main_arg2) = m ((c.tc : Thread Cert.MergeIdeal.nD Cert.MergeIdeal.τ).loc Cert.MergeIdeal.main_arg2)
      ∧ m' ((c.tc : Thread Cert.ResidualIdeal.nD Cert.ResidualIdeal.τ).loc Cert.ResidualIdeal.main_arg3) = m ((c.tc : Thread Cert.MergeIdeal.nD Cert.MergeIdeal.τ).loc Cert.MergeIdeal.main_arg3)
      ∧ m' ((c.tc : Thread Cert.ResidualIdeal.nD Cert.ResidualIdeal.τ).loc Cert.ResidualIdeal.main_arg4) = m ((c.tc : Thread Cert.MergeIdeal.nD Cert.MergeIdeal.τ).loc Cert.MergeIdeal.main_arg4)
      ∧ m' ((c.tc : Thread Cert.ResidualIdeal.nD Cert.ResidualIdeal.τ).loc Cert.ResidualIdeal.main_arg5) = m ((c.tc : Thread Cert.MergeIdeal.nD Cert.MergeIdeal.τ).loc Cert.MergeIdeal.main_arg5)
      ∧ m' ((c.tc : Thread Cert.ResidualIdeal.nD Cert.ResidualIdeal.τ).loc Cert.ResidualIdeal.main_arg6) = m ((c.tc : Thread Cert.MergeIdeal.nD Cert.MergeIdeal.τ).loc Cert.MergeIdeal.main_arg6)
      ∧ m' ((c.tc : Thread Cert.ResidualIdeal.nD Cert.ResidualIdeal.τ).loc Cert.ResidualIdeal.main_arg7) = m ((c.tc : Thread Cert.MergeIdeal.nD Cert.MergeIdeal.τ).loc Cert.MergeIdeal.main_arg7)
      ∧ m' ((c.tc : Thread Cert.ResidualIdeal.nD Cert.ResidualIdeal.τ).loc Cert.ResidualIdeal.main_arg8) = m ((c.tc : Thread Cert.MergeIdeal.nD Cert.MergeIdeal.τ).loc Cert.MergeIdeal.main_arg8)
      ∧ m' ((c.tc : Thread Cert.ResidualIdeal.nD Cert.ResidualIdeal.τ).loc Cert.ResidualIdeal.main_arg9) = m ((c.tc : Thread Cert.MergeIdeal.nD Cert.MergeIdeal.τ).loc Cert.MergeIdeal.main_arg9)
      ∧ m' ((c.tc : Thread Cert.ResidualIdeal.nD Cert.ResidualIdeal.τ).loc Cert.ResidualIdeal.main_arg10) = m ((c.tc : Thread Cert.MergeIdeal.nD Cert.MergeIdeal.τ).loc Cert.MergeIdeal.main_arg10)
      ∧ m' ((c.tc : Thread Cert.ResidualIdeal.nD Cert.ResidualIdeal.τ).loc Cert.ResidualIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v11_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.ResidualIdeal.defs (F := Ideal)) (onTc (τ := Cert.ResidualIdeal.τ) (Cert.ResidualIdeal.main (F := Ideal))) ⟨m', fun _ => 0, g'⟩ (fun r => ∀ c : Dev Cert.ResidualIdeal.nD,
          r.2.mem ((c.tc : Thread Cert.ResidualIdeal.nD Cert.ResidualIdeal.τ).loc Cert.ResidualIdeal.main_v24) = v0 c
          ∧ r.2.mem ((c.tc : Thread Cert.ResidualIdeal.nD Cert.ResidualIdeal.τ).loc Cert.ResidualIdeal.main_arg0) = m' ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m' ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m' ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m' ((c.tc : Thread Cert.ResidualIdeal.nD Cert.ResidualIdeal.τ).loc Cert.ResidualIdeal.main_arg3)
          ∧ r.2.mem ((c.tc : Thread Cert.ResidualIdeal.nD Cert.ResidualIdeal.τ).loc Cert.ResidualIdeal.main_arg4) = m' ((c.tc : Thread Cert.ResidualIdeal.nD Cert.ResidualIdeal.τ).loc Cert.ResidualIdeal.main_arg4)
          ∧ r.2.mem ((c.tc : Thread Cert.ResidualIdeal.nD Cert.ResidualIdeal.τ).loc Cert.ResidualIdeal.main_arg5) = m' ((c.tc : Thread Cert.ResidualIdeal.nD Cert.ResidualIdeal.τ).loc Cert.ResidualIdeal.main_arg5)
          ∧ r.2.mem ((c.tc : Thread Cert.ResidualIdeal.nD Cert.ResidualIdeal.τ).loc Cert.ResidualIdeal.main_arg6) = m' ((c.tc : Thread Cert.ResidualIdeal.nD Cert.ResidualIdeal.τ).loc Cert.ResidualIdeal.main_arg6)
          ∧ r.2.mem ((c.tc : Thread Cert.ResidualIdeal.nD Cert.ResidualIdeal.τ).loc Cert.ResidualIdeal.main_arg7) = m' ((c.tc : Thread Cert.ResidualIdeal.nD Cert.ResidualIdeal.τ).loc Cert.ResidualIdeal.main_arg7)
          ∧ r.2.mem ((c.tc : Thread Cert.ResidualIdeal.nD Cert.ResidualIdeal.τ).loc Cert.ResidualIdeal.main_arg8) = m' ((c.tc : Thread Cert.ResidualIdeal.nD Cert.ResidualIdeal.τ).loc Cert.ResidualIdeal.main_arg8)
          ∧ r.2.mem ((c.tc : Thread Cert.ResidualIdeal.nD Cert.ResidualIdeal.τ).loc Cert.ResidualIdeal.main_arg9) = m' ((c.tc : Thread Cert.ResidualIdeal.nD Cert.ResidualIdeal.τ).loc Cert.ResidualIdeal.main_arg9)
          ∧ r.2.mem ((c.tc : Thread Cert.ResidualIdeal.nD Cert.ResidualIdeal.τ).loc Cert.ResidualIdeal.main_arg10) = m' ((c.tc : Thread Cert.ResidualIdeal.nD Cert.ResidualIdeal.τ).loc Cert.ResidualIdeal.main_arg10)
          ∧ r.2.mem ((c.tc : Thread Cert.ResidualIdeal.nD Cert.ResidualIdeal.τ).loc Cert.ResidualIdeal.main_arg11) = m' ((c.tc : Thread Cert.ResidualIdeal.nD Cert.ResidualIdeal.τ).loc Cert.ResidualIdeal.main_arg11))

def preserves_Forget_ForgetIdeal : Prop :=
  IdealRules.named_const.Statement Cert.ForgetIdeal.κ "log2e" .f32 0x3FB8AA3B#32 (((Real.log 2)⁻¹ : ℝ) : EReal)

def algebraic_ForgetIdeal_GatesIdeal_pre_finite_logits [hForgetIdeal : Cert.ForgetIdeal.Facts] [hGatesIdeal : Cert.GatesIdeal.Facts] [hPre_finite_logits : Cert.Pre_finite_logits.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.GatesIdeal.nD Cert.GatesIdeal.τ Cert.GatesIdeal.sig) → Buf (Elt Ideal) ℓ) (g' : Dev Cert.GatesIdeal.nD → PrngReg), Pre_ForgetIdeal_finite_logits m →
    (∀ c : Dev Cert.ForgetIdeal.nD,
      m' ((c.tc : Thread Cert.GatesIdeal.nD Cert.GatesIdeal.τ).loc Cert.GatesIdeal.main_arg0) = m ((c.tc : Thread Cert.ForgetIdeal.nD Cert.ForgetIdeal.τ).loc Cert.ForgetIdeal.main_arg0)
      ∧ m' ((c.tc : Thread Cert.GatesIdeal.nD Cert.GatesIdeal.τ).loc Cert.GatesIdeal.main_arg1) = m ((c.tc : Thread Cert.ForgetIdeal.nD Cert.ForgetIdeal.τ).loc Cert.ForgetIdeal.main_arg1)) →
    ∃ (v0 : (c : Dev Cert.ForgetIdeal.nD) → Buf (Elt Ideal) ((c.tc : Thread Cert.ForgetIdeal.nD Cert.ForgetIdeal.τ).loc Cert.ForgetIdeal.main_v2)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v2) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ θ_run (Cert.GatesIdeal.defs (F := Ideal)) (onTc (τ := Cert.GatesIdeal.τ) (Cert.GatesIdeal.main (F := Ideal))) ⟨m', fun _ => 0, g'⟩ (fun r => ∀ c : Dev Cert.GatesIdeal.nD,
          r.2.mem ((c.tc : Thread Cert.GatesIdeal.nD Cert.GatesIdeal.τ).loc Cert.GatesIdeal.main_v12) = v0 c
          ∧ r.2.mem ((c.tc : Thread Cert.GatesIdeal.nD Cert.GatesIdeal.τ).loc Cert.GatesIdeal.main_arg0) = m' ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m' ((c.tc : Thread Cert.GatesIdeal.nD Cert.GatesIdeal.τ).loc Cert.GatesIdeal.main_arg1))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hProjectionsIdeal : Cert.ProjectionsIdeal.Facts) (hMerge : Cert.Merge.Facts) (hMergeIdeal : Cert.MergeIdeal.Facts) (hResidualIdeal : Cert.ResidualIdeal.Facts) (hForget : Cert.Forget.Facts) (hForgetIdeal : Cert.ForgetIdeal.Facts) (hGatesIdeal : Cert.GatesIdeal.Facts) (hPre_finite : Cert.Pre_finite.Facts) (hPre_finite_logits : Cert.Pre_finite_logits.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_ProjectionsIdeal (hProjectionsIdeal := hProjectionsIdeal)
    ∧ quiescent_Merge (hMerge := hMerge)
    ∧ quiescent_MergeIdeal (hMergeIdeal := hMergeIdeal)
    ∧ quiescent_ResidualIdeal (hResidualIdeal := hResidualIdeal)
    ∧ quiescent_Forget (hForget := hForget)
    ∧ quiescent_ForgetIdeal (hForgetIdeal := hForgetIdeal)
    ∧ quiescent_ForgetIdeal_pre_finite_logits (hForgetIdeal := hForgetIdeal) (hPre_finite_logits := hPre_finite_logits)
    ∧ quiescent_GatesIdeal (hGatesIdeal := hGatesIdeal)
    ∧ quiescent_GatesIdeal_pre_finite_logits (hGatesIdeal := hGatesIdeal) (hPre_finite_logits := hPre_finite_logits)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_ProjectionsIdeal (hInprojIdeal := hInprojIdeal) (hProjectionsIdeal := hProjectionsIdeal)
    ∧ preserves_Merge_MergeIdeal
    ∧ algebraic_MergeIdeal_ResidualIdeal (hMergeIdeal := hMergeIdeal) (hResidualIdeal := hResidualIdeal)
    ∧ preserves_Forget_ForgetIdeal
    ∧ algebraic_ForgetIdeal_GatesIdeal_pre_finite_logits (hForgetIdeal := hForgetIdeal) (hGatesIdeal := hGatesIdeal) (hPre_finite_logits := hPre_finite_logits)
-- ==== Pre_finite.lean ====
abbrev S32768x7168 : Shape := ⟨2, ![32768, 7168]⟩
abbrev S32768x128 : Shape := ⟨2, ![32768, 128]⟩
abbrev S32768x2048 : Shape := ⟨2, ![32768, 2048]⟩
abbrev S_ : Shape := ⟨0, ![]⟩
abbrev S32768x24 : Shape := ⟨2, ![32768, 24]⟩

class Facts : Prop where
  slices_S32768x7168_S32768x2048_0_2048 : S32768x7168.Slices ![0, 2048] S32768x2048
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  slices_S32768x128_S32768x24_0_0 : S32768x128.Slices ![0, 0] S32768x24
  bcast_S_S32768x24 : S_.BroadcastsInDim S32768x24 (![] : Fin 0 → Fin S32768x24.rank)
  reducesTo_S32768x24_S_d0_1 : S32768x24.ReducesTo [0, 1] S_

variable [Facts]

def fn {F : FTy → Type} [FloatOps F] (main_arg0 : FVec F S32768x7168 .bf16) (main_arg1 : FVec F S32768x128 .bf16) : IVec S_ 1 :=
  let main_v0 : FVec F S32768x2048 .bf16 := (extractStridedSlice S32768x2048 ![0, 2048] · slices_S32768x7168_S32768x2048_0_2048) main_arg0
  let main_v1 : FVec F S32768x2048 .f32 := (extf .f32 · bitsLt_bf16_f32) main_v0
  let main_v2 : FVec F S32768x2048 .f32 := Host.absf main_v1
  let main_cst : FVec F S_ .f32 := constant S_ .f32 0x7F800000#32
  let main_v3 : FVec F S32768x2048 .f32 := broadcastInDim S32768x2048 ![] bcast_S_S32768x2048 main_cst
  let main_v4 : IVec S32768x2048 1 := cmpf .olt main_v2 main_v3
  let main_c : IVec S_ 1 := constantI S_ 1 1#1
  let main_v5 : IVec S_ 1 := (fun x v => Host.reduce IntOp.andi x v reducesTo_S32768x2048_S_d0_1 h_S_) main_v4 main_c
  let main_v6 : FVec F S32768x24 .bf16 := (extractStridedSlice S32768x24 ![0, 0] · slices_S32768x128_S32768x24_0_0) main_arg1
  let main_v7 : FVec F S32768x24 .f32 := (extf .f32 · bitsLt_bf16_f32) main_v6
  let main_v8 : FVec F S32768x24 .f32 := Host.absf main_v7
  let main_cst_0 : FVec F S_ .f32 := constant S_ .f32 0x7F800000#32
  let main_v9 : FVec F S32768x24 .f32 := broadcastInDim S32768x24 ![] bcast_S_S32768x24 main_cst_0
  let main_v10 : IVec S32768x24 1 := cmpf .olt main_v8 main_v9
  let main_c_1 : IVec S_ 1 := constantI S_ 1 1#1
  let main_v11 : IVec S_ 1 := (fun x v => Host.reduce IntOp.andi x v reducesTo_S32768x24_S_d0_1 h_S_) main_v10 main_c_1
  let main_v12 : IVec S_ 1 := andi main_v5 main_v11
  main_v12
-- ==== Pre_finite_logits.lean ====
abbrev S32768x128 : Shape := ⟨2, ![32768, 128]⟩
abbrev S8 : Shape := ⟨1, ![8]⟩
abbrev S32768x8 : Shape := ⟨2, ![32768, 8]⟩
abbrev S_ : Shape := ⟨0, ![]⟩

class Facts : Prop where
  slices_S32768x128_S32768x8_0_0 : S32768x128.Slices ![0, 0] S32768x8
  bcast_S_S32768x8 : S_.BroadcastsInDim S32768x8 (![] : Fin 0 → Fin S32768x8.rank)
  reducesTo_S32768x8_S_d0_1 : S32768x8.ReducesTo [0, 1] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S32768x128 .f32) (main_arg1 : FVec F S8 .f32) : IVec S_ 1 :=
  let main_v0 : FVec F S32768x8 .f32 := (extractStridedSlice S32768x8 ![0, 0] · slices_S32768x128_S32768x8_0_0) main_arg0
  let main_v1 : FVec F S32768x8 .f32 := Host.absf main_v0
  let main_cst : FVec F S_ .f32 := constant S_ .f32 0x7F800000#32
  let main_v2 : FVec F S32768x8 .f32 := broadcastInDim S32768x8 ![] bcast_S_S32768x8 main_cst
  let main_v3 : IVec S32768x8 1 := cmpf .olt main_v1 main_v2
  let main_c : IVec S_ 1 := constantI S_ 1 1#1
  let main_v4 : IVec S_ 1 := (fun x v => Host.reduce IntOp.andi x v reducesTo_S32768x8_S_d0_1 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== Kernel.lean ====
abbrev S32768x7168 : Shape := ⟨2, ![32768, 7168]⟩
abbrev S32768x128 : Shape := ⟨2, ![32768, 128]⟩
abbrev S32768x1024 : Shape := ⟨2, ![32768, 1024]⟩
abbrev S512x512 : Shape := ⟨2, ![512, 512]⟩
abbrev S4096x512 : Shape := ⟨2, ![4096, 512]⟩
abbrev S4096x128 : Shape := ⟨2, ![4096, 128]⟩
abbrev S512x128 : Shape := ⟨2, ![512, 128]⟩
abbrev S512x256 : Shape := ⟨2, ![512, 256]⟩
abbrev S512x1 : Shape := ⟨2, ![512, 1]⟩
abbrev S1024x256 : Shape := ⟨2, ![1024, 256]⟩
abbrev S1024x128 : Shape := ⟨2, ![1024, 128]⟩
abbrev S512x1024 : Shape := ⟨2, ![512, 1024]⟩
abbrev S512 : Shape := ⟨1, ![512]⟩

abbrev nBuf : Space → Nat
  | .hbm => 3
  | .vmem => 10
  | .smem => 0
  | _ => 0

abbrev bufTy : (tb : Table) → Fin (tcTables nBuf tb) → BufTy
  | .hbm, ⟨0, _⟩ => ⟨S32768x7168, .bf16⟩
  | .hbm, ⟨1, _⟩ => ⟨S32768x128, .bf16⟩
  | .hbm, ⟨2, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x128, .bf16⟩
  | .local _ .vmem, ⟨7, _⟩ => ⟨S4096x128, .bf16⟩
  | .local _ .vmem, ⟨8, _⟩ => ⟨S512x512, .bf16⟩
  | .local _ .vmem, ⟨9, _⟩ => ⟨S512x512, .bf16⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

@[reducible] def k0_t1_loop (i : grid0.Coords) : Scf.Loop 32 :=
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_41 : BitVec 32 := 1#32
  ⟨c0_i32_39, v94, c1_i32_41⟩
def k0_mult1 (i : grid0.Coords) (k0_t1 : Fin (k0_t1_loop i).trips) : BitVec 32 :=
  let c2_i32_59 : BitVec 32 := 2#32
  let c0_i32_39 : BitVec 32 := 0#32
  let c1_i32_41 : BitVec 32 := 1#32
  let arg8 : BitVec 32 := Scf.iv c0_i32_39 c1_i32_41 k0_t1
  let v127 : BitVec 32 := Scalar.muli c2_i32_59 arg8
  let c512_i32 : BitVec 32 := 512#32
  let v130 : BitVec 32 := Scalar.muli v127 c512_i32
  v130
def k0_mult2 (i : grid0.Coords) (k0_t1 : Fin (k0_t1_loop i).trips) : BitVec 32 :=
  let c2_i32_60 : BitVec 32 := 2#32
  let c0_i32_39 : BitVec 32 := 0#32
  let c1_i32_41 : BitVec 32 := 1#32
  let arg8 : BitVec 32 := Scf.iv c0_i32_39 c1_i32_41 k0_t1
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  v132
def k0_off1 (i : grid0.Coords) (k0_t1 : Fin (k0_t1_loop i).trips) : Fin 2 → Nat :=
  let c2_i32_59 : BitVec 32 := 2#32
  let c0_i32_39 : BitVec 32 := 0#32
  let c1_i32_41 : BitVec 32 := 1#32
  let arg8 : BitVec 32 := Scf.iv c0_i32_39 c1_i32_41 k0_t1
  let v127 : BitVec 32 := Scalar.muli c2_i32_59 arg8
  let c512_i32 : BitVec 32 := 512#32
  let v130 : BitVec 32 := Scalar.muli v127 c512_i32
  let v131 : BitVec 32 := v130
  let v134 : Index := Scalar.indexCast v131
  let c0_63 : Index := 0#32
  ![v134.toNat, 0]
def k0_off2 (i : grid0.Coords) (k0_t1 : Fin (k0_t1_loop i).trips) : Fin 2 → Nat :=
  let c2_i32_59 : BitVec 32 := 2#32
  let c0_i32_39 : BitVec 32 := 0#32
  let c1_i32_41 : BitVec 32 := 1#32
  let arg8 : BitVec 32 := Scf.iv c0_i32_39 c1_i32_41 k0_t1
  let v127 : BitVec 32 := Scalar.muli c2_i32_59 arg8
  let c512_i32 : BitVec 32 := 512#32
  let v130 : BitVec 32 := Scalar.muli v127 c512_i32
  let v131 : BitVec 32 := v130
  let v136 : Index := Scalar.indexCast v131
  let c0_64 : Index := 0#32
  ![v136.toNat, 0]
def k0_off3 (i : grid0.Coords) (k0_t1 : Fin (k0_t1_loop i).trips) : Fin 2 → Nat :=
  let c2_i32_60 : BitVec 32 := 2#32
  let c0_i32_39 : BitVec 32 := 0#32
  let c1_i32_41 : BitVec 32 := 1#32
  let arg8 : BitVec 32 := Scf.iv c0_i32_39 c1_i32_41 k0_t1
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v139 : Index := Scalar.indexCast v133
  let c0_65 : Index := 0#32
  ![v139.toNat, 0]
def k0_off4 (i : grid0.Coords) (k0_t1 : Fin (k0_t1_loop i).trips) : Fin 2 → Nat :=
  let c2_i32_60 : BitVec 32 := 2#32
  let c0_i32_39 : BitVec 32 := 0#32
  let c1_i32_41 : BitVec 32 := 1#32
  let arg8 : BitVec 32 := Scf.iv c0_i32_39 c1_i32_41 k0_t1
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v141 : Index := Scalar.indexCast v133
  let c0_66 : Index := 0#32
  ![v141.toNat, 0]
def k0_off5 (i : grid0.Coords) (k0_t1 : Fin (k0_t1_loop i).trips) : Fin 2 → Nat :=
  let c2_i32_59 : BitVec 32 := 2#32
  let c0_i32_39 : BitVec 32 := 0#32
  let c1_i32_41 : BitVec 32 := 1#32
  let arg8 : BitVec 32 := Scf.iv c0_i32_39 c1_i32_41 k0_t1
  let v127 : BitVec 32 := Scalar.muli c2_i32_59 arg8
  let c512_i32 : BitVec 32 := 512#32
  let v130 : BitVec 32 := Scalar.muli v127 c512_i32
  let v131 : BitVec 32 := v130
  let v168 : Index := Scalar.indexCast v131
  let c128_73 : Index := 128#32
  ![v168.toNat, 128]
def k0_off6 (i : grid0.Coords) (k0_t1 : Fin (k0_t1_loop i).trips) : Fin 2 → Nat :=
  let c2_i32_60 : BitVec 32 := 2#32
  let c0_i32_39 : BitVec 32 := 0#32
  let c1_i32_41 : BitVec 32 := 1#32
  let arg8 : BitVec 32 := Scf.iv c0_i32_39 c1_i32_41 k0_t1
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v173 : Index := Scalar.indexCast v133
  let c128_75 : Index := 128#32
  ![v173.toNat, 128]
def k0_off7 (i : grid0.Coords) (k0_t1 : Fin (k0_t1_loop i).trips) : Fin 2 → Nat :=
  let c2_i32_59 : BitVec 32 := 2#32
  let c0_i32_39 : BitVec 32 := 0#32
  let c1_i32_41 : BitVec 32 := 1#32
  let arg8 : BitVec 32 := Scf.iv c0_i32_39 c1_i32_41 k0_t1
  let v127 : BitVec 32 := Scalar.muli c2_i32_59 arg8
  let c512_i32 : BitVec 32 := 512#32
  let v130 : BitVec 32 := Scalar.muli v127 c512_i32
  let v131 : BitVec 32 := v130
  let v202 : Index := Scalar.indexCast v131
  let c256_83 : Index := 256#32
  ![v202.toNat, 256]
def k0_off8 (i : grid0.Coords) (k0_t1 : Fin (k0_t1_loop i).trips) : Fin 2 → Nat :=
  let c2_i32_60 : BitVec 32 := 2#32
  let c0_i32_39 : BitVec 32 := 0#32
  let c1_i32_41 : BitVec 32 := 1#32
  let arg8 : BitVec 32 := Scf.iv c0_i32_39 c1_i32_41 k0_t1
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v207 : Index := Scalar.indexCast v133
  let c256_85 : Index := 256#32
  ![v207.toNat, 256]
def k0_off9 (i : grid0.Coords) (k0_t1 : Fin (k0_t1_loop i).trips) : Fin 2 → Nat :=
  let c2_i32_59 : BitVec 32 := 2#32
  let c0_i32_39 : BitVec 32 := 0#32
  let c1_i32_41 : BitVec 32 := 1#32
  let arg8 : BitVec 32 := Scf.iv c0_i32_39 c1_i32_41 k0_t1
  let v127 : BitVec 32 := Scalar.muli c2_i32_59 arg8
  let c512_i32 : BitVec 32 := 512#32
  let v130 : BitVec 32 := Scalar.muli v127 c512_i32
  let v131 : BitVec 32 := v130
  let v236 : Index := Scalar.indexCast v131
  let c384_93 : Index := 384#32
  ![v236.toNat, 384]
def k0_off10 (i : grid0.Coords) (k0_t1 : Fin (k0_t1_loop i).trips) : Fin 2 → Nat :=
  let c2_i32_60 : BitVec 32 := 2#32
  let c0_i32_39 : BitVec 32 := 0#32
  let c1_i32_41 : BitVec 32 := 1#32
  let arg8 : BitVec 32 := Scf.iv c0_i32_39 c1_i32_41 k0_t1
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v241 : Index := Scalar.indexCast v133
  let c384_95 : Index := 384#32
  ![v241.toNat, 384]
@[reducible] def k0_t2_loop (i : grid0.Coords) : Scf.Loop 32 :=
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let v91 : BitVec 32 := Scalar.addi c0_i32_39 v90
  let c1_i32_42 : BitVec 32 := 1#32
  ⟨v94, v91, c1_i32_42⟩
def k0_mult3 (i : grid0.Coords) (k0_t2 : Fin (k0_t2_loop i).trips) : BitVec 32 :=
  let c2_i32_59 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v127 : BitVec 32 := Scalar.muli c2_i32_59 arg8
  let c512_i32 : BitVec 32 := 512#32
  let v130 : BitVec 32 := Scalar.muli v127 c512_i32
  v130
def k0_mult4 (i : grid0.Coords) (k0_t2 : Fin (k0_t2_loop i).trips) : BitVec 32 :=
  let c2_i32_60 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  v132
def k0_off11 (i : grid0.Coords) (k0_t2 : Fin (k0_t2_loop i).trips) : Fin 2 → Nat :=
  let c2_i32_59 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v127 : BitVec 32 := Scalar.muli c2_i32_59 arg8
  let c512_i32 : BitVec 32 := 512#32
  let v130 : BitVec 32 := Scalar.muli v127 c512_i32
  let v131 : BitVec 32 := v130
  let v134 : Index := Scalar.indexCast v131
  let c0_63 : Index := 0#32
  ![v134.toNat, 0]
def k0_off12 (i : grid0.Coords) (k0_t2 : Fin (k0_t2_loop i).trips) : Fin 2 → Nat :=
  let c2_i32_59 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v127 : BitVec 32 := Scalar.muli c2_i32_59 arg8
  let c512_i32 : BitVec 32 := 512#32
  let v130 : BitVec 32 := Scalar.muli v127 c512_i32
  let v131 : BitVec 32 := v130
  let v136 : Index := Scalar.indexCast v131
  let c0_64 : Index := 0#32
  ![v136.toNat, 0]
def k0_off13 (i : grid0.Coords) (k0_t2 : Fin (k0_t2_loop i).trips) : Fin 2 → Nat :=
  let c2_i32_60 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v139 : Index := Scalar.indexCast v133
  let c0_65 : Index := 0#32
  ![v139.toNat, 0]
def k0_off14 (i : grid0.Coords) (k0_t2 : Fin (k0_t2_loop i).trips) : Fin 2 → Nat :=
  let c2_i32_60 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v141 : Index := Scalar.indexCast v133
  let c0_66 : Index := 0#32
  ![v141.toNat, 0]
def k0_off15 (i : grid0.Coords) (k0_t2 : Fin (k0_t2_loop i).trips) : Fin 2 → Nat :=
  let c2_i32_59 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v127 : BitVec 32 := Scalar.muli c2_i32_59 arg8
  let c512_i32 : BitVec 32 := 512#32
  let v130 : BitVec 32 := Scalar.muli v127 c512_i32
  let v131 : BitVec 32 := v130
  let v168 : Index := Scalar.indexCast v131
  let c128_73 : Index := 128#32
  ![v168.toNat, 128]
def k0_off16 (i : grid0.Coords) (k0_t2 : Fin (k0_t2_loop i).trips) : Fin 2 → Nat :=
  let c2_i32_60 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v173 : Index := Scalar.indexCast v133
  let c128_75 : Index := 128#32
  ![v173.toNat, 128]
def k0_off17 (i : grid0.Coords) (k0_t2 : Fin (k0_t2_loop i).trips) : Fin 2 → Nat :=
  let c2_i32_59 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v127 : BitVec 32 := Scalar.muli c2_i32_59 arg8
  let c512_i32 : BitVec 32 := 512#32
  let v130 : BitVec 32 := Scalar.muli v127 c512_i32
  let v131 : BitVec 32 := v130
  let v202 : Index := Scalar.indexCast v131
  let c256_83 : Index := 256#32
  ![v202.toNat, 256]
def k0_off18 (i : grid0.Coords) (k0_t2 : Fin (k0_t2_loop i).trips) : Fin 2 → Nat :=
  let c2_i32_60 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v207 : Index := Scalar.indexCast v133
  let c256_85 : Index := 256#32
  ![v207.toNat, 256]
def k0_off19 (i : grid0.Coords) (k0_t2 : Fin (k0_t2_loop i).trips) : Fin 2 → Nat :=
  let c2_i32_59 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v127 : BitVec 32 := Scalar.muli c2_i32_59 arg8
  let c512_i32 : BitVec 32 := 512#32
  let v130 : BitVec 32 := Scalar.muli v127 c512_i32
  let v131 : BitVec 32 := v130
  let v236 : Index := Scalar.indexCast v131
  let c384_93 : Index := 384#32
  ![v236.toNat, 384]
def k0_off20 (i : grid0.Coords) (k0_t2 : Fin (k0_t2_loop i).trips) : Fin 2 → Nat :=
  let c2_i32_60 : BitVec 32 := 2#32
  let c0_i32_39 : BitVec 32 := 0#32
  let arg2 : BitVec 32 := BitVec.ofNat 32 (i 2).val
  let c0_i32_33 : BitVec 32 := 0#32
  let v74 : BitVec 1 := Scalar.cmpi .sgt arg2 c0_i32_33
  let v75 : BitVec 32 := Scalar.extui v74
  let c0_i32_34 : BitVec 32 := 0#32
  let v76 : BitVec 1 := Scalar.cmpi .slt arg2 c0_i32_34
  let v77 : BitVec 32 := Scalar.extui v76
  let v78 : BitVec 32 := Scalar.subi v75 v77
  let c2_i32_32 : BitVec 32 := 2#32
  let c0_i32_35 : BitVec 32 := 0#32
  let v79 : BitVec 1 := Scalar.cmpi .sgt c2_i32_32 c0_i32_35
  let v80 : BitVec 32 := Scalar.extui v79
  let c0_i32_36 : BitVec 32 := 0#32
  let v81 : BitVec 1 := Scalar.cmpi .slt c2_i32_32 c0_i32_36
  let v82 : BitVec 32 := Scalar.extui v81
  let v83 : BitVec 32 := Scalar.subi v80 v82
  let v84 : BitVec 1 := Scalar.cmpi .ne v78 v83
  let v85 : BitVec 32 := Scalar.remsi arg2 c2_i32_32
  let c0_i32_37 : BitVec 32 := 0#32
  let v86 : BitVec 1 := Scalar.cmpi .ne v85 c0_i32_37
  let v87 : BitVec 1 := Scalar.andi v84 v86
  let v73 : BitVec 32 := Scalar.divsi arg2 c2_i32_32
  let c1_i32_38 : BitVec 32 := 1#32
  let v88 : BitVec 32 := Scalar.subi v73 c1_i32_38
  let v89 : BitVec 32 := Scalar.select v87 v88 v73
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_42 : BitVec 32 := 1#32
  let arg8 : BitVec 32 := Scf.iv v94 c1_i32_42 k0_t2
  let v128 : BitVec 32 := Scalar.muli c2_i32_60 arg8
  let c1_i32_61 : BitVec 32 := 1#32
  let v129 : BitVec 32 := Scalar.addi v128 c1_i32_61
  let c512_i32_62 : BitVec 32 := 512#32
  let v132 : BitVec 32 := Scalar.muli v129 c512_i32_62
  let v133 : BitVec 32 := v132
  let v241 : Index := Scalar.indexCast v133
  let c384_95 : Index := 384#32
  ![v241.toNat, 384]
def k0_cond1 (i : grid0.Coords) : BitVec 1 :=
  let arg2 : BitVec 32 := BitVec.ofNat 32 (i 2).val
  let c2_i32_43 : BitVec 32 := 2#32
  let c0_i32_44 : BitVec 32 := 0#32
  let v97 : BitVec 1 := Scalar.cmpi .eq c2_i32_43 c0_i32_44
  let c1_i32_45 : BitVec 32 := 1#32
  let v98 : BitVec 32 := Scalar.select v97 c1_i32_45 c2_i32_43
  let v99 : BitVec 32 := Scalar.remsi arg2 v98
  let c0_i32_47 : BitVec 32 := 0#32
  let v101 : BitVec 1 := Scalar.cmpi .slt v99 c0_i32_47
  let c0_i32_48 : BitVec 32 := 0#32
  let v102 : BitVec 1 := Scalar.cmpi .slt v98 c0_i32_48
  let v103 : BitVec 1 := Scalar.xori v101 v102
  let c0_i32_46 : BitVec 32 := 0#32
  let v100 : BitVec 1 := Scalar.cmpi .ne v99 c0_i32_46
  let v104 : BitVec 1 := Scalar.andi v103 v100
  let v105 : BitVec 32 := Scalar.addi v99 v98
  let v106 : BitVec 32 := Scalar.select v104 v105 v99
  let c1_i32_49 : BitVec 32 := 1#32
  let v107 : BitVec 1 := Scalar.cmpi .eq v106 c1_i32_49
  let v108 : BitVec 32 := Scalar.extui v107
  let c0_i32_50 : BitVec 32 := 0#32
  let v109 : BitVec 1 := Scalar.cmpi .ne v108 c0_i32_50
  v109

def k0_mult5 (i : grid0.Coords) : BitVec 32 :=
  let arg2 : BitVec 32 := BitVec.ofNat 32 (i 2).val
  let c1_i32_59 : BitVec 32 := 1#32
  let v127 : BitVec 32 := Scalar.subi arg2 c1_i32_59
  let c512_i32 : BitVec 32 := 512#32
  let v128 : BitVec 32 := Scalar.muli v127 c512_i32
  v128
def k0_mult6 (i : grid0.Coords) : BitVec 32 :=
  let arg2 : BitVec 32 := BitVec.ofNat 32 (i 2).val
  let c512_i32_60 : BitVec 32 := 512#32
  let v130 : BitVec 32 := Scalar.muli arg2 c512_i32_60
  v130
def k0_off21 (i : grid0.Coords) : Fin 2 → Nat :=
  let arg2 : BitVec 32 := BitVec.ofNat 32 (i 2).val
  let c1_i32_59 : BitVec 32 := 1#32
  let v127 : BitVec 32 := Scalar.subi arg2 c1_i32_59
  let c512_i32 : BitVec 32 := 512#32
  let v128 : BitVec 32 := Scalar.muli v127 c512_i32
  let v129 : BitVec 32 := v128
  let v132 : Index := Scalar.indexCast v129
  let c0_61 : Index := 0#32
  ![v132.toNat, 0]
def k0_off22 (i : grid0.Coords) : Fin 2 → Nat :=
  let arg2 : BitVec 32 := BitVec.ofNat 32 (i 2).val
  let c1_i32_59 : BitVec 32 := 1#32
  let v127 : BitVec 32 := Scalar.subi arg2 c1_i32_59
  let c512_i32 : BitVec 32 := 512#32
  let v128 : BitVec 32 := Scalar.muli v127 c512_i32
  let v129 : BitVec 32 := v128
  let v134 : Index := Scalar.indexCast v129
  let c0_62 : Index := 0#32
  ![v134.toNat, 0]
def k0_off23 (i : grid0.Coords) : Fin 2 → Nat :=
  let arg2 : BitVec 32 := BitVec.ofNat 32 (i 2).val
  let c512_i32_60 : BitVec 32 := 512#32
  let v130 : BitVec 32 := Scalar.muli arg2 c512_i32_60
  let v131 : BitVec 32 := v130
  let v137 : Index := Scalar.indexCast v131
  let c0_63 : Index := 0#32
  ![v137.toNat, 0]
def k0_off24 (i : grid0.Coords) : Fin 2 → Nat :=
  let arg2 : BitVec 32 := BitVec.ofNat 32 (i 2).val
  let c512_i32_60 : BitVec 32 := 512#32
  let v130 : BitVec 32 := Scalar.muli arg2 c512_i32_60
  let v131 : BitVec 32 := v130
  let v139 : Index := Scalar.indexCast v131
  let c0_64 : Index := 0#32
  ![v139.toNat, 0]
def k0_off25 (i : grid0.Coords) : Fin 2 → Nat :=
  let arg2 : BitVec 32 := BitVec.ofNat 32 (i 2).val
  let c1_i32_59 : BitVec 32 := 1#32
  let v127 : BitVec 32 := Scalar.subi arg2 c1_i32_59
  let c512_i32 : BitVec 32 := 512#32
  let v128 : BitVec 32 := Scalar.muli v127 c512_i32
  let v129 : BitVec 32 := v128
  let v173 : Index := Scalar.indexCast v129
  let c128_73 : Index := 128#32
  ![v173.toNat, 128]
def k0_off26 (i : grid0.Coords) : Fin 2 → Nat :=
  let arg2 : BitVec 32 := BitVec.ofNat 32 (i 2).val
  let c512_i32_60 : BitVec 32 := 512#32
  let v130 : BitVec 32 := Scalar.muli arg2 c512_i32_60
  let v131 : BitVec 32 := v130
  let v178 : Index := Scalar.indexCast v131
  let c128_75 : Index := 128#32
  ![v178.toNat, 128]
def k0_off27 (i : grid0.Coords) : Fin 2 → Nat :=
  let arg2 : BitVec 32 := BitVec.ofNat 32 (i 2).val
  let c1_i32_59 : BitVec 32 := 1#32
  let v127 : BitVec 32 := Scalar.subi arg2 c1_i32_59
  let c512_i32 : BitVec 32 := 512#32
  let v128 : BitVec 32 := Scalar.muli v127 c512_i32
  let v129 : BitVec 32 := v128
  let v214 : Index := Scalar.indexCast v129
  let c256_85 : Index := 256#32
  ![v214.toNat, 256]
def k0_off28 (i : grid0.Coords) : Fin 2 → Nat :=
  let arg2 : BitVec 32 := BitVec.ofNat 32 (i 2).val
  let c512_i32_60 : BitVec 32 := 512#32
  let v130 : BitVec 32 := Scalar.muli arg2 c512_i32_60
  let v131 : BitVec 32 := v130
  let v219 : Index := Scalar.indexCast v131
  let c256_87 : Index := 256#32
  ![v219.toNat, 256]
def k0_off29 (i : grid0.Coords) : Fin 2 → Nat :=
  let arg2 : BitVec 32 := BitVec.ofNat 32 (i 2).val
  let c1_i32_59 : BitVec 32 := 1#32
  let v127 : BitVec 32 := Scalar.subi arg2 c1_i32_59
  let c512_i32 : BitVec 32 := 512#32
  let v128 : BitVec 32 := Scalar.muli v127 c512_i32
  let v129 : BitVec 32 := v128
  let v255 : Index := Scalar.indexCast v129
  let c384_97 : Index := 384#32
  ![v255.toNat, 384]
def k0_off30 (i : grid0.Coords) : Fin 2 → Nat :=
  let arg2 : BitVec 32 := BitVec.ofNat 32 (i 2).val
  let c512_i32_60 : BitVec 32 := 512#32
  let v130 : BitVec 32 := Scalar.muli arg2 c512_i32_60
  let v131 : BitVec 32 := v130
  let v260 : Index := Scalar.indexCast v131
  let c384_99 : Index := 384#32
  ![v260.toNat, 384]
def k0_mult7 (i : grid0.Coords) : BitVec 32 :=
  let arg2 : BitVec 32 := BitVec.ofNat 32 (i 2).val
  let c512_i32 : BitVec 32 := 512#32
  let v127 : BitVec 32 := Scalar.muli arg2 c512_i32
  v127
def k0_off31 (i : grid0.Coords) : Fin 2 → Nat :=
  let arg2 : BitVec 32 := BitVec.ofNat 32 (i 2).val
  let c512_i32 : BitVec 32 := 512#32
  let v127 : BitVec 32 := Scalar.muli arg2 c512_i32
  let v128 : BitVec 32 := v127
  let v129 : Index := Scalar.indexCast v128
  let c0_59 : Index := 0#32
  ![v129.toNat, 0]
def k0_off32 (i : grid0.Coords) : Fin 2 → Nat :=
  let arg2 : BitVec 32 := BitVec.ofNat 32 (i 2).val
  let c512_i32 : BitVec 32 := 512#32
  let v127 : BitVec 32 := Scalar.muli arg2 c512_i32
  let v128 : BitVec 32 := v127
  let v131 : Index := Scalar.indexCast v128
  let c0_60 : Index := 0#32
  ![v131.toNat, 0]
def k0_off33 (i : grid0.Coords) : Fin 2 → Nat :=
  let arg2 : BitVec 32 := BitVec.ofNat 32 (i 2).val
  let c512_i32 : BitVec 32 := 512#32
  let v127 : BitVec 32 := Scalar.muli arg2 c512_i32
  let v128 : BitVec 32 := v127
  let v161 : Index := Scalar.indexCast v128
  let c128_68 : Index := 128#32
  ![v161.toNat, 128]
def k0_off34 (i : grid0.Coords) : Fin 2 → Nat :=
  let arg2 : BitVec 32 := BitVec.ofNat 32 (i 2).val
  let c512_i32 : BitVec 32 := 512#32
  let v127 : BitVec 32 := Scalar.muli arg2 c512_i32
  let v128 : BitVec 32 := v127
  let v193 : Index := Scalar.indexCast v128
  let c256_77 : Index := 256#32
  ![v193.toNat, 256]
def k0_off35 (i : grid0.Coords) : Fin 2 → Nat :=
  let arg2 : BitVec 32 := BitVec.ofNat 32 (i 2).val
  let c512_i32 : BitVec 32 := 512#32
  let v127 : BitVec 32 := Scalar.muli arg2 c512_i32
  let v128 : BitVec 32 := v127
  let v225 : Index := Scalar.indexCast v128
  let c384_86 : Index := 384#32
  ![v225.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S32768x7168 : Shape := ⟨2, ![32768, 7168]⟩
abbrev S32768x128 : Shape := ⟨2, ![32768, 128]⟩
abbrev S32768x1024 : Shape := ⟨2, ![32768, 1024]⟩
abbrev S8x4096x8x128 : Shape := ⟨4, ![8, 4096, 8, 128]⟩
abbrev S32768x8 : Shape := ⟨2, ![32768, 8]⟩
abbrev S8x4096x8 : Shape := ⟨3, ![8, 4096, 8]⟩
abbrev S8x8x4096 : Shape := ⟨3, ![8, 8, 4096]⟩
abbrev S8x8x4096x4096 : Shape := ⟨4, ![8, 8, 4096, 4096]⟩
abbrev S8x8x4096x1 : Shape := ⟨4, ![8, 8, 4096, 1]⟩
abbrev S8x8x1x4096 : Shape := ⟨4, ![8, 8, 1, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x128x4096 : Shape := ⟨4, ![8, 8, 128, 4096]⟩

abbrev nBuf : Space → Nat
  | .hbm => 58
  | .vmem => 0
  | .smem => 0
  | _ => 0

abbrev bufTy : (tb : Table) → Fin (tcTables nBuf tb) → BufTy
  | .hbm, ⟨0, _⟩ => ⟨S32768x7168, .bf16⟩
  | .hbm, ⟨1, _⟩ => ⟨S32768x128, .bf16⟩
  | .hbm, ⟨2, _⟩ => ⟨S32768x7168, .f32⟩
  | .hbm, ⟨3, _⟩ => ⟨S32768x1024, .f32⟩
  | .hbm, ⟨4, _⟩ => ⟨S8x4096x8x128, .f32⟩
  | .hbm, ⟨5, _⟩ => ⟨S32768x1024, .f32⟩
  | .hbm, ⟨6, _⟩ => ⟨S8x4096x8x128, .f32⟩
  | .hbm, ⟨7, _⟩ => ⟨S32768x1024, .f32⟩
  | .hbm, ⟨8, _⟩ => ⟨S8x4096x8x128, .f32⟩
  | .hbm, ⟨9, _⟩ => ⟨S32768x128, .f32⟩
  | .hbm, ⟨10, _⟩ => ⟨S32768x8, .f32⟩
  | .hbm, ⟨11, _⟩ => ⟨S32768x8, .f32⟩
  | .hbm, ⟨12, _⟩ => ⟨S32768x8, .f32⟩
  | .hbm, ⟨13, _⟩ => ⟨S32768x8, .f32⟩
  | .hbm, ⟨14, _⟩ => ⟨S32768x8, .f32⟩
  | .hbm, ⟨15, _⟩ => ⟨S8x4096x8, .f32⟩
  | .hbm, ⟨16, _⟩ => ⟨S8x8x4096, .f32⟩
  | .hbm, ⟨17, _⟩ => ⟨S8x8x4096x4096, .f32⟩
  | .hbm, ⟨18, _⟩ => ⟨S8x8x4096x1, .f32⟩
  | .hbm, ⟨19, _⟩ => ⟨S8x8x4096x4096, .f32⟩
  | .hbm, ⟨20, _⟩ => ⟨S8x8x4096x4096, .f32⟩
  | .hbm, ⟨21, _⟩ => ⟨S8x8x1x4096, .f32⟩
  | .hbm, ⟨22, _⟩ => ⟨S8x8x4096x4096, .f32⟩
  | .hbm, ⟨23, _⟩ => ⟨S8x8x4096x4096, .f32⟩
  | .hbm, ⟨24, _⟩ => ⟨S_, .f32⟩
  | .hbm, ⟨25, _⟩ => ⟨S_, .f32⟩
  | .hbm, ⟨26, _⟩ => ⟨S8x8x4096x4096, .f32⟩
  | .hbm, ⟨27, _⟩ => ⟨S8x8x4096x4096, .f32⟩
  | .hbm, ⟨28, _⟩ => ⟨S4096, .i32⟩
  | .hbm, ⟨29, _⟩ => ⟨S1x4096, .i32⟩
  | .hbm, ⟨30, _⟩ => ⟨S4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S8x8x4096x4096, .i1⟩
  | .hbm, ⟨38, _⟩ => ⟨S8x8x4096x4096, .f32⟩
  | .hbm, ⟨39, _⟩ => ⟨S8x8x4096x4096, .f32⟩
  | .hbm, ⟨40, _⟩ => ⟨S_, .f32⟩
  | .hbm, ⟨41, _⟩ => ⟨S8x8x4096, .f32⟩
  | .hbm, ⟨42, _⟩ => ⟨S_, .f32⟩
  | .hbm, ⟨43, _⟩ => ⟨S8x8x4096, .f32⟩
  | .hbm, ⟨44, _⟩ => ⟨S8x8x4096, .f32⟩
  | .hbm, ⟨45, _⟩ => ⟨S8x8x4096x1, .f32⟩
  | .hbm, ⟨46, _⟩ => ⟨S8x8x4096x4096, .f32⟩
  | .hbm, ⟨47, _⟩ => ⟨S8x8x4096x4096, .f32⟩
  | .hbm, ⟨48, _⟩ => ⟨S8x8x4096x4096, .f32⟩
  | .hbm, ⟨49, _⟩ => ⟨S_, .f32⟩
  | .hbm, ⟨50, _⟩ => ⟨S8x8x4096, .f32⟩
  | .hbm, ⟨51, _⟩ => ⟨S8x8x4096x1, .f32⟩
  | .hbm, ⟨52, _⟩ => ⟨S8x8x4096x4096, .f32⟩
  | .hbm, ⟨53, _⟩ => ⟨S8x8x4096x4096, .f32⟩
  | .hbm, ⟨54, _⟩ => ⟨S8x8x128x4096, .f32⟩
  | .hbm, ⟨55, _⟩ => ⟨S8x4096x8x128, .f32⟩
  | .hbm, ⟨56, _⟩ => ⟨S32768x1024, .f32⟩
  | .hbm, ⟨57, _⟩ => ⟨S32768x1024, .bf16⟩
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x7176 : Shape := ⟨2, ![1024, 7176]⟩
abbrev S1024x5120 : Shape := ⟨2, ![1024, 5120]⟩
abbrev S1024x2048 : Shape := ⟨2, ![1024, 2048]⟩
abbrev S1024x7168 : Shape := ⟨2, ![1024, 7168]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S32768x7168 : Shape := ⟨2, ![32768, 7168]⟩
abbrev S32768x128 : Shape := ⟨2, ![32768, 128]⟩
abbrev S2048x1024 : Shape := ⟨2, ![2048, 1024]⟩
abbrev S1024x1024 : Shape := ⟨2, ![1024, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 15
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7176, .f32⟩
  | .hbm, ⟨3, _⟩ => ⟨S1024x5120, .f32⟩
  | .hbm, ⟨4, _⟩ => ⟨S1024x2048, .f32⟩
  | .hbm, ⟨5, _⟩ => ⟨S1024x7168, .f32⟩
  | .hbm, ⟨6, _⟩ => ⟨S1024x7168, .bf16⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1x1024, .f32⟩
  | .hbm, ⟨13, _⟩ => ⟨S32768x7168, .bf16⟩
  | .hbm, ⟨14, _⟩ => ⟨S32768x128, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S2048x1024, .bf16⟩
  | .local _ .vmem, ⟨7, _⟩ => ⟨S2048x1024, .bf16⟩
  | .local _ .vmem, ⟨8, _⟩ => ⟨S2048x128, .f32⟩
  | .local _ .vmem, ⟨9, _⟩ => ⟨S2048x128, .f32⟩
  | .local _ .vmem, ⟨10, _⟩ => ⟨S2048x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c2_i32 : BitVec 32 := 2#32
  let v3 : BitVec 1 := Scalar.cmpi .eq arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .ne arg1 c2_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojIdeal.lean ====
variable {F : FTy → Type} [FloatOps F] [Named F]
def κ : String → Option EReal := fun
  | "prescale" => some (((Real.sqrt 128)⁻¹ * (Real.log 2)⁻¹ : ℝ) : EReal)
  | _ => none
-- ==== ProjectionsIdeal.lean ====
abbrev S32768x1024 : Shape := ⟨2, ![32768, 1024]⟩
abbrev S1024 : Shape := ⟨1, ![1024]⟩
abbrev S1024x7176 : Shape := ⟨2, ![1024, 7176]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7176 : Shape := ⟨2, ![32768, 7176]⟩
abbrev S32768x2048 : Shape := ⟨2, ![32768, 2048]⟩
abbrev S32768x7168 : Shape := ⟨2, ![32768, 7168]⟩
abbrev S32768x8 : Shape := ⟨2, ![32768, 8]⟩
abbrev S32768x128 : Shape := ⟨2, ![32768, 128]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7176, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7176, .f32⟩
  | .hbm, ⟨20, _⟩ => ⟨S32768x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x7168, .f32⟩
  | .hbm, ⟨32, _⟩ => ⟨S32768x8, .f32⟩
  | .hbm, ⟨33, _⟩ => ⟨S_, .i32⟩
  | .hbm, ⟨34, _⟩ => ⟨S_, .f32⟩
  | .hbm, ⟨35, _⟩ => ⟨S32768x128, .f32⟩
  | .hbm, ⟨36, _⟩ => ⟨S32768x7168, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Merge.lean ====
abbrev S32768x1024 : Shape := ⟨2, ![32768, 1024]⟩
abbrev S32768x7168 : Shape := ⟨2, ![32768, 7168]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S1x4 : Shape := ⟨2, ![1, 4]⟩
abbrev S1x32 : Shape := ⟨2, ![1, 32]⟩
abbrev S1x36 : Shape := ⟨2, ![1, 36]⟩
abbrev S1x128 : Shape := ⟨2, ![1, 128]⟩
abbrev S1x1024 : Shape := ⟨2, ![1, 1024]⟩
abbrev S131072x128 : Shape := ⟨2, ![131072, 128]⟩
abbrev S32768x128 : Shape := ⟨2, ![32768, 128]⟩
abbrev S8x32768 : Shape := ⟨2, ![8, 32768]⟩
abbrev S1x1x128 : Shape := ⟨3, ![1, 1, 128]⟩
abbrev S512x1024 : Shape := ⟨2, ![512, 1024]⟩
abbrev S2048x128 : Shape := ⟨2, ![2048, 128]⟩
abbrev S512x128 : Shape := ⟨2, ![512, 128]⟩
abbrev S8x512 : Shape := ⟨2, ![8, 512]⟩
abbrev S512x512 : Shape := ⟨2, ![512, 512]⟩
abbrev S512 : Shape := ⟨1, ![512]⟩
abbrev S512x1 : Shape := ⟨2, ![512, 1]⟩
abbrev S128 : Shape := ⟨1, ![128]⟩
abbrev S128x512 : Shape := ⟨2, ![128, 512]⟩

abbrev nBuf : Space → Nat
  | .hbm => 32
  | .vmem => 27
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S1024x36, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1x4, .f32⟩
  | .hbm, ⟨18, _⟩ => ⟨S1x32, .f32⟩
  | .hbm, ⟨19, _⟩ => ⟨S1x36, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1x1024, .f32⟩
  | .hbm, ⟨27, _⟩ => ⟨S32768x1024, .f32⟩
  | .hbm, ⟨28, _⟩ => ⟨S131072x128, .i32⟩
  | .hbm, ⟨29, _⟩ => ⟨S32768x128, .f32⟩
  | .hbm, ⟨30, _⟩ => ⟨S8x32768, .f32⟩
  | .hbm, ⟨31, _⟩ => ⟨S1x1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S2048x128, .i32⟩
  | .local _ .vmem, ⟨19, _⟩ => ⟨S2048x128, .i32⟩
  | .local _ .vmem, ⟨20, _⟩ => ⟨S512x128, .f32⟩
  | .local _ .vmem, ⟨21, _⟩ => ⟨S512x128, .f32⟩
  | .local _ .vmem, ⟨22, _⟩ => ⟨S8x512, .f32⟩
  | .local _ .vmem, ⟨23, _⟩ => ⟨S8x512, .f32⟩
  | .local _ .vmem, ⟨24, _⟩ => ⟨S1x1x128, .f32⟩
  | .local _ .vmem, ⟨25, _⟩ => ⟨S1x1x128, .f32⟩
  | .local _ .vmem, ⟨26, _⟩ => ⟨S1x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeIdeal.lean ====
abbrev S32768x1024 : Shape := ⟨2, ![32768, 1024]⟩
abbrev S32768x7168 : Shape := ⟨2, ![32768, 7168]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S1x4 : Shape := ⟨2, ![1, 4]⟩
abbrev S1x32 : Shape := ⟨2, ![1, 32]⟩
abbrev S1x36 : Shape := ⟨2, ![1, 36]⟩
abbrev S1x128 : Shape := ⟨2, ![1, 128]⟩
abbrev S1x1024 : Shape := ⟨2, ![1, 1024]⟩
abbrev S131072x2x128 : Shape := ⟨3, ![131072, 2, 128]⟩
abbrev S32768x128 : Shape := ⟨2, ![32768, 128]⟩
abbrev S8x32768 : Shape := ⟨2, ![8, 32768]⟩
abbrev S1x1x128 : Shape := ⟨3, ![1, 1, 128]⟩
abbrev S131072x1x128 : Shape := ⟨3, ![131072, 1, 128]⟩
abbrev S131072x128 : Shape := ⟨2, ![131072, 128]⟩
abbrev S512x1024 : Shape := ⟨2, ![512, 1024]⟩
abbrev S2048x128 : Shape := ⟨2, ![2048, 128]⟩
abbrev S2048x2x128 : Shape := ⟨3, ![2048, 2, 128]⟩
abbrev S2048x1x128 : Shape := ⟨3, ![2048, 1, 128]⟩
abbrev S512x128 : Shape := ⟨2, ![512, 128]⟩
abbrev S8x512 : Shape := ⟨2, ![8, 512]⟩
abbrev S512x512 : Shape := ⟨2, ![512, 512]⟩
abbrev S512 : Shape := ⟨1, ![512]⟩
abbrev S512x1 : Shape := ⟨2, ![512, 1]⟩
abbrev S512x2x128 : Shape := ⟨3, ![512, 2, 128]⟩
abbrev S512x1x128 : Shape := ⟨3, ![512, 1, 128]⟩
abbrev S128 : Shape := ⟨1, ![128]⟩
abbrev S128x512 : Shape := ⟨2, ![128, 512]⟩

abbrev nBuf : Space → Nat
  | .hbm => 32
  | .vmem => 27
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S1024x36, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1x4, .f32⟩
  | .hbm, ⟨18, _⟩ => ⟨S1x32, .f32⟩
  | .hbm, ⟨19, _⟩ => ⟨S1x36, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1x1024, .f32⟩
  | .hbm, ⟨27, _⟩ => ⟨S32768x1024, .f32⟩
  | .hbm, ⟨28, _⟩ => ⟨S131072x2x128, .bf16⟩
  | .hbm, ⟨29, _⟩ => ⟨S32768x128, .f32⟩
  | .hbm, ⟨30, _⟩ => ⟨S8x32768, .f32⟩
  | .hbm, ⟨31, _⟩ => ⟨S1x1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S2048x2x128, .bf16⟩
  | .local _ .vmem, ⟨19, _⟩ => ⟨S2048x2x128, .bf16⟩
  | .local _ .vmem, ⟨20, _⟩ => ⟨S512x128, .f32⟩
  | .local _ .vmem, ⟨21, _⟩ => ⟨S512x128, .f32⟩
  | .local _ .vmem, ⟨22, _⟩ => ⟨S8x512, .f32⟩
  | .local _ .vmem, ⟨23, _⟩ => ⟨S8x512, .f32⟩
  | .local _ .vmem, ⟨24, _⟩ => ⟨S1x1x128, .f32⟩
  | .local _ .vmem, ⟨25, _⟩ => ⟨S1x1x128, .f32⟩
  | .local _ .vmem, ⟨26, _⟩ => ⟨S1x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x2x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ResidualIdeal.lean ====
abbrev S32768x1024 : Shape := ⟨2, ![32768, 1024]⟩
abbrev S32768x7168 : Shape := ⟨2, ![32768, 7168]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x7168, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S1024x32, .f32⟩
  | .hbm, ⟨11, _⟩ => ⟨S32, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .bf16⟩
  | .hbm, ⟨17, _⟩ => ⟨S32768x1024, .f32⟩
  | .hbm, ⟨18, _⟩ => ⟨S32768x1024, .bf16⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Forget.lean ====
abbrev S32768x128 : Shape := ⟨2, ![32768, 128]⟩
abbrev S8 : Shape := ⟨1, ![8]⟩
abbrev S1x8 : Shape := ⟨2, ![1, 8]⟩
abbrev S_ : Shape := ⟨0, ![]⟩
abbrev S1x128 : Shape := ⟨2, ![1, 128]⟩
abbrev S4096x128 : Shape := ⟨2, ![4096, 128]⟩

abbrev nBuf : Space → Nat
  | .hbm => 7
  | .vmem => 5
  | .smem => 0
  | _ => 0

abbrev bufTy : (tb : Table) → Fin (tcTables nBuf tb) → BufTy
  | .hbm, ⟨0, _⟩ => ⟨S32768x128, .f32⟩
  | .hbm, ⟨1, _⟩ => ⟨S8, .f32⟩
  | .hbm, ⟨2, _⟩ => ⟨S1x8, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S32768x128, .bf16⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .bf16⟩
  | .local _ .vmem, ⟨4, _⟩ => ⟨S4096x128, .bf16⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ForgetIdeal.lean ====
variable {F : FTy → Type} [FloatOps F] [Named F]
def κ : String → Option EReal := fun
  | "log2e" => some (((Real.log 2)⁻¹ : ℝ) : EReal)
  | _ => none
-- ==== GatesIdeal.lean ====
abbrev S32768x128 : Shape := ⟨2, ![32768, 128]⟩
abbrev S8 : Shape := ⟨1, ![8]⟩
abbrev S32768x8 : Shape := ⟨2, ![32768, 8]⟩
abbrev S1x8 : Shape := ⟨2, ![1, 8]⟩
abbrev S_ : Shape := ⟨0, ![]⟩
abbrev S8x4096x8 : Shape := ⟨3, ![8, 4096, 8]⟩

abbrev nBuf : Space → Nat
  | .hbm => 35
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S8, .f32⟩
  | .hbm, ⟨2, _⟩ => ⟨S32768x8, .f32⟩
  | .hbm, ⟨3, _⟩ => ⟨S1x8, .f32⟩
  | .hbm, ⟨4, _⟩ => ⟨S32768x8, .f32⟩
  | .hbm, ⟨5, _⟩ => ⟨S32768x8, .f32⟩
  | .hbm, ⟨6, _⟩ => ⟨S32768x8, .f32⟩
  | .hbm, ⟨7, _⟩ => ⟨S_, .f32⟩
  | .hbm, ⟨8, _⟩ => ⟨S32768x8, .f32⟩
  | .hbm, ⟨9, _⟩ => ⟨S32768x8, .f32⟩
  | .hbm, ⟨10, _⟩ => ⟨S32768x8, .f32⟩
  | .hbm, ⟨11, _⟩ => ⟨S32768x8, .f32⟩
  | .hbm, ⟨12, _⟩ => ⟨S32768x8, .i1⟩
  | .hbm, ⟨13, _⟩ => ⟨S32768x8, .f32⟩
  | .hbm, ⟨14, _⟩ => ⟨S32768x8, .f32⟩
  | .hbm, ⟨15, _⟩ => ⟨S32768x8, .f32⟩
  | .hbm, ⟨16, _⟩ => ⟨S32768x8, .f32⟩
  | .hbm, ⟨17, _⟩ => ⟨S32768x8, .f32⟩
  | .hbm, ⟨18, _⟩ => ⟨S32768x8, .f32⟩
  | .hbm, ⟨19, _⟩ => ⟨S32768x8, .f32⟩
  | .hbm, ⟨20, _⟩ => ⟨S32768x8, .f32⟩
  | .hbm, ⟨21, _⟩ => ⟨S32768x8, .f32⟩
  | .hbm, ⟨22, _⟩ => ⟨S8x4096x8, .f32⟩
  | .hbm, ⟨23, _⟩ => ⟨S_, .f32⟩
  | .hbm, ⟨24, _⟩ => ⟨S_, .f32⟩
  | .hbm, ⟨25, _⟩ => ⟨S8x4096x8, .f32⟩
  | .hbm, ⟨26, _⟩ => ⟨S32768x8, .f32⟩
  | .hbm, ⟨27, _⟩ => ⟨S_, .f32⟩
  | .hbm, ⟨28, _⟩ => ⟨S_, .f32⟩
  | .hbm, ⟨29, _⟩ => ⟨S32768x8, .f32⟩
  | .hbm, ⟨30, _⟩ => ⟨S32768x8, .f32⟩
  | .hbm, ⟨31, _⟩ => ⟨S_, .i32⟩
  | .hbm, ⟨32, _⟩ => ⟨S_, .f32⟩
  | .hbm, ⟨33, _⟩ => ⟨S32768x128, .f32⟩
  | .hbm, ⟨34, _⟩ => ⟨S32768x128, .bf16⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_call2_v0 : Ref sig .tc := ⟨.hbm, 32, rfl⟩
abbrev main_v11 : Ref sig .tc := ⟨.hbm, 33, rfl⟩
abbrev main_v12 : Ref sig .tc := ⟨.hbm, 34, rfl⟩

abbrev nD : Nat := 1
abbrev τ : Topo := Topo.v7x

variable {F : FTy → Type} [FloatOps F]
-- ==== Proof.Body.lean ====
/-
  The attention body, run once per parity of the query tile over any float values: from the four input blocks to what
  the output block holds afterwards. Read at the kernel's idealization, whose text is the kernel's own.
-/
module

public import proofs.«01_k».proof.Proof.Gen.KernelIdeal.Frame
public import proofs.«01_k».proof.Proof.Gen.KernelIdeal.Loops

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M` whole on core `c` at raw contents `f`. -/
abbrev held (c : Dev nD) {S : Shape} {e : EltTy} (M : Memref sig .tc .vmem S e) (f : BufTy.Contents (Elt F) M.view.ty) : sProp 𝕄 :=
  M.view.loc (c : Thread nD τ) ↦[M.view.set]{fullShare} f

/-- The body at an odd query tile: what it leaves in the output block, found by the run. -/
@[irreducible] def runOdd (c : Dev nD) (i : grid0.Coords)
    (arg3 : Memref sig .tc .vmem S512x512 .bf16) (h3 : arg3.IsWhole) (arg4 : Memref sig .tc .vmem S4096x512 .bf16) (h4 : arg4.IsWhole)
    (arg5 : Memref sig .tc .vmem S4096x512 .bf16) (h5 : arg5.IsWhole) (arg6 : Memref sig .tc .vmem S4096x128 .bf16) (h6 : arg6.IsWhole)
    (arg7 : Memref sig .tc .vmem S512x512 .bf16) (h7 : arg7.IsWhole)
    (f3 : BufTy.Contents (Elt F) arg3.view.ty) (f4 : BufTy.Contents (Elt F) arg4.view.ty)
    (f5 : BufTy.Contents (Elt F) arg5.view.ty) (f6 : BufTy.Contents (Elt F) arg6.view.ty) (hc : k0_cond1 i = 1#1) :
    { W : BufTy.Contents (Elt F) arg7.view.ty // ∀ (E : Set ℕ) (f7 : BufTy.Contents (Elt F) arg7.view.ty) (K : PUnit → sProp 𝕄),
      iprop(held c arg3 f3 ∗ held c arg4 f4 ∗ held c arg5 f5 ∗ held c arg6 f6 ∗ held c arg7 f7
        ∗ (iprop(held c arg3 f3 ∗ held c arg4 f4 ∗ held c arg5 f5 ∗ held c arg6 f6 ∗ held c arg7 W) -∗ K ⟨⟩))
      ⊢ wp frame (wpE (defs₀ (F := F)) Variants.none (c : Thread nD τ) none) E (cc0_attn i arg3 h3 arg4 h4 arg5 h5 arg6 h6 arg7 h7) K } := by
  refine ⟨?_, fun E f7 K => ?run⟩
  case run =>
    simp only [cc0_attn_eq_skeleton]; unfold cc0_attn_skel
    simp only [k0_part12_eq_skeleton, k0_part13_eq_skeleton, k0_part14_eq_skeleton, k0_part7_eq_skeleton, k0_part8_eq_skeleton, k0_part9_eq_skeleton]
    iintro ⟨H3, H4, H5, H6, H7, Hk⟩
    sl_exec! (disch := sl_exact hc)
    sl_step
    iapply Hk
    isplitl [H3]; · iexact H3
    isplitl [H4]; · iexact H4
    isplitl [H5]; · iexact H5
    isplitl [H6]; · iexact H6
    iexact H7

/-- The body at an even query tile: what it leaves in the output block, found by the run. -/
@[irreducible] def runEven (c : Dev nD) (i : grid0.Coords)
    (arg3 : Memref sig .tc .vmem S512x512 .bf16) (h3 : arg3.IsWhole) (arg4 : Memref sig .tc .vmem S4096x512 .bf16) (h4 : arg4.IsWhole)
    (arg5 : Memref sig .tc .vmem S4096x512 .bf16) (h5 : arg5.IsWhole) (arg6 : Memref sig .tc .vmem S4096x128 .bf16) (h6 : arg6.IsWhole)
    (arg7 : Memref sig .tc .vmem S512x512 .bf16) (h7 : arg7.IsWhole)
    (f3 : BufTy.Contents (Elt F) arg3.view.ty) (f4 : BufTy.Contents (Elt F) arg4.view.ty)
    (f5 : BufTy.Contents (Elt F) arg5.view.ty) (f6 : BufTy.Contents (Elt F) arg6.view.ty) (hc : ¬ k0_cond1 i = 1#1) :
    { W : BufTy.Contents (Elt F) arg7.view.ty // ∀ (E : Set ℕ) (f7 : BufTy.Contents (Elt F) arg7.view.ty) (K : PUnit → sProp 𝕄),
      iprop(held c arg3 f3 ∗ held c arg4 f4 ∗ held c arg5 f5 ∗ held c arg6 f6 ∗ held c arg7 f7
        ∗ (iprop(held c arg3 f3 ∗ held c arg4 f4 ∗ held c arg5 f5 ∗ held c arg6 f6 ∗ held c arg7 W) -∗ K ⟨⟩))
      ⊢ wp frame (wpE (defs₀ (F := F)) Variants.none (c : Thread nD τ) none) E (cc0_attn i arg3 h3 arg4 h4 arg5 h5 arg6 h6 arg7 h7) K } := by
  refine ⟨?_, fun E f7 K => ?run⟩
  case run =>
    simp only [cc0_attn_eq_skeleton]; unfold cc0_attn_skel
    simp only [k0_part12_eq_skeleton, k0_part13_eq_skeleton, k0_part14_eq_skeleton, k0_part10_eq_skeleton, k0_part11_eq_skeleton]
    iintro ⟨H3, H4, H5, H6, H7, Hk⟩
    sl_exec! (disch := sl_exact hc)
    sl_step
    iapply Hk
    isplitl [H3]; · iexact H3
    isplitl [H4]; · iexact H4
    isplitl [H5]; · iexact H5
    isplitl [H6]; · iexact H6
    iexact H7

end Cert.Attn
-- ==== Proof.Run.lean ====
/-
  The attention run over any float values: the pipeline's proof data, the body obligation, the launch and the frame.
-/
module

public import proofs.«01_k».proof.Proof.Body
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body leaves in the output block, from the four input blocks. -/
def outBlk (c : Dev nD) (i : grid0.Coords)
    (arg3 : Memref sig .tc .vmem S512x512 .bf16) (h3 : arg3.IsWhole) (arg4 : Memref sig .tc .vmem S4096x512 .bf16) (h4 : arg4.IsWhole)
    (arg5 : Memref sig .tc .vmem S4096x512 .bf16) (h5 : arg5.IsWhole) (arg6 : Memref sig .tc .vmem S4096x128 .bf16) (h6 : arg6.IsWhole)
    (arg7 : Memref sig .tc .vmem S512x512 .bf16) (h7 : arg7.IsWhole)
    (x0 : Vec F S512x512 .bf16) (x1 x2 : Vec F S4096x512 .bf16) (x3 : Vec F S4096x128 .bf16) : Vec F S512x512 .bf16 :=
  if hc : k0_cond1 i = 1#1 then
    arg7.view.read (Elt F) (runOdd c i arg3 h3 arg4 h4 arg5 h5 arg6 h6 arg7 h7 (h3.unread x0) (h4.unread x1) (h5.unread x2) (h6.unread x3) hc).1
  else
    arg7.view.read (Elt F) (runEven c i arg3 h3 arg4 h4 arg5 h5 arg6 h6 arg7 h7 (h3.unread x0) (h4.unread x1) (h5.unread x2) (h6.unread x3) hc).1

/-- The body on its five blocks. -/
theorem sound_kernel (c : Dev nD) (E : Set ℕ) (i : grid0.Coords)
    (arg3 : Memref sig .tc .vmem S512x512 .bf16) (h3 : arg3.IsWhole) (arg4 : Memref sig .tc .vmem S4096x512 .bf16) (h4 : arg4.IsWhole)
    (arg5 : Memref sig .tc .vmem S4096x512 .bf16) (h5 : arg5.IsWhole) (arg6 : Memref sig .tc .vmem S4096x128 .bf16) (h6 : arg6.IsWhole)
    (arg7 : Memref sig .tc .vmem S512x512 .bf16) (h7 : arg7.IsWhole)
    (x0 : Vec F S512x512 .bf16) (x1 x2 : Vec F S4096x512 .bf16) (x3 : Vec F S4096x128 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (outBlk c i arg3 h3 arg4 h4 arg5 h5 arg6 h6 arg7 h7 x0 x1 x2 x3)) -∗ K ⟨⟩))
      ⊢ wp frame (wpE (defs₀ (F := F)) Variants.none (c : Thread nD τ) none) E (cc0_attn i arg3 h3 arg4 h4 arg5 h5 arg6 h6 arg7 h7) K := by
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h3.eq_unread hf0
  obtain rfl := h4.eq_unread hf1
  obtain rfl := h5.eq_unread hf2
  obtain rfl := h6.eq_unread hf3
  by_cases hc : k0_cond1 i = 1#1
  · iapply ((runOdd c i arg3 h3 arg4 h4 arg5 h5 arg6 h6 arg7 h7 (h3.unread x0) (h4.unread x1) (h5.unread x2) (h6.unread x3) hc).2 E f4 K)
    isplitl [H0]; · iexact H0
    isplitl [H1]; · iexact H1
    isplitl [H2]; · iexact H2
    isplitl [H3]; · iexact H3
    isplitl [H4]; · iexact H4
    iintro ⟨H0, H1, H2, H3, H4⟩
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    iexists _; isplitr; swap; · iexact H4
    ipureintro; unfold outBlk; rw [dif_pos hc]
  · iapply ((runEven c i arg3 h3 arg4 h4 arg5 h5 arg6 h6 arg7 h7 (h3.unread x0) (h4.unread x1) (h5.unread x2) (h6.unread x3) hc).2 E f4 K)
    isplitl [H0]; · iexact H0
    isplitl [H1]; · iexact H1
    isplitl [H2]; · iexact H2
    isplitl [H3]; · iexact H3
    isplitl [H4]; · iexact H4
    iintro ⟨H0, H1, H2, H3, H4⟩
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    iexists _; isplitr; swap; · iexact H4
    ipureintro; unfold outBlk; rw [dif_neg hc]

variable (m : (ℓ : Loc nD τ sig) → Buf (Elt F) ℓ) (ρ : Dev nD → PrngReg)

/-- The output block at grid point `t`, on the staging memrefs of that point. -/
def outAt (c : Dev nD) (t : Fin cfg0.N) (x0 : Vec F S512x512 .bf16) (x1 x2 : Vec F S4096x512 .bf16) (x3 : Vec F S4096x128 .bf16) : Vec F S512x512 .bf16 :=
  outBlk c (grid0.coords t) (st0_0 t) (stage_whole0 0 _) (st0_1 t) (stage_whole0 1 _) (st0_2 t) (stage_whole0 2 _) (st0_3 t) (stage_whole0 3 _)
    (st0_4 t) (stage_whole0 4 _) x0 x1 x2 x3

/-- The pipeline's proof data: arrays as launched, each input block left in place, the output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt c t (iblk m c 0 t) (iblk m c 1 t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outAt c t (iblk m c 0 t) (iblk m c 1 t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline at what the proof data says, every counter at zero. -/
theorem launch : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run's frame with the counters. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.Attn
-- ==== Proof.Step.lean ====
/-
  The attention body's values over any float values, by head: one online-softmax step over a block of 1024 keys or of
  512, and the loop's trip and the output block's four columns as those steps.
-/
module

public import proofs.«01_k».proof.Proof.Run

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F]

/-! ## A step over 1024 keys, from the block's logits -/

def mW (s : FVec F S512x1024 .f32) (m : FVec F S512x1 .f32) : FVec F S512x1 .f32 :=
  maximumf m (shapeCast S512x1 (multiReduction .maximumf [1] S512 s 0xFF800000#32 reduces_S512x1024_S512 (.inl rfl) rfl) shapeCasts_S512_S512x1)
def pW (s : FVec F S512x1024 .f32) (m : FVec F S512x1 .f32) : FVec F S512x1024 .f32 :=
  exp2 (subf s (broadcastTo S512x1024 (mW s m) broadcasts_S512x1_S512x1024))
def eW (s : FVec F S512x1024 .f32) (m : FVec F S512x1 .f32) : FVec F S512x1 .f32 := exp2 (subf m (mW s m))
def lW (s : FVec F S512x1024 .f32) (m l : FVec F S512x1 .f32) : FVec F S512x1 .f32 :=
  addf (mulf (eW s m) l) (shapeCast S512x1 (multiReduction .add [1] S512 (pW s m) 0x00000000#32 reduces_S512x1024_S512 (.inl rfl) rfl) shapeCasts_S512_S512x1)
def aW (s : FVec F S512x1024 .f32) (m : FVec F S512x1 .f32) (a : FVec F S512x128 .f32) (v : FVec F S1024x128 .bf16) : FVec F S512x128 .f32 :=
  addf (mulf (broadcastTo S512x128 (eW s m) broadcasts_S512x1_S512x128) a)
    (matmul dot_S512x1024_S1024x128_S512x128_1_0_0_1_n_n none (truncf .bf16 (pW s m) bitsLt_bf16_f32) v (constant S512x128 .f32 0x00000000#32))
/-- Two blocks of values, one above the other. -/
def vW (v0 v1 : Vec F S512x128 .bf16) : FVec F S1024x128 .bf16 :=
  concatenate S1024x128 0 [⟨S512x128, v0⟩, ⟨S512x128, v1⟩] concatenates_S512x128_S512x128_S1024x128_d0

/-! ## A step over 512 keys -/

def mN (s : FVec F S512x512 .f32) (m : FVec F S512x1 .f32) : FVec F S512x1 .f32 :=
  maximumf m (shapeCast S512x1 (multiReduction .maximumf [1] S512 s 0xFF800000#32 reduces_S512x512_S512 (.inl rfl) rfl) shapeCasts_S512_S512x1)
def pN (s : FVec F S512x512 .f32) (m : FVec F S512x1 .f32) : FVec F S512x512 .f32 :=
  exp2 (subf s (broadcastTo S512x512 (mN s m) broadcasts_S512x1_S512x512))
def eN (s : FVec F S512x512 .f32) (m : FVec F S512x1 .f32) : FVec F S512x1 .f32 := exp2 (subf m (mN s m))
def lN (s : FVec F S512x512 .f32) (m l : FVec F S512x1 .f32) : FVec F S512x1 .f32 :=
  addf (mulf (eN s m) l) (shapeCast S512x1 (multiReduction .add [1] S512 (pN s m) 0x00000000#32 reduces_S512x512_S512 (.inl rfl) rfl) shapeCasts_S512_S512x1)
def aN (s : FVec F S512x512 .f32) (m : FVec F S512x1 .f32) (a : FVec F S512x128 .f32) (v : FVec F S512x128 .bf16) : FVec F S512x128 .f32 :=
  addf (mulf (broadcastTo S512x128 (eN s m) broadcasts_S512x1_S512x128) a)
    (matmul dot_S512x512_S512x128_S512x128_1_0_0_1_n_n none (truncf .bf16 (pN s m) bitsLt_bf16_f32) v (constant S512x128 .f32 0x00000000#32))

/-- The output's columns of a head: its accumulator over its sum of weights. -/
def oH (l : FVec F S512x1 .f32) (a : FVec F S512x128 .f32) : FVec F S512x128 .bf16 :=
  truncf .bf16 (divf a (broadcastTo S512x128 l broadcasts_S512x1_S512x128)) bitsLt_bf16_f32

/-- The carried values: maximum, sum and accumulator of each of the four heads. -/
abbrev Carry (F : FTy → Type) [FloatOps F] : Type :=
  FVec F S512x1 .f32 × FVec F S512x1 .f32 × FVec F S512x128 .f32 × FVec F S512x1 .f32 × FVec F S512x1 .f32 × FVec F S512x128 .f32
    × FVec F S512x1 .f32 × FVec F S512x1 .f32 × FVec F S512x128 .f32 × FVec F S512x1 .f32 × FVec F S512x1 .f32 × FVec F S512x128 .f32

/-- What the loop starts from. -/
def init : Carry F := (k0_pay100, k0_pay101, k0_pay102, k0_pay103, k0_pay104, k0_pay105, k0_pay106, k0_pay107, k0_pay108, k0_pay109, k0_pay110, k0_pay111)

section run

variable (c : Dev nD) (i : grid0.Coords)
    (arg3 : Memref sig .tc .vmem S512x512 .bf16) (h3 : arg3.IsWhole) (arg4 : Memref sig .tc .vmem S4096x512 .bf16) (h4 : arg4.IsWhole)
    (arg5 : Memref sig .tc .vmem S4096x512 .bf16) (h5 : arg5.IsWhole) (arg6 : Memref sig .tc .vmem S4096x128 .bf16) (h6 : arg6.IsWhole)
    (arg7 : Memref sig .tc .vmem S512x512 .bf16) (h7 : arg7.IsWhole)
    (f3 : BufTy.Contents (Elt F) arg3.view.ty) (f4 : BufTy.Contents (Elt F) arg4.view.ty)
    (f5 : BufTy.Contents (Elt F) arg5.view.ty) (f6 : BufTy.Contents (Elt F) arg6.view.ty)

/-- A 512 by 128 block of a 4096 by 512 array, and of a 4096 by 128 array. -/
abbrev blkA (x : Vec F S4096x512 .bf16) (off : Fin 2 → ℕ) (h : ∀ a, off a + S512x128.size a ≤ S4096x512.size a) : Vec F S512x128 .bf16 :=
  View.ld x (Rect.unit (s := S4096x512) off S512x128.size h)
abbrev blkC (x : Vec F S4096x128 .bf16) (off : Fin 2 → ℕ) (h : ∀ a, off a + S512x128.size a ≤ S4096x128.size a) : Vec F S512x128 .bf16 :=
  View.ld x (Rect.unit (s := S4096x128) off S512x128.size h)
abbrev blkQ (x : Vec F S512x512 .bf16) (off : Fin 2 → ℕ) (h : ∀ a, off a + S512x128.size a ≤ S512x512.size a) : Vec F S512x128 .bf16 :=
  View.ld x (Rect.unit (s := S512x512) off S512x128.size h)

/-- The four heads' queries, each with its mask columns. -/
def q0 (x0 : Vec F S512x512 .bf16) : FVec F S512x256 .bf16 := k0_pay94 i (blkQ x0 ![0, 0] inb_S512x512_S512x128_0_0)
def q1 (x0 : Vec F S512x512 .bf16) : FVec F S512x256 .bf16 := k0_pay95 i (blkQ x0 ![0, 128] inb_S512x512_S512x128_0_128)
def q2 (x0 : Vec F S512x512 .bf16) : FVec F S512x256 .bf16 :=
  k0_pay98 (Scalar.addi (Scalar.muli (BitVec.ofNat 32 (i 1).val) 4#32) 2#32) k0_pay96 k0_pay97 (blkQ x0 ![0, 256] inb_S512x512_S512x128_0_256)
def q3 (x0 : Vec F S512x512 .bf16) : FVec F S512x256 .bf16 :=
  k0_pay99 (BitVec.ofNat 32 (i 1).val) (iota .tc S512x128 32 [1] iota_S512x128_d1_w32) (blkQ x0 ![0, 384] inb_S512x512_S512x128_0_384)

/-- One trip of the loop over pairs of full key blocks. -/
def tripV (x0 : Vec F S512x512 .bf16) (x1 x2 : Vec F S4096x512 .bf16) (x3 : Vec F S4096x128 .bf16) (k : Fin (k0_t1_loop i).trips) (s : Carry F) : Carry F :=
  let cA := blkC x3 (k0_off2 i k) (k0_off2_inb i k)
  let cB := blkC x3 (k0_off4 i k) (k0_off4_inb i k)
  let s0 := k0_pay4 (q0 i x0) (blkA x1 (k0_off1 i k) (k0_off1_inb i k)) cA (blkA x1 (k0_off3 i k) (k0_off3_inb i k)) cB
  let s1 := k0_pay4 (q1 i x0) (blkA x1 (k0_off5 i k) (k0_off5_inb i k)) cA (blkA x1 (k0_off6 i k) (k0_off6_inb i k)) cB
  let s2 := k0_pay4 (q2 i x0) (blkA x1 (k0_off7 i k) (k0_off7_inb i k)) cA (blkA x1 (k0_off8 i k) (k0_off8_inb i k)) cB
  let s3 := k0_pay4 (q3 i x0) (blkA x1 (k0_off9 i k) (k0_off9_inb i k)) cA (blkA x1 (k0_off10 i k) (k0_off10_inb i k)) cB
  let (m0, l0, a0, m1, l1, a1, m2, l2, a2, m3, l3, a3) := s
  (mW s0 m0, lW s0 m0 l0, aW s0 m0 a0 (vW (blkA x2 (k0_off1 i k) (k0_off1_inb i k)) (blkA x2 (k0_off3 i k) (k0_off3_inb i k))),
   mW s1 m1, lW s1 m1 l1, aW s1 m1 a1 (vW (blkA x2 (k0_off5 i k) (k0_off5_inb i k)) (blkA x2 (k0_off6 i k) (k0_off6_inb i k))),
   mW s2 m2, lW s2 m2 l2, aW s2 m2 a2 (vW (blkA x2 (k0_off7 i k) (k0_off7_inb i k)) (blkA x2 (k0_off8 i k) (k0_off8_inb i k))),
   mW s3 m3, lW s3 m3 l3, aW s3 m3 a3 (vW (blkA x2 (k0_off9 i k) (k0_off9_inb i k)) (blkA x2 (k0_off10 i k) (k0_off10_inb i k))))

theorem trip_eq (𝒱 : Variants) (bd : Option 𝒱.V) (g : BitVec 32) (v61 v62 v64 v65 v67 v68 v70 v71 : FVec F S512x1 .f32) (v63 v66 v69 v72 : FVec F S512x128 .f32)
    (x0 : Vec F S512x512 .bf16) (k : Fin (k0_t1_loop i).trips) (s : Carry F) :
    tripR_k0_t1 (F := F) 𝒱 c bd i arg3 h3 arg4 h4 arg5 h5 arg6 h6 arg7 h7 g (q0 i x0) (q1 i x0) (q2 i x0) (q3 i x0) v61 v62 v63 v64 v65 v66 v67 v68 v69 v70 v71 v72 f4 f5 f6 k s
      = tripV i x0 (arg4.view.read (Elt F) f4) (arg5.view.read (Elt F) f5) (arg6.view.read (Elt F) f6) k s := by
  unfold tripR_k0_t1 trip_k0_t1
  rfl

end run

theorem trips1 (i : grid0.Coords) : (k0_t1_loop i).trips = (i 2).val / 2 := by
  have h : ∀ n : Fin 8, ∀ j : grid0.Coords, (j 2).val = n.val → (k0_t1_loop j).trips = n.val / 2 := by
    intro n j hj
    unfold k0_t1_loop
    rw [hj]
    fin_cases n <;> decide
  exact h (i 2) i rfl
theorem trips2 (i : grid0.Coords) : (k0_t2_loop i).trips = 0 := by
  have h : ∀ n : Fin 8, ∀ j : grid0.Coords, (j 2).val = n.val → (k0_t2_loop j).trips = 0 := by
    intro n j hj
    unfold k0_t2_loop
    rw [hj]
    fin_cases n <;> decide
  exact h (i 2) i rfl
theorem cond1_iff (i : grid0.Coords) : k0_cond1 i = 1#1 ↔ (i 2).val % 2 = 1 := by
  have h : ∀ n : Fin 8, ∀ j : grid0.Coords, (j 2).val = n.val → (k0_cond1 j = 1#1 ↔ n.val % 2 = 1) := by
    intro n j hj
    unfold k0_cond1
    rw [hj]
    fin_cases n <;> decide
  exact h (i 2) i rfl

/-- The carried values before trip `k`. -/
def stV (i : grid0.Coords) (x0 : Vec F S512x512 .bf16) (x1 x2 : Vec F S4096x512 .bf16) (x3 : Vec F S4096x128 .bf16) : ℕ → Carry F
  | 0 => init
  | k + 1 => if h : k < (k0_t1_loop i).trips then tripV i x0 x1 x2 x3 ⟨k, h⟩ (stV i x0 x1 x2 x3 k) else stV i x0 x1 x2 x3 k

section run

variable (c : Dev nD) (i : grid0.Coords)
    (arg3 : Memref sig .tc .vmem S512x512 .bf16) (h3 : arg3.IsWhole) (arg4 : Memref sig .tc .vmem S4096x512 .bf16) (h4 : arg4.IsWhole)
    (arg5 : Memref sig .tc .vmem S4096x512 .bf16) (h5 : arg5.IsWhole) (arg6 : Memref sig .tc .vmem S4096x128 .bf16) (h6 : arg6.IsWhole)
    (arg7 : Memref sig .tc .vmem S512x512 .bf16) (h7 : arg7.IsWhole)
    (f3 : BufTy.Contents (Elt F) arg3.view.ty) (f4 : BufTy.Contents (Elt F) arg4.view.ty)
    (f5 : BufTy.Contents (Elt F) arg5.view.ty) (f6 : BufTy.Contents (Elt F) arg6.view.ty)

/-- The run's state before trip `k`. -/
abbrev stR (x0 : Vec F S512x512 .bf16) (k : ℕ) : Carry F :=
  st_k0_t1 Variants.none c none i arg3 h3 arg4 h4 arg5 h5 arg6 h6 arg7 h7 (BitVec.ofNat 32 (i 2).val) (q0 i x0) (q1 i x0) (q2 i x0) (q3 i x0)
    k0_pay100 k0_pay101 k0_pay102 k0_pay103 k0_pay104 k0_pay105 k0_pay106 k0_pay107 k0_pay108 k0_pay109 k0_pay110 k0_pay111 f4 f5 f6 init k

theorem stR_eq (x0 : Vec F S512x512 .bf16) (k : ℕ) (hk : k ≤ (k0_t1_loop i).trips) :
    stR c i arg3 h3 arg4 h4 arg5 h5 arg6 h6 arg7 h7 f4 f5 f6 x0 k
      = stV i x0 (arg4.view.read (Elt F) f4) (arg5.view.read (Elt F) f5) (arg6.view.read (Elt F) f6) k := by
  induction k with
  | zero => rfl
  | succ k ih =>
    have h := st_k0_t1_succ Variants.none c none i arg3 h3 arg4 h4 arg5 h5 arg6 h6 arg7 h7 (BitVec.ofNat 32 (i 2).val) (q0 i x0) (q1 i x0) (q2 i x0) (q3 i x0)
      k0_pay100 k0_pay101 k0_pay102 k0_pay103 k0_pay104 k0_pay105 k0_pay106 k0_pay107 k0_pay108 k0_pay109 k0_pay110 k0_pay111 f4 f5 f6 init ⟨k, hk⟩
    refine h.trans ?_
    rw [trip_eq]
    unfold stV
    rw [dif_pos (show k < (k0_t1_loop i).trips from hk)]
    exact congrArg _ (ih (Nat.le_of_succ_le hk))

end run

/-- The output block's pieces: four columns of 128 lanes. -/
def pieces (o0 o1 o2 o3 : FVec F S512x128 .bf16) : List (View.Piece (Elt F) S512x512 .bf16) :=
  [⟨Rect.unit ![0, 384] ![512, 128] inb_S512x512_S512x128_0_384, o3⟩, ⟨Rect.unit ![0, 256] ![512, 128] inb_S512x512_S512x128_0_256, o2⟩,
   ⟨Rect.unit ![0, 128] ![512, 128] inb_S512x512_S512x128_0_128, o1⟩, ⟨Rect.unit ![0, 0] ![512, 128] inb_S512x512_S512x128_0_0, o0⟩]

/-- The block left at an odd query tile, from what the loop carries out. -/
def oddV (i : grid0.Coords) (hc : k0_cond1 i = 1#1) (x0 : Vec F S512x512 .bf16) (x1 x2 : Vec F S4096x512 .bf16) (x3 : Vec F S4096x128 .bf16)
    (s : Carry F) : List (View.Piece (Elt F) S512x512 .bf16) :=
  let cA := blkC x3 (k0_off22 i) (k0_off22_inb i hc)
  let cB := blkC x3 (k0_off24 i) (k0_off24_inb i hc)
  let s0 := k0_pay54 (q0 i x0) (blkA x1 (k0_off21 i) (k0_off21_inb i hc)) cA (blkA x1 (k0_off23 i) (k0_off23_inb i hc)) cB
  let s1 := k0_pay54 (q1 i x0) (blkA x1 (k0_off25 i) (k0_off25_inb i hc)) cA (blkA x1 (k0_off26 i) (k0_off26_inb i hc)) cB
  let s2 := k0_pay54 (q2 i x0) (blkA x1 (k0_off27 i) (k0_off27_inb i hc)) cA (blkA x1 (k0_off28 i) (k0_off28_inb i hc)) cB
  let s3 := k0_pay54 (q3 i x0) (blkA x1 (k0_off29 i) (k0_off29_inb i hc)) cA (blkA x1 (k0_off30 i) (k0_off30_inb i hc)) cB
  let (m0, l0, a0, m1, l1, a1, m2, l2, a2, m3, l3, a3) := s
  pieces
    (oH (lW s0 m0 l0) (aW s0 m0 a0 (vW (blkA x2 (k0_off21 i) (k0_off21_inb i hc)) (blkA x2 (k0_off23 i) (k0_off23_inb i hc)))))
    (oH (lW s1 m1 l1) (aW s1 m1 a1 (vW (blkA x2 (k0_off25 i) (k0_off25_inb i hc)) (blkA x2 (k0_off26 i) (k0_off26_inb i hc)))))
    (oH (lW s2 m2 l2) (aW s2 m2 a2 (vW (blkA x2 (k0_off27 i) (k0_off27_inb i hc)) (blkA x2 (k0_off28 i) (k0_off28_inb i hc)))))
    (oH (lW s3 m3 l3) (aW s3 m3 a3 (vW (blkA x2 (k0_off29 i) (k0_off29_inb i hc)) (blkA x2 (k0_off30 i) (k0_off30_inb i hc)))))

/-- The block left at an even query tile, from what the loop carries out. -/
def evenV (i : grid0.Coords) (hc : ¬ k0_cond1 i = 1#1) (x0 : Vec F S512x512 .bf16) (x1 x2 : Vec F S4096x512 .bf16) (x3 : Vec F S4096x128 .bf16)
    (s : Carry F) : List (View.Piece (Elt F) S512x512 .bf16) :=
  let cA := blkC x3 (k0_off32 i) (k0_off32_inb i hc)
  let s0 := k0_pay75 (q0 i x0) (blkA x1 (k0_off31 i) (k0_off31_inb i hc)) cA
  let s1 := k0_pay75 (q1 i x0) (blkA x1 (k0_off33 i) (k0_off33_inb i hc)) cA
  let s2 := k0_pay75 (q2 i x0) (blkA x1 (k0_off34 i) (k0_off34_inb i hc)) cA
  let s3 := k0_pay75 (q3 i x0) (blkA x1 (k0_off35 i) (k0_off35_inb i hc)) cA
  let (m0, l0, a0, m1, l1, a1, m2, l2, a2, m3, l3, a3) := s
  pieces
    (oH (lN s0 m0 l0) (aN s0 m0 a0 (blkA x2 (k0_off31 i) (k0_off31_inb i hc))))
    (oH (lN s1 m1 l1) (aN s1 m1 a1 (blkA x2 (k0_off33 i) (k0_off33_inb i hc))))
    (oH (lN s2 m2 l2) (aN s2 m2 a2 (blkA x2 (k0_off34 i) (k0_off34_inb i hc))))
    (oH (lN s3 m3 l3) (aN s3 m3 a3 (blkA x2 (k0_off35 i) (k0_off35_inb i hc))))

section run

variable (c : Dev nD) (i : grid0.Coords)
    (arg3 : Memref sig .tc .vmem S512x512 .bf16) (h3 : arg3.IsWhole) (arg4 : Memref sig .tc .vmem S4096x512 .bf16) (h4 : arg4.IsWhole)
    (arg5 : Memref sig .tc .vmem S4096x512 .bf16) (h5 : arg5.IsWhole) (arg6 : Memref sig .tc .vmem S4096x128 .bf16) (h6 : arg6.IsWhole)
    (arg7 : Memref sig .tc .vmem S512x512 .bf16) (h7 : arg7.IsWhole)
    (f3 : BufTy.Contents (Elt F) arg3.view.ty) (f4 : BufTy.Contents (Elt F) arg4.view.ty)
    (f5 : BufTy.Contents (Elt F) arg5.view.ty) (f6 : BufTy.Contents (Elt F) arg6.view.ty)

theorem rawOdd : (st_k0_t1 Variants.none c none i arg3 h3 arg4 h4 arg5 h5 arg6 h6 arg7 h7 (BitVec.ofNat 32 (i 2).val) (runOdd.sl.r i arg3 f3) (runOdd.sl.r_1 i arg3 f3) (runOdd.sl.r_2 i arg3 f3) (runOdd.sl.r_3 i arg3 f3)
    k0_pay100 k0_pay101 k0_pay102 k0_pay103 k0_pay104 k0_pay105 k0_pay106 k0_pay107 k0_pay108 k0_pay109 k0_pay110 k0_pay111 f4 f5 f6
    (k0_pay100, k0_pay101, k0_pay102, k0_pay103, k0_pay104, k0_pay105, k0_pay106, k0_pay107, k0_pay108, k0_pay109, k0_pay110, k0_pay111)
    (Scf.trips (k0_t1_loop i).lb (k0_t1_loop i).ub (k0_t1_loop i).st))
    = stR c i arg3 h3 arg4 h4 arg5 h5 arg6 h6 arg7 h7 f4 f5 f6 (arg3.view.read (Elt F) f3) (k0_t1_loop i).trips := by
  unfold stR
  rfl

theorem odd_pieces (hc : k0_cond1 i = 1#1) :
    runOdd.sl.H7_4 c i arg3 h3 arg4 h4 arg5 h5 arg6 h6 arg7 h7 f3 f4 f5 f6 hc
      = oddV i hc (arg3.view.read (Elt F) f3) (arg4.view.read (Elt F) f4) (arg5.view.read (Elt F) f5) (arg6.view.read (Elt F) f6)
          (stR c i arg3 h3 arg4 h4 arg5 h5 arg6 h6 arg7 h7 f4 f5 f6 (arg3.view.read (Elt F) f3) (k0_t1_loop i).trips) := by
  have h2 : Scf.trips (k0_t2_loop i).lb (k0_t2_loop i).ub (k0_t2_loop i).st = 0 := trips2 i
  simp only [runOdd.sl.H7_4, runOdd.sl.r_4, runOdd.sl.r_5, runOdd.sl.r_6, runOdd.sl.r_7, runOdd.sl.r_8, runOdd.sl.r_9, runOdd.sl.r_10, runOdd.sl.r_11, runOdd.sl.r_12, runOdd.sl.r_13, runOdd.sl.r_14, runOdd.sl.r_15, runOdd.sl.r_16, runOdd.sl.r_17, runOdd.sl.r_18, runOdd.sl.r_19, h2, st_k0_t2_zero]
  rw [← rawOdd]
  generalize (st_k0_t1 Variants.none c none i arg3 h3 arg4 h4 arg5 h5 arg6 h6 arg7 h7 (BitVec.ofNat 32 (i 2).val) (runOdd.sl.r i arg3 f3) (runOdd.sl.r_1 i arg3 f3) (runOdd.sl.r_2 i arg3 f3) (runOdd.sl.r_3 i arg3 f3)
    k0_pay100 k0_pay101 k0_pay102 k0_pay103 k0_pay104 k0_pay105 k0_pay106 k0_pay107 k0_pay108 k0_pay109 k0_pay110 k0_pay111 f4 f5 f6
    (k0_pay100, k0_pay101, k0_pay102, k0_pay103, k0_pay104, k0_pay105, k0_pay106, k0_pay107, k0_pay108, k0_pay109, k0_pay110, k0_pay111)
    (Scf.trips (k0_t1_loop i).lb (k0_t1_loop i).ub (k0_t1_loop i).st)) = S
  obtain ⟨m0, l0, a0, m1, l1, a1, m2, l2, a2, m3, l3, a3⟩ := S
  rfl

theorem rawEven : (st_k0_t1 Variants.none c none i arg3 h3 arg4 h4 arg5 h5 arg6 h6 arg7 h7 (BitVec.ofNat 32 (i 2).val) (runEven.sl.r i arg3 f3) (runEven.sl.r_1 i arg3 f3) (runEven.sl.r_2 i arg3 f3) (runEven.sl.r_3 i arg3 f3)
    k0_pay100 k0_pay101 k0_pay102 k0_pay103 k0_pay104 k0_pay105 k0_pay106 k0_pay107 k0_pay108 k0_pay109 k0_pay110 k0_pay111 f4 f5 f6
    (k0_pay100, k0_pay101, k0_pay102, k0_pay103, k0_pay104, k0_pay105, k0_pay106, k0_pay107, k0_pay108, k0_pay109, k0_pay110, k0_pay111)
    (Scf.trips (k0_t1_loop i).lb (k0_t1_loop i).ub (k0_t1_loop i).st))
    = stR c i arg3 h3 arg4 h4 arg5 h5 arg6 h6 arg7 h7 f4 f5 f6 (arg3.view.read (Elt F) f3) (k0_t1_loop i).trips := by
  unfold stR
  rfl

theorem even_pieces (hc : ¬ k0_cond1 i = 1#1) :
    runEven.sl.H7_4 c i arg3 h3 arg4 h4 arg5 h5 arg6 h6 arg7 h7 f3 f4 f5 f6 hc
      = evenV i hc (arg3.view.read (Elt F) f3) (arg4.view.read (Elt F) f4) (arg5.view.read (Elt F) f5) (arg6.view.read (Elt F) f6)
          (stR c i arg3 h3 arg4 h4 arg5 h5 arg6 h6 arg7 h7 f4 f5 f6 (arg3.view.read (Elt F) f3) (k0_t1_loop i).trips) := by
  have h2 : Scf.trips (k0_t2_loop i).lb (k0_t2_loop i).ub (k0_t2_loop i).st = 0 := trips2 i
  simp only [runEven.sl.H7_4, runEven.sl.r_4, runEven.sl.r_5, runEven.sl.r_6, runEven.sl.r_7, runEven.sl.r_8, runEven.sl.r_9, runEven.sl.r_10, runEven.sl.r_11, runEven.sl.r_12, runEven.sl.r_13, runEven.sl.r_14, runEven.sl.r_15, runEven.sl.r_16, runEven.sl.r_17, h2, st_k0_t2_zero]
  rw [← rawEven]
  generalize (st_k0_t1 Variants.none c none i arg3 h3 arg4 h4 arg5 h5 arg6 h6 arg7 h7 (BitVec.ofNat 32 (i 2).val) (runEven.sl.r i arg3 f3) (runEven.sl.r_1 i arg3 f3) (runEven.sl.r_2 i arg3 f3) (runEven.sl.r_3 i arg3 f3)
    k0_pay100 k0_pay101 k0_pay102 k0_pay103 k0_pay104 k0_pay105 k0_pay106 k0_pay107 k0_pay108 k0_pay109 k0_pay110 k0_pay111 f4 f5 f6
    (k0_pay100, k0_pay101, k0_pay102, k0_pay103, k0_pay104, k0_pay105, k0_pay106, k0_pay107, k0_pay108, k0_pay109, k0_pay110, k0_pay111)
    (Scf.trips (k0_t1_loop i).lb (k0_t1_loop i).ub (k0_t1_loop i).st)) = S
  obtain ⟨m0, l0, a0, m1, l1, a1, m2, l2, a2, m3, l3, a3⟩ := S
  rfl

end run

/-- The output block at a grid point, from the four input blocks. -/
def outV (i : grid0.Coords) (x0 : Vec F S512x512 .bf16) (x1 x2 : Vec F S4096x512 .bf16) (x3 : Vec F S4096x128 .bf16) : Vec F S512x512 .bf16 :=
  View.canon (if hc : k0_cond1 i = 1#1 then oddV i hc x0 x1 x2 x3 (stV i x0 x1 x2 x3 (k0_t1_loop i).trips)
    else evenV i hc x0 x1 x2 x3 (stV i x0 x1 x2 x3 (k0_t1_loop i).trips))

theorem outBlk_eq (c : Dev nD) (i : grid0.Coords)
    (arg3 : Memref sig .tc .vmem S512x512 .bf16) (h3 : arg3.IsWhole) (arg4 : Memref sig .tc .vmem S4096x512 .bf16) (h4 : arg4.IsWhole)
    (arg5 : Memref sig .tc .vmem S4096x512 .bf16) (h5 : arg5.IsWhole) (arg6 : Memref sig .tc .vmem S4096x128 .bf16) (h6 : arg6.IsWhole)
    (arg7 : Memref sig .tc .vmem S512x512 .bf16) (h7 : arg7.IsWhole)
    (x0 : Vec F S512x512 .bf16) (x1 x2 : Vec F S4096x512 .bf16) (x3 : Vec F S4096x128 .bf16) :
    outBlk c i arg3 h3 arg4 h4 arg5 h5 arg6 h6 arg7 h7 x0 x1 x2 x3 = outV i x0 x1 x2 x3 := by
  unfold outBlk outV
  split
  · next hc =>
    unfold runOdd
    refine (View.read_writes_junk_eq_canon arg7.view _).trans ?_
    rw [odd_pieces, stR_eq _ _ _ _ _ _ _ _ _ _ _ _ _ _ _ _ _ le_rfl, h3.read_unread, h4.read_unread, h5.read_unread, h6.read_unread]
  · next hc =>
    unfold runEven
    refine (View.read_writes_junk_eq_canon arg7.view _).trans ?_
    rw [even_pieces, stR_eq _ _ _ _ _ _ _ _ _ _ _ _ _ _ _ _ _ le_rfl, h3.read_unread, h4.read_unread, h5.read_unread, h6.read_unread]

theorem outAt_eq (c : Dev nD) (t : Fin cfg0.N) (x0 : Vec F S512x512 .bf16) (x1 x2 : Vec F S4096x512 .bf16) (x3 : Vec F S4096x128 .bf16) :
    outAt c t x0 x1 x2 x3 = outV (grid0.coords t) x0 x1 x2 x3 := outBlk_eq _ _ _ _ _ _ _ _ _ _ _ _ _ _ _ _

end Cert.Attn
-- ==== Proof.Logit.lean ====
/-
  The logits of the attention body read at an entry, over the extended reals.
-/
module

public import proofs.«01_k».proof.Proof.Step
public import Idealize.ShloMosaic.Lib.Pointwise

@[expose] public section

set_option maxRecDepth 16384

noncomputable section

namespace Cert.Attn

open Cert.KernelIdeal Cert.KernelIdeal.Gen
open Idealize.ShloMosaic Idealize.ShloMosaic.TcCoe Idealize.ShloMosaic.Tactic

variable {F : FTy → Type} [FloatOps F]

/-- A head's queries beside its mask columns: −1 in the three lanes of the table that hold this head's forgetting. -/
def qx (n : BitVec 32) (v : Vec F S512x128 .bf16) : FVec F S512x256 .bf16 :=
  concatenate S512x256 1 [⟨S512x128, v⟩, ⟨S512x128, truncf .bf16 (select
    (andi (cmpi .slt (iota .tc S512x128 32 [1] iota_S512x128_d1_w32) (broadcast S512x128 24#32))
      (cmpi .eq (andi (iota .tc S512x128 32 [1] iota_S512x128_d1_w32) (broadcast S512x128 7#32)) (broadcast S512x128 n)))
    (broadcast S512x128 (Scalar.ofBits .f32 0xBF800000#32 : F .f32)) (broadcast S512x128 (Scalar.ofBits .f32 0x00000000#32 : F .f32))) bitsLt_bf16_f32⟩]
    concatenates_S512x128_S512x128_S512x256_d1

/-- The word of head `h` of the group of four at grid point `i`. -/
def hd (i : grid0.Coords) (h : BitVec 32) : BitVec 32 := Scalar.addi (Scalar.muli (BitVec.ofNat 32 (i 1).val) 4#32) h

theorem q0_eq (i : grid0.Coords) (x0 : Vec F S512x512 .bf16) : q0 i x0 = qx (hd i 0#32) (blkQ x0 ![0, 0] inb_S512x512_S512x128_0_0) := rfl
theorem q1_eq (i : grid0.Coords) (x0 : Vec F S512x512 .bf16) : q1 i x0 = qx (hd i 1#32) (blkQ x0 ![0, 128] inb_S512x512_S512x128_0_128) := rfl
theorem q2_eq (i : grid0.Coords) (x0 : Vec F S512x512 .bf16) : q2 i x0 = qx (hd i 2#32) (blkQ x0 ![0, 256] inb_S512x512_S512x128_0_256) := rfl
theorem q3_eq (i : grid0.Coords) (x0 : Vec F S512x512 .bf16) : q3 i x0 = qx (hd i 3#32) (blkQ x0 ![0, 384] inb_S512x512_S512x128_0_384) := rfl

/-- An array read at any two numbers, 0 outside. -/
def at2 {a b : ℕ} (x : (⟨2, ![a, b]⟩ : Shape).Idx → EReal) (r c : ℕ) : EReal := if h : r < a ∧ c < b then x (ix2 ⟨r, h.1⟩ ⟨c, h.2⟩) else 0

theorem blkA_apply (x : Vec Ideal S4096x512 .bf16) (off : Fin 2 → ℕ) (h) (j : Fin 512) (d : Fin 128) :
    blkA x off h (ix2 j d) = at2 (a := 4096) (b := 512) x (off 0 + j) (off 1 + d) := by
  have h0 := h 0; have h1 := h 1
  unfold at2
  rw [dif_pos ⟨by have := j.isLt; simp at h0; omega, by have := d.isLt; simp at h1; omega⟩]
  unfold blkA View.ld
  congr 1
  funext a; fin_cases a <;> (apply Fin.ext; simp [ix2, Rect.emb, Rect.unit])
theorem blkC_apply (x : Vec Ideal S4096x128 .bf16) (off : Fin 2 → ℕ) (h) (j : Fin 512) (d : Fin 128) :
    blkC x off h (ix2 j d) = at2 (a := 4096) (b := 128) x (off 0 + j) (off 1 + d) := by
  have h0 := h 0; have h1 := h 1
  unfold at2
  rw [dif_pos ⟨by have := j.isLt; simp at h0; omega, by have := d.isLt; simp at h1; omega⟩]
  unfold blkC View.ld
  congr 1
  funext a; fin_cases a <;> (apply Fin.ext; simp [ix2, Rect.emb, Rect.unit])
theorem blkQ_apply (x : Vec Ideal S512x512 .bf16) (off : Fin 2 → ℕ) (h) (j : Fin 512) (d : Fin 128) :
    blkQ x off h (ix2 j d) = at2 (a := 512) (b := 512) x (off 0 + j) (off 1 + d) := by
  have h0 := h 0; have h1 := h 1
  unfold at2
  rw [dif_pos ⟨by have := j.isLt; simp at h0; omega, by have := d.isLt; simp at h1; omega⟩]
  unfold blkQ View.ld
  congr 1
  funext a; fin_cases a <;> (apply Fin.ext; simp [ix2, Rect.emb, Rect.unit])

/-- The mask column `l` of a head of word `n`. -/
def sel (n : BitVec 32) (l : ℕ) : EReal :=
  Scalar.select (IntOp.andi (IntOp.cmpi .slt (BitVec.ofNat 32 l) 24#32) (IntOp.cmpi .eq (IntOp.andi (BitVec.ofNat 32 l) 7#32) n)) (-1) 0

theorem neg_one : Ideal.ofBits .f32 0xBF800000#32 = -1 := by
  simp [Ideal.ofBits, Ideal.ieee, -EReal.coe_mul]; norm_num
theorem neg_inf : Ideal.ofBits .f32 0xFF800000#32 = ⊥ := by
  simp [Ideal.ofBits, Ideal.ieee]

theorem qx_apply (n : BitVec 32) (v : Vec Ideal S512x128 .bf16) (r : Fin 512) (d : Fin 256) :
    qx n v (ix2 r d) = if h : d.val < 128 then v (ix2 r ⟨d, h⟩) else sel n (d - 128) := by
  unfold qx sel
  pointwise [neg_one]

/-- A row of queries with its mask columns against a key row with its table row. -/
def dot2 (q : FVec Ideal S512x256 .bf16) (k c : Vec Ideal S512x128 .bf16) (r j : Fin 512) : EReal :=
  (∑ x : Fin 128, q (ix2 r ⟨x, by omega⟩) * k (ix2 j x)) + ∑ x : Fin 128, q (ix2 r ⟨128 + x, by omega⟩) * c (ix2 j x)

theorem pay4_apply (q : FVec Ideal S512x256 .bf16) (kA cA kB cB : Vec Ideal S512x128 .bf16) (r : Fin 512) (j : Fin 1024) :
    k0_pay4 q kA cA kB cB (ix2 r j) = if h : j.val < 512 then dot2 q kA cA r ⟨j, h⟩ else dot2 q kB cB r ⟨j - 512, by omega⟩ := by
  unfold k0_pay4 dot2
  pointwise
  split <;> rfl

theorem sle_sub (j r b : ℕ) (hj : j < 1024) (hr : r < 512) (hb : b ≤ 512) :
    IntOp.cmpi .sle (IntOp.subi (BitVec.ofNat 32 j) (BitVec.ofNat 32 b)) (BitVec.ofNat 32 r) = 1#1 ↔ j ≤ r + b := by
  have h1 : (BitVec.ofNat 32 j - BitVec.ofNat 32 b).toInt = (j : ℤ) - b := by
    rw [BitVec.toInt_sub]
    have hj' : (BitVec.ofNat 32 j).toInt = j := by rw [BitVec.toInt_eq_toNat_bmod, BitVec.toNat_ofNat, Int.bmod_def]; omega
    have hb' : (BitVec.ofNat 32 b).toInt = b := by rw [BitVec.toInt_eq_toNat_bmod, BitVec.toNat_ofNat, Int.bmod_def]; omega
    rw [hj', hb', Int.bmod_def]; omega
  have h2 : (BitVec.ofNat 32 r).toInt = r := by rw [BitVec.toInt_eq_toNat_bmod, BitVec.toNat_ofNat, Int.bmod_def]; omega
  have h3 : IntOp.cmpi .sle (IntOp.subi (BitVec.ofNat 32 j) (BitVec.ofNat 32 b)) (BitVec.ofNat 32 r)
      = BitVec.ofBool ((BitVec.ofNat 32 j - BitVec.ofNat 32 b).sle (BitVec.ofNat 32 r)) := rfl
  rw [h3, BitVec.sle_eq_decide, h1, h2]
  by_cases h : j ≤ r + b
  · have h' : (j : ℤ) - b ≤ r := by omega
    simp [h, h']
  · have h' : ¬ (j : ℤ) - b ≤ r := by omega
    simp [h, h']

theorem pay54_apply (q : FVec Ideal S512x256 .bf16) (kA cA kB cB : Vec Ideal S512x128 .bf16) (r : Fin 512) (j : Fin 1024) :
    k0_pay54 q kA cA kB cB (ix2 r j)
      = if j.val ≤ r.val + 512 then (if h : j.val < 512 then dot2 q kA cA r ⟨j, h⟩ else dot2 q kB cB r ⟨j - 512, by omega⟩) else ⊥ := by
  unfold k0_pay54 dot2
  pointwise [neg_inf]
  unfold Scalar.select
  have h := sle_sub j.val r.val 512 j.isLt r.isLt le_rfl
  by_cases hj : j.val ≤ r.val + 512
  · rw [if_pos hj]
    refine (if_pos (h.2 hj)).trans ?_
    split <;> rfl
  · rw [if_neg hj]
    exact if_neg (fun e => hj (h.1 e))
theorem pay75_apply (q : FVec Ideal S512x256 .bf16) (kA cA : Vec Ideal S512x128 .bf16) (r : Fin 512) (j : Fin 512) :
    k0_pay75 q kA cA (ix2 r j) = if j.val ≤ r.val then dot2 q kA cA r j else ⊥ := by
  unfold k0_pay75 dot2
  pointwise [neg_inf]
  unfold Scalar.select
  have h := sle_sub j.val r.val 0 (by omega) r.isLt (by omega)
  by_cases hj : j.val ≤ r.val
  · rw [if_pos hj]
    exact if_pos (h.2 hj)
  · rw [if_neg hj]
    exact if_neg (fun e => hj (h.1 e))

/-- The logit of the block's row `r` at the batch's key `J`, for the head at lane `L` of word `n`. -/
def lg (x0 : Vec Ideal S512x512 .bf16) (x1 : Vec Ideal S4096x512 .bf16) (x3 : Vec Ideal S4096x128 .bf16) (L : ℕ) (n : BitVec 32) (r J : ℕ) : EReal :=
  (∑ x : Fin 128, at2 (a := 512) (b := 512) x0 r (L + x) * at2 (a := 4096) (b := 512) x1 J (L + x)) + ∑ x : Fin 128, sel n x * at2 (a := 4096) (b := 128) x3 J x

theorem dot2_eq (x0 : Vec Ideal S512x512 .bf16) (x1 : Vec Ideal S4096x512 .bf16) (x3 : Vec Ideal S4096x128 .bf16) (L : ℕ) (n : BitVec 32)
    (hq) (offK : Fin 2 → ℕ) (hk) (offC : Fin 2 → ℕ) (hc) (b : ℕ) (hK : offK = ![b, L]) (hC : offC = ![b, 0]) (r j : Fin 512) :
    dot2 (qx n (blkQ x0 ![0, L] hq)) (blkA x1 offK hk) (blkC x3 offC hc) r j = lg x0 x1 x3 L n r (b + j) := by
  subst hK; subst hC
  unfold dot2 lg
  congr 1
  · refine Finset.sum_congr rfl fun x _ => ?_
    rw [qx_apply, dif_pos x.isLt, blkQ_apply, blkA_apply]
    simp
  · refine Finset.sum_congr rfl fun x _ => ?_
    rw [qx_apply, dif_neg (by simp), blkC_apply]
    simp

theorem hd_sel : ∀ (g : Fin 2) (h : Fin 4) (l : Fin 128),
    (IntOp.andi (IntOp.cmpi .slt (BitVec.ofNat 32 l) 24#32)
      (IntOp.cmpi .eq (IntOp.andi (BitVec.ofNat 32 l) 7#32) (Scalar.addi (Scalar.muli (BitVec.ofNat 32 g.val) 4#32) (BitVec.ofNat 32 h))) = 1#1)
      ↔ (l.val < 24 ∧ l.val % 8 = 4 * g.val + h.val) := by
  decide +kernel

theorem sel_eq (i : grid0.Coords) (h : Fin 4) (l : Fin 128) :
    sel (hd i (BitVec.ofNat 32 h)) l = if l.val < 24 ∧ l.val % 8 = 4 * (i 1).val + h.val then -1 else 0 := by
  unfold sel Scalar.select hd
  exact if_congr (hd_sel (i 1) h l) rfl rfl

end Cert.Attn
-- ==== Proof.Entry.lean ====
/-
  The steps of the attention body read at an entry, over the extended reals.
-/
module

public import proofs.«01_k».proof.Proof.Logit

@[expose] public section

set_option maxRecDepth 16384

noncomputable section

namespace Cert.Attn

open Cert.KernelIdeal Cert.KernelIdeal.Gen
open Idealize.ShloMosaic Idealize.ShloMosaic.TcCoe Idealize.ShloMosaic.Tactic

theorem mW_apply (s : FVec Ideal S512x1024 .f32) (m : FVec Ideal S512x1 .f32) (r : Fin 512) :
    mW s m (ix2 r 0) = max (m (ix2 r 0)) (Finset.univ.fold max ⊥ fun k : Fin 1024 => s (ix2 r k)) := by
  unfold mW
  pointwise [neg_inf]
theorem pW_apply (s : FVec Ideal S512x1024 .f32) (m : FVec Ideal S512x1 .f32) (r : Fin 512) (k : Fin 1024) :
    pW s m (ix2 r k) = Ideal.exp2 (s (ix2 r k) - mW s m (ix2 r 0)) := by
  unfold pW
  pointwise
  rfl
theorem eW_apply (s : FVec Ideal S512x1024 .f32) (m : FVec Ideal S512x1 .f32) (r : Fin 512) :
    eW s m (ix2 r 0) = Ideal.exp2 (m (ix2 r 0) - mW s m (ix2 r 0)) := by
  unfold eW
  pointwise
  rfl
theorem lW_apply (s : FVec Ideal S512x1024 .f32) (m l : FVec Ideal S512x1 .f32) (r : Fin 512) :
    lW s m l (ix2 r 0) = eW s m (ix2 r 0) * l (ix2 r 0) + ∑ k : Fin 1024, pW s m (ix2 r k) := by
  unfold lW
  pointwise
theorem aW_apply (s : FVec Ideal S512x1024 .f32) (m : FVec Ideal S512x1 .f32) (a : FVec Ideal S512x128 .f32) (v : FVec Ideal S1024x128 .bf16)
    (r : Fin 512) (d : Fin 128) :
    aW s m a v (ix2 r d) = eW s m (ix2 r 0) * a (ix2 r d) + ∑ k : Fin 1024, pW s m (ix2 r k) * v (ix2 k d) := by
  unfold aW
  pointwise
theorem mN_apply (s : FVec Ideal S512x512 .f32) (m : FVec Ideal S512x1 .f32) (r : Fin 512) :
    mN s m (ix2 r 0) = max (m (ix2 r 0)) (Finset.univ.fold max ⊥ fun k : Fin 512 => s (ix2 r k)) := by
  unfold mN
  pointwise [neg_inf]
theorem pN_apply (s : FVec Ideal S512x512 .f32) (m : FVec Ideal S512x1 .f32) (r : Fin 512) (k : Fin 512) :
    pN s m (ix2 r k) = Ideal.exp2 (s (ix2 r k) - mN s m (ix2 r 0)) := by
  unfold pN
  pointwise
  rfl
theorem eN_apply (s : FVec Ideal S512x512 .f32) (m : FVec Ideal S512x1 .f32) (r : Fin 512) :
    eN s m (ix2 r 0) = Ideal.exp2 (m (ix2 r 0) - mN s m (ix2 r 0)) := by
  unfold eN
  pointwise
  rfl
theorem lN_apply (s : FVec Ideal S512x512 .f32) (m l : FVec Ideal S512x1 .f32) (r : Fin 512) :
    lN s m l (ix2 r 0) = eN s m (ix2 r 0) * l (ix2 r 0) + ∑ k : Fin 512, pN s m (ix2 r k) := by
  unfold lN
  pointwise
theorem aN_apply (s : FVec Ideal S512x512 .f32) (m : FVec Ideal S512x1 .f32) (a : FVec Ideal S512x128 .f32) (v : FVec Ideal S512x128 .bf16)
    (r : Fin 512) (d : Fin 128) :
    aN s m a v (ix2 r d) = eN s m (ix2 r 0) * a (ix2 r d) + ∑ k : Fin 512, pN s m (ix2 r k) * v (ix2 k d) := by
  unfold aN
  pointwise
theorem oH_apply (l : FVec Ideal S512x1 .f32) (a : FVec Ideal S512x128 .f32) (r : Fin 512) (d : Fin 128) :
    oH l a (ix2 r d) = Ideal.div (a (ix2 r d)) (l (ix2 r 0)) := by
  unfold oH
  pointwise

end Cert.Attn
-- ==== Proof.Offs.lean ====
/-
  Where the attention body's loads begin: the key blocks' first rows and the heads' first lanes.
-/
module

public import proofs.«01_k».proof.Proof.Step

@[expose] public section

set_option maxRecDepth 16384

noncomputable section

namespace Cert.Attn

open Cert.KernelIdeal Cert.KernelIdeal.Gen
open Idealize.ShloMosaic Idealize.ShloMosaic.TcCoe Idealize.ShloMosaic.Tactic

/-! ## Where the blocks lie -/

section offsets
variable (i : grid0.Coords) (k : Fin (k0_t1_loop i).trips)

theorem k_lt : k.val < 4 := by
  have h := k.isLt
  have h1 := trips1 i
  have h2 : (i 2).val < 8 := (i 2).isLt
  omega

theorem off1_eq : k0_off1 i k = ![1024 * k.val, 0] := by
  have h : ∀ n : Fin 4, ∀ j : Fin (k0_t1_loop i).trips, j.val = n.val → k0_off1 i j = ![1024 * n.val, 0] := by
    intro n j hj
    unfold k0_off1
    rw [hj]
    fin_cases n <;> rfl
  exact h ⟨k.val, k_lt i k⟩ k rfl

theorem off2_eq : k0_off2 i k = ![1024 * k.val, 0] := by
  have h : ∀ n : Fin 4, ∀ j : Fin (k0_t1_loop i).trips, j.val = n.val → k0_off2 i j = ![1024 * n.val, 0] := by
    intro n j hj
    unfold k0_off2
    rw [hj]
    fin_cases n <;> rfl
  exact h ⟨k.val, k_lt i k⟩ k rfl

theorem off3_eq : k0_off3 i k = ![1024 * k.val + 512, 0] := by
  have h : ∀ n : Fin 4, ∀ j : Fin (k0_t1_loop i).trips, j.val = n.val → k0_off3 i j = ![1024 * n.val + 512, 0] := by
    intro n j hj
    unfold k0_off3
    rw [hj]
    fin_cases n <;> rfl
  exact h ⟨k.val, k_lt i k⟩ k rfl

theorem off4_eq : k0_off4 i k = ![1024 * k.val + 512, 0] := by
  have h : ∀ n : Fin 4, ∀ j : Fin (k0_t1_loop i).trips, j.val = n.val → k0_off4 i j = ![1024 * n.val + 512, 0] := by
    intro n j hj
    unfold k0_off4
    rw [hj]
    fin_cases n <;> rfl
  exact h ⟨k.val, k_lt i k⟩ k rfl

theorem off5_eq : k0_off5 i k = ![1024 * k.val, 128] := by
  have h : ∀ n : Fin 4, ∀ j : Fin (k0_t1_loop i).trips, j.val = n.val → k0_off5 i j = ![1024 * n.val, 128] := by
    intro n j hj
    unfold k0_off5
    rw [hj]
    fin_cases n <;> rfl
  exact h ⟨k.val, k_lt i k⟩ k rfl

theorem off6_eq : k0_off6 i k = ![1024 * k.val + 512, 128] := by
  have h : ∀ n : Fin 4, ∀ j : Fin (k0_t1_loop i).trips, j.val = n.val → k0_off6 i j = ![1024 * n.val + 512, 128] := by
    intro n j hj
    unfold k0_off6
    rw [hj]
    fin_cases n <;> rfl
  exact h ⟨k.val, k_lt i k⟩ k rfl

theorem off7_eq : k0_off7 i k = ![1024 * k.val, 256] := by
  have h : ∀ n : Fin 4, ∀ j : Fin (k0_t1_loop i).trips, j.val = n.val → k0_off7 i j = ![1024 * n.val, 256] := by
    intro n j hj
    unfold k0_off7
    rw [hj]
    fin_cases n <;> rfl
  exact h ⟨k.val, k_lt i k⟩ k rfl

theorem off8_eq : k0_off8 i k = ![1024 * k.val + 512, 256] := by
  have h : ∀ n : Fin 4, ∀ j : Fin (k0_t1_loop i).trips, j.val = n.val → k0_off8 i j = ![1024 * n.val + 512, 256] := by
    intro n j hj
    unfold k0_off8
    rw [hj]
    fin_cases n <;> rfl
  exact h ⟨k.val, k_lt i k⟩ k rfl

theorem off9_eq : k0_off9 i k = ![1024 * k.val, 384] := by
  have h : ∀ n : Fin 4, ∀ j : Fin (k0_t1_loop i).trips, j.val = n.val → k0_off9 i j = ![1024 * n.val, 384] := by
    intro n j hj
    unfold k0_off9
    rw [hj]
    fin_cases n <;> rfl
  exact h ⟨k.val, k_lt i k⟩ k rfl

theorem off10_eq : k0_off10 i k = ![1024 * k.val + 512, 384] := by
  have h : ∀ n : Fin 4, ∀ j : Fin (k0_t1_loop i).trips, j.val = n.val → k0_off10 i j = ![1024 * n.val + 512, 384] := by
    intro n j hj
    unfold k0_off10
    rw [hj]
    fin_cases n <;> rfl
  exact h ⟨k.val, k_lt i k⟩ k rfl

theorem off21_eq (hc : (i 2).val % 2 = 1) : k0_off21 i = ![512 * (i 2).val - 512, 0] := by
  have h : ∀ n : Fin 8, n.val % 2 = 1 → ∀ j : grid0.Coords, (j 2).val = n.val → k0_off21 j = ![512 * n.val - 512, 0] := by
    intro n hn j hj
    unfold k0_off21
    rw [hj]
    fin_cases n <;> first | rfl | (exfalso; revert hn; decide)
  exact h (i 2) hc i rfl

theorem off22_eq (hc : (i 2).val % 2 = 1) : k0_off22 i = ![512 * (i 2).val - 512, 0] := by
  have h : ∀ n : Fin 8, n.val % 2 = 1 → ∀ j : grid0.Coords, (j 2).val = n.val → k0_off22 j = ![512 * n.val - 512, 0] := by
    intro n hn j hj
    unfold k0_off22
    rw [hj]
    fin_cases n <;> first | rfl | (exfalso; revert hn; decide)
  exact h (i 2) hc i rfl

theorem off23_eq (hc : (i 2).val % 2 = 1) : k0_off23 i = ![512 * (i 2).val, 0] := by
  have h : ∀ n : Fin 8, n.val % 2 = 1 → ∀ j : grid0.Coords, (j 2).val = n.val → k0_off23 j = ![512 * n.val, 0] := by
    intro n hn j hj
    unfold k0_off23
    rw [hj]
    fin_cases n <;> first | rfl | (exfalso; revert hn; decide)
  exact h (i 2) hc i rfl

theorem off24_eq (hc : (i 2).val % 2 = 1) : k0_off24 i = ![512 * (i 2).val, 0] := by
  have h : ∀ n : Fin 8, n.val % 2 = 1 → ∀ j : grid0.Coords, (j 2).val = n.val → k0_off24 j = ![512 * n.val, 0] := by
    intro n hn j hj
    unfold k0_off24
    rw [hj]
    fin_cases n <;> first | rfl | (exfalso; revert hn; decide)
  exact h (i 2) hc i rfl

theorem off25_eq (hc : (i 2).val % 2 = 1) : k0_off25 i = ![512 * (i 2).val - 512, 128] := by
  have h : ∀ n : Fin 8, n.val % 2 = 1 → ∀ j : grid0.Coords, (j 2).val = n.val → k0_off25 j = ![512 * n.val - 512, 128] := by
    intro n hn j hj
    unfold k0_off25
    rw [hj]
    fin_cases n <;> first | rfl | (exfalso; revert hn; decide)
  exact h (i 2) hc i rfl

theorem off26_eq (hc : (i 2).val % 2 = 1) : k0_off26 i = ![512 * (i 2).val, 128] := by
  have h : ∀ n : Fin 8, n.val % 2 = 1 → ∀ j : grid0.Coords, (j 2).val = n.val → k0_off26 j = ![512 * n.val, 128] := by
    intro n hn j hj
    unfold k0_off26
    rw [hj]
    fin_cases n <;> first | rfl | (exfalso; revert hn; decide)
  exact h (i 2) hc i rfl

theorem off27_eq (hc : (i 2).val % 2 = 1) : k0_off27 i = ![512 * (i 2).val - 512, 256] := by
  have h : ∀ n : Fin 8, n.val % 2 = 1 → ∀ j : grid0.Coords, (j 2).val = n.val → k0_off27 j = ![512 * n.val - 512, 256] := by
    intro n hn j hj
    unfold k0_off27
    rw [hj]
    fin_cases n <;> first | rfl | (exfalso; revert hn; decide)
  exact h (i 2) hc i rfl

theorem off28_eq (hc : (i 2).val % 2 = 1) : k0_off28 i = ![512 * (i 2).val, 256] := by
  have h : ∀ n : Fin 8, n.val % 2 = 1 → ∀ j : grid0.Coords, (j 2).val = n.val → k0_off28 j = ![512 * n.val, 256] := by
    intro n hn j hj
    unfold k0_off28
    rw [hj]
    fin_cases n <;> first | rfl | (exfalso; revert hn; decide)
  exact h (i 2) hc i rfl

theorem off29_eq (hc : (i 2).val % 2 = 1) : k0_off29 i = ![512 * (i 2).val - 512, 384] := by
  have h : ∀ n : Fin 8, n.val % 2 = 1 → ∀ j : grid0.Coords, (j 2).val = n.val → k0_off29 j = ![512 * n.val - 512, 384] := by
    intro n hn j hj
    unfold k0_off29
    rw [hj]
    fin_cases n <;> first | rfl | (exfalso; revert hn; decide)
  exact h (i 2) hc i rfl

theorem off30_eq (hc : (i 2).val % 2 = 1) : k0_off30 i = ![512 * (i 2).val, 384] := by
  have h : ∀ n : Fin 8, n.val % 2 = 1 → ∀ j : grid0.Coords, (j 2).val = n.val → k0_off30 j = ![512 * n.val, 384] := by
    intro n hn j hj
    unfold k0_off30
    rw [hj]
    fin_cases n <;> first | rfl | (exfalso; revert hn; decide)
  exact h (i 2) hc i rfl

theorem off31_eq : k0_off31 i = ![512 * (i 2).val, 0] := by
  have h : ∀ n : Fin 8, ∀ j : grid0.Coords, (j 2).val = n.val → k0_off31 j = ![512 * n.val, 0] := by
    intro n j hj
    unfold k0_off31
    rw [hj]
    fin_cases n <;> rfl
  exact h (i 2) i rfl

theorem off32_eq : k0_off32 i = ![512 * (i 2).val, 0] := by
  have h : ∀ n : Fin 8, ∀ j : grid0.Coords, (j 2).val = n.val → k0_off32 j = ![512 * n.val, 0] := by
    intro n j hj
    unfold k0_off32
    rw [hj]
    fin_cases n <;> rfl
  exact h (i 2) i rfl

theorem off33_eq : k0_off33 i = ![512 * (i 2).val, 128] := by
  have h : ∀ n : Fin 8, ∀ j : grid0.Coords, (j 2).val = n.val → k0_off33 j = ![512 * n.val, 128] := by
    intro n j hj
    unfold k0_off33
    rw [hj]
    fin_cases n <;> rfl
  exact h (i 2) i rfl

theorem off34_eq : k0_off34 i = ![512 * (i 2).val, 256] := by
  have h : ∀ n : Fin 8, ∀ j : grid0.Coords, (j 2).val = n.val → k0_off34 j = ![512 * n.val, 256] := by
    intro n j hj
    unfold k0_off34
    rw [hj]
    fin_cases n <;> rfl
  exact h (i 2) i rfl

theorem off35_eq : k0_off35 i = ![512 * (i 2).val, 384] := by
  have h : ∀ n : Fin 8, ∀ j : grid0.Coords, (j 2).val = n.val → k0_off35 j = ![512 * n.val, 384] := by
    intro n j hj
    unfold k0_off35
    rw [hj]
    fin_cases n <;> rfl
  exact h (i 2) i rfl
end offsets

end Cert.Attn
-- ==== Proof.Online.lean ====
/-
  The softmax of one row carried block by block: a running maximum, a running sum of weights and a running weighted sum,
  over the extended reals. The carried maximum need only be some real number for the ratio to be right.
-/
module

public import Idealize.ShloMosaic.PureOps.Ideal.Laws

@[expose] public section

noncomputable section

namespace Cert.Attn.Online

open Idealize.ShloMosaic

/-- A real factor that is not negative goes into a sum of extended reals. -/
theorem coe_mul_sum {ι : Type*} (J : Finset ι) (r : ℝ) (hr : 0 ≤ r) (f : ι → EReal) : (r : EReal) * ∑ j ∈ J, f j = ∑ j ∈ J, (r : EReal) * f j := by
  classical
  induction J using Finset.induction_on with
  | empty => simp
  | insert a J ha ih =>
    rw [Finset.sum_insert ha, Finset.sum_insert ha, EReal.left_distrib_of_nonneg_of_ne_top (by exact_mod_cast hr) (EReal.coe_ne_top r), ih]

theorem coe_sum {ι : Type*} (J : Finset ι) (f : ι → ℝ) : ((∑ j ∈ J, f j : ℝ) : EReal) = ∑ j ∈ J, (f j : EReal) := by
  classical
  induction J using Finset.induction_on with
  | empty => simp
  | insert a J ha ih => rw [Finset.sum_insert ha, Finset.sum_insert ha, EReal.coe_add, ih]

/-- The weight of a logit `s` against the carried maximum `μ`: a power of two, none at `⊥`. -/
def wt (s : EReal) (μ : ℝ) : ℝ := if s = ⊥ then 0 else (2 : ℝ) ^ (s.toReal - μ)

theorem wt_bot (μ : ℝ) : wt ⊥ μ = 0 := if_pos rfl
theorem wt_coe (r μ : ℝ) : wt (r : EReal) μ = (2 : ℝ) ^ (r - μ) := by rw [wt, if_neg (EReal.coe_ne_bot r), EReal.toReal_coe]
theorem wt_nonneg (s : EReal) (μ : ℝ) : 0 ≤ wt s μ := by
  unfold wt; split
  · exact le_rfl
  · exact (Real.rpow_pos_of_pos two_pos _).le

theorem exp2_sub (s : EReal) (hs : s ≠ ⊤) (μ : ℝ) : Ideal.exp2 (s - (μ : EReal)) = (wt s μ : EReal) := by
  induction s using EReal.rec with
  | bot => rw [wt_bot, EReal.bot_sub]; rfl
  | top => exact absurd rfl hs
  | coe r => rw [wt_coe, ← EReal.coe_sub]; rfl

theorem wt_shift (s : EReal) (μ μ' : ℝ) : (2 : ℝ) ^ (μ - μ') * wt s μ = wt s μ' := by
  unfold wt
  split
  · exact mul_zero _
  · rw [← Real.rpow_add two_pos]; congr 1; ring

/-- What is carried of a row after its first `n` logits `s`, with values `V`. -/
def Inv {ι : Type} (s : ℕ → EReal) (V : ℕ → ι → EReal) (n : ℕ) (m l : EReal) (a : ι → EReal) : Prop :=
  (n = 0 ∧ m = ⊥ ∧ l = 0 ∧ ∀ d, a d = 0) ∨
    ∃ μ : ℝ, m = (μ : EReal) ∧ l = ∑ j ∈ Finset.range n, (wt (s j) μ : EReal) ∧ ∀ d, a d = ∑ j ∈ Finset.range n, (wt (s j) μ : EReal) * V j d

variable {ι : Type} {s : ℕ → EReal} {V : ℕ → ι → EReal} {n : ℕ} {m l : EReal} {a : ι → EReal}

theorem Inv.ne_top (h : Inv s V n m l a) : m ≠ ⊤ := by
  rcases h with ⟨_, rfl, _⟩ | ⟨μ, rfl, _⟩
  · exact bot_ne_top
  · exact EReal.coe_ne_top μ

/-- The maximum of the carried one and of a block's logits is a real number when one of those is. -/
theorem max_real {W : ℕ} (f : Fin W → EReal) (hf : ∀ j, f j ≠ ⊤) (j₀ : Fin W) (h0 : f j₀ ≠ ⊥) (hm : m ≠ ⊤) :
    ∃ μ : ℝ, max m (Finset.univ.fold max ⊥ f) = (μ : EReal) := by
  have hle : ∀ J : Finset (Fin W), J.fold max ⊥ f ≠ ⊤ := by
    intro J
    classical
    induction J using Finset.induction_on with
    | empty => simp
    | insert b J hb ih =>
      rw [Finset.fold_insert hb]
      rcases max_choice (f b) (J.fold max ⊥ f) with h | h <;> rw [h]
      · exact hf b
      · exact ih
  have h1 : max m (Finset.univ.fold max ⊥ f) ≠ ⊤ := by
    rcases max_choice m (Finset.univ.fold max ⊥ f) with h | h <;> rw [h]
    · exact hm
    · exact hle _
  have h2 : max m (Finset.univ.fold max ⊥ f) ≠ ⊥ := by
    intro hb
    have h3 : f j₀ ≤ max m (Finset.univ.fold max ⊥ f) := le_max_of_le_right ((Finset.le_fold_max (f j₀)).2 (Or.inr ⟨j₀, Finset.mem_univ _, le_rfl⟩))
    rw [hb] at h3
    exact h0 (le_bot_iff.1 h3)
  exact ⟨_, (EReal.coe_toReal h1 h2).symm⟩

/-- A block of `W` more logits. -/
theorem Inv.step (h : Inv s V n m l a) (hs : ∀ j, s j ≠ ⊤) (W : ℕ) {m' : EReal} (hm' : ∃ μ' : ℝ, m' = (μ' : EReal)) :
    Inv s V (n + W) m' (Ideal.exp2 (m - m') * l + ∑ j : Fin W, Ideal.exp2 (s (n + j) - m'))
      (fun d => Ideal.exp2 (m - m') * a d + ∑ j : Fin W, Ideal.exp2 (s (n + j) - m') * V (n + j) d) := by
  obtain ⟨μ', rfl⟩ := hm'
  have he : ∀ j, Ideal.exp2 (s j - (μ' : EReal)) = (wt (s j) μ' : EReal) := fun j => exp2_sub _ (hs j) _
  refine Or.inr ⟨μ', rfl, ?_, fun d => ?_⟩
  · simp only [he]
    rw [Finset.sum_range_add, Finset.sum_range (fun x => (wt (s (n + x)) μ' : EReal))]
    congr 1
    rcases h with ⟨rfl, rfl, rfl, _⟩ | ⟨μ, rfl, rfl, _⟩
    · simp
    · rw [exp2_sub _ (EReal.coe_ne_top μ), wt_coe, coe_mul_sum _ _ (Real.rpow_pos_of_pos two_pos _).le]
      refine Finset.sum_congr rfl fun j _ => ?_
      rw [← EReal.coe_mul, wt_shift]
  · simp only [he]
    rw [Finset.sum_range_add, Finset.sum_range (fun x => (wt (s (n + x)) μ' : EReal) * V (n + x) d)]
    congr 1
    rcases h with ⟨rfl, rfl, _, ha⟩ | ⟨μ, rfl, _, ha⟩
    · simp [ha]
    · rw [ha, exp2_sub _ (EReal.coe_ne_top μ), wt_coe, coe_mul_sum _ _ (Real.rpow_pos_of_pos two_pos _).le]
      refine Finset.sum_congr rfl fun j _ => ?_
      rw [← mul_assoc, ← EReal.coe_mul, wt_shift]

/-- Logits beyond `n` that are `⊥` add nothing: the sums run over all `N`. -/
theorem Inv.extend (h : Inv s V n m l a) (hn : n ≠ 0) {N : ℕ} (hN : n ≤ N) (hb : ∀ j, n ≤ j → s j = ⊥) :
    ∃ μ : ℝ, l = ∑ j : Fin N, (wt (s j) μ : EReal) ∧ ∀ d, a d = ∑ j : Fin N, (wt (s j) μ : EReal) * V j d := by
  rcases h with ⟨h0, _⟩ | ⟨μ, _, hl, ha⟩
  · exact absurd h0 hn
  · obtain ⟨k, rfl⟩ := Nat.exists_eq_add_of_le hN
    refine ⟨μ, ?_, fun d => ?_⟩
    · rw [hl, ← Finset.sum_range (fun j => (wt (s j) μ : EReal)), Finset.sum_range_add]
      rw [Finset.sum_eq_zero (s := Finset.range k), add_zero]
      intro j _; rw [hb _ (Nat.le_add_right _ _), wt_bot]; rfl
    · rw [ha, ← Finset.sum_range (fun j => (wt (s j) μ : EReal) * V j d), Finset.sum_range_add]
      rw [Finset.sum_eq_zero (s := Finset.range k), add_zero]
      intro j _; rw [hb _ (Nat.le_add_right _ _), wt_bot]; exact zero_mul _

end Cert.Attn.Online
-- ==== Proof.Block.lean ====
/-
  The output block of the attention body at an entry: the ratio of the row's weighted sum of values to its sum of weights.
-/
module

public import proofs.«01_k».proof.Proof.Entry
public import proofs.«01_k».proof.Proof.Offs
public import proofs.«01_k».proof.Proof.Online

@[expose] public section

set_option maxRecDepth 16384

noncomputable section

namespace Cert.Attn

open Cert.KernelIdeal Cert.KernelIdeal.Gen
open Idealize.ShloMosaic Idealize.ShloMosaic.TcCoe Idealize.ShloMosaic.Tactic
open Cert.Attn.Online

/-- The logits of row `r` of query tile `T`: `⊥` at keys after the query. -/
def srow (x0 : Vec Ideal S512x512 .bf16) (x1 : Vec Ideal S4096x512 .bf16) (x3 : Vec Ideal S4096x128 .bf16) (L : ℕ) (n : BitVec 32) (T r : ℕ) : ℕ → EReal :=
  fun J => if J ≤ T + r then lg x0 x1 x3 L n r J else ⊥
def vrow (x2 : Vec Ideal S4096x512 .bf16) (L : ℕ) : ℕ → Fin 128 → EReal := fun J d => at2 (a := 4096) (b := 512) x2 J (L + d)

/-- What a head carries after its first `N` keys. -/
def HInv (x0 : Vec Ideal S512x512 .bf16) (x1 x2 : Vec Ideal S4096x512 .bf16) (x3 : Vec Ideal S4096x128 .bf16) (L : ℕ) (n : BitVec 32) (T N : ℕ)
    (m l : FVec Ideal S512x1 .f32) (a : FVec Ideal S512x128 .f32) : Prop :=
  ∀ r : Fin 512, Inv (srow x0 x1 x3 L n T r) (vrow x2 L) N (m (ix2 r 0)) (l (ix2 r 0)) (fun d => a (ix2 r d))

section head
variable {x0 : Vec Ideal S512x512 .bf16} {x1 x2 : Vec Ideal S4096x512 .bf16} {x3 : Vec Ideal S4096x128 .bf16} {L : ℕ} {n : BitVec 32} {T N : ℕ}
  {m l : FVec Ideal S512x1 .f32} {a : FVec Ideal S512x128 .f32}

/-- Every logit of the block is a real number. -/
def Real (x0 : Vec Ideal S512x512 .bf16) (x1 : Vec Ideal S4096x512 .bf16) (x3 : Vec Ideal S4096x128 .bf16) (L : ℕ) (n : BitVec 32) : Prop :=
  ∀ r J, ∃ ρ : ℝ, lg x0 x1 x3 L n r J = (ρ : EReal)

theorem srow_ne_top (hR : Real x0 x1 x3 L n) (r J : ℕ) : srow x0 x1 x3 L n T r J ≠ ⊤ := by
  unfold srow
  split
  · obtain ⟨ρ, h⟩ := hR r J; rw [h]; exact EReal.coe_ne_top ρ
  · exact bot_ne_top
theorem srow_ne_bot (hR : Real x0 x1 x3 L n) (r J : ℕ) (h : J ≤ T + r) : srow x0 x1 x3 L n T r J ≠ ⊥ := by
  unfold srow
  rw [if_pos h]
  obtain ⟨ρ, h⟩ := hR r J; rw [h]; exact EReal.coe_ne_bot ρ

theorem HInv.stepW (h : HInv x0 x1 x2 x3 L n T N m l a) (hR : Real x0 x1 x3 L n) (hN : N ≤ T) {S : FVec Ideal S512x1024 .f32} {v : FVec Ideal S1024x128 .bf16}
    (hS : ∀ (r : Fin 512) (j : Fin 1024), S (ix2 r j) = srow x0 x1 x3 L n T r (N + j)) (hv : ∀ (j : Fin 1024) (d : Fin 128), v (ix2 j d) = vrow x2 L (N + j) d) :
    HInv x0 x1 x2 x3 L n T (N + 1024) (mW S m) (lW S m l) (aW S m a v) := by
  intro r
  have hm : ∃ μ : ℝ, mW S m (ix2 r 0) = (μ : EReal) := by
    rw [mW_apply]
    exact max_real _ (fun j => by rw [hS]; exact srow_ne_top hR _ _) 0 (by rw [hS]; exact srow_ne_bot hR _ _ (by simp; omega)) (h r).ne_top
  have h' := (h r).step (fun j => srow_ne_top hR _ j) 1024 hm
  have e1 : lW S m l (ix2 r 0) = Ideal.exp2 (m (ix2 r 0) - mW S m (ix2 r 0)) * l (ix2 r 0) + ∑ j : Fin 1024, Ideal.exp2 (srow x0 x1 x3 L n T r (N + j) - mW S m (ix2 r 0)) := by
    rw [lW_apply, eW_apply]
    congr 1
    exact Finset.sum_congr rfl fun j _ => by rw [pW_apply, hS]
  have e2 : (fun d => aW S m a v (ix2 r d)) = fun d => Ideal.exp2 (m (ix2 r 0) - mW S m (ix2 r 0)) * a (ix2 r d) + ∑ j : Fin 1024, Ideal.exp2 (srow x0 x1 x3 L n T r (N + j) - mW S m (ix2 r 0)) * vrow x2 L (N + j) d := by
    funext d
    rw [aW_apply, eW_apply]
    congr 1
    exact Finset.sum_congr rfl fun j _ => by rw [pW_apply, hS, hv]
  rw [e1, e2]
  exact h'

theorem HInv.stepN (h : HInv x0 x1 x2 x3 L n T N m l a) (hR : Real x0 x1 x3 L n) (hN : N ≤ T) {S : FVec Ideal S512x512 .f32} {v : FVec Ideal S512x128 .bf16}
    (hS : ∀ (r : Fin 512) (j : Fin 512), S (ix2 r j) = srow x0 x1 x3 L n T r (N + j)) (hv : ∀ (j : Fin 512) (d : Fin 128), v (ix2 j d) = vrow x2 L (N + j) d) :
    HInv x0 x1 x2 x3 L n T (N + 512) (mN S m) (lN S m l) (aN S m a v) := by
  intro r
  have hm : ∃ μ : ℝ, mN S m (ix2 r 0) = (μ : EReal) := by
    rw [mN_apply]
    exact max_real _ (fun j => by rw [hS]; exact srow_ne_top hR _ _) 0 (by rw [hS]; exact srow_ne_bot hR _ _ (by simp; omega)) (h r).ne_top
  have h' := (h r).step (fun j => srow_ne_top hR _ j) 512 hm
  have e1 : lN S m l (ix2 r 0) = Ideal.exp2 (m (ix2 r 0) - mN S m (ix2 r 0)) * l (ix2 r 0) + ∑ j : Fin 512, Ideal.exp2 (srow x0 x1 x3 L n T r (N + j) - mN S m (ix2 r 0)) := by
    rw [lN_apply, eN_apply]
    congr 1
    exact Finset.sum_congr rfl fun j _ => by rw [pN_apply, hS]
  have e2 : (fun d => aN S m a v (ix2 r d)) = fun d => Ideal.exp2 (m (ix2 r 0) - mN S m (ix2 r 0)) * a (ix2 r d) + ∑ j : Fin 512, Ideal.exp2 (srow x0 x1 x3 L n T r (N + j) - mN S m (ix2 r 0)) * vrow x2 L (N + j) d := by
    funext d
    rw [aN_apply, eN_apply]
    congr 1
    exact Finset.sum_congr rfl fun j _ => by rw [pN_apply, hS, hv]
  rw [e1, e2]
  exact h'

theorem vW_apply (v0 v1 : Vec Ideal S512x128 .bf16) (j : Fin 1024) (d : Fin 128) :
    vW v0 v1 (ix2 j d) = if h : j.val < 512 then v0 (ix2 ⟨j, h⟩ d) else v1 (ix2 ⟨j - 512, by omega⟩ d) := by
  unfold vW
  pointwise

theorem vW_blk (offA offB : Fin 2 → ℕ) (hA hB) (eA : offA = ![N, L]) (eB : offB = ![N + 512, L]) (j : Fin 1024) (d : Fin 128) :
    vW (blkA x2 offA hA) (blkA x2 offB hB) (ix2 j d) = vrow x2 L (N + j) d := by
  subst eA; subst eB
  rw [vW_apply]
  unfold vrow
  split
  · rw [blkA_apply]; rfl
  · next h =>
    rw [blkA_apply]
    show at2 x2 (N + 512 + (j.val - 512)) (L + d.val) = _
    rw [show N + 512 + (j.val - 512) = N + j.val by omega]

/-- One trip of the loop, for a head. -/
theorem HInv.trip (h : HInv x0 x1 x2 x3 L n T N m l a) (hR : Real x0 x1 x3 L n) (hN : N + 1024 ≤ T) (hq)
    (offA offB cA cB : Fin 2 → ℕ) (hA hB hcA hcB) (eA : offA = ![N, L]) (eB : offB = ![N + 512, L]) (ecA : cA = ![N, 0]) (ecB : cB = ![N + 512, 0]) :
    HInv x0 x1 x2 x3 L n T (N + 1024)
      (mW (k0_pay4 (qx n (blkQ x0 ![0, L] hq)) (blkA x1 offA hA) (blkC x3 cA hcA) (blkA x1 offB hB) (blkC x3 cB hcB)) m)
      (lW (k0_pay4 (qx n (blkQ x0 ![0, L] hq)) (blkA x1 offA hA) (blkC x3 cA hcA) (blkA x1 offB hB) (blkC x3 cB hcB)) m l)
      (aW (k0_pay4 (qx n (blkQ x0 ![0, L] hq)) (blkA x1 offA hA) (blkC x3 cA hcA) (blkA x1 offB hB) (blkC x3 cB hcB)) m a
        (vW (blkA x2 offA hA) (blkA x2 offB hB))) := by
  refine h.stepW hR (by omega) (fun r j => ?_) (vW_blk offA offB hA hB eA eB)
  rw [pay4_apply]
  unfold srow
  rw [if_pos (by omega)]
  split
  · rw [dot2_eq x0 x1 x3 L n hq offA hA cA hcA N eA ecA]
  · rw [dot2_eq x0 x1 x3 L n hq offB hB cB hcB (N + 512) eB ecB]
    congr 1
    show N + 512 + (j.val - 512) = N + j.val
    omega

/-- The last step of an odd tile, for a head: two blocks, the second on the diagonal. -/
theorem HInv.odd (h : HInv x0 x1 x2 x3 L n T N m l a) (hR : Real x0 x1 x3 L n) (hN : N + 512 = T) (hq)
    (offA offB cA cB : Fin 2 → ℕ) (hA hB hcA hcB) (eA : offA = ![N, L]) (eB : offB = ![N + 512, L]) (ecA : cA = ![N, 0]) (ecB : cB = ![N + 512, 0]) :
    HInv x0 x1 x2 x3 L n T (T + 512)
      (mW (k0_pay54 (qx n (blkQ x0 ![0, L] hq)) (blkA x1 offA hA) (blkC x3 cA hcA) (blkA x1 offB hB) (blkC x3 cB hcB)) m)
      (lW (k0_pay54 (qx n (blkQ x0 ![0, L] hq)) (blkA x1 offA hA) (blkC x3 cA hcA) (blkA x1 offB hB) (blkC x3 cB hcB)) m l)
      (aW (k0_pay54 (qx n (blkQ x0 ![0, L] hq)) (blkA x1 offA hA) (blkC x3 cA hcA) (blkA x1 offB hB) (blkC x3 cB hcB)) m a
        (vW (blkA x2 offA hA) (blkA x2 offB hB))) := by
  rw [show T + 512 = N + 1024 by omega]
  refine h.stepW hR (by omega) (fun r j => ?_) (vW_blk offA offB hA hB eA eB)
  rw [pay54_apply]
  unfold srow
  refine if_congr (by omega) ?_ rfl
  split
  · rw [dot2_eq x0 x1 x3 L n hq offA hA cA hcA N eA ecA]
  · rw [dot2_eq x0 x1 x3 L n hq offB hB cB hcB (N + 512) eB ecB]
    congr 1
    show N + 512 + (j.val - 512) = N + j.val
    omega

/-- The last step of an even tile, for a head: the block on the diagonal. -/
theorem HInv.even (h : HInv x0 x1 x2 x3 L n T N m l a) (hR : Real x0 x1 x3 L n) (hN : N = T) (hq)
    (offA cA : Fin 2 → ℕ) (hA hcA) (eA : offA = ![N, L]) (ecA : cA = ![N, 0]) :
    HInv x0 x1 x2 x3 L n T (T + 512)
      (mN (k0_pay75 (qx n (blkQ x0 ![0, L] hq)) (blkA x1 offA hA) (blkC x3 cA hcA)) m)
      (lN (k0_pay75 (qx n (blkQ x0 ![0, L] hq)) (blkA x1 offA hA) (blkC x3 cA hcA)) m l)
      (aN (k0_pay75 (qx n (blkQ x0 ![0, L] hq)) (blkA x1 offA hA) (blkC x3 cA hcA)) m a (blkA x2 offA hA)) := by
  rw [show T + 512 = N + 512 by omega]
  refine h.stepN hR (by omega) (fun r j => ?_) (fun j d => ?_)
  · rw [pay75_apply]
    unfold srow
    refine if_congr (by omega) ?_ rfl
    rw [dot2_eq x0 x1 x3 L n hq offA hA cA hcA N eA ecA]
  · subst eA
    rw [blkA_apply]; rfl

/-- What an entry of the output is, from what the head holds after all its keys. -/
theorem HInv.out (h : HInv x0 x1 x2 x3 L n T (T + 512) m l a) (hT : T + 512 ≤ 4096) (r : Fin 512) (d : Fin 128) :
    ∃ μ : ℝ, oH l a (ix2 r d) = Ideal.div (∑ J : Fin 4096, (wt (srow x0 x1 x3 L n T r J) μ : EReal) * vrow x2 L J d)
      (∑ J : Fin 4096, (wt (srow x0 x1 x3 L n T r J) μ : EReal)) := by
  obtain ⟨μ, hl, ha⟩ := (h r).extend (by omega) hT (fun J hJ => by unfold srow; exact if_neg (by omega))
  exact ⟨μ, by rw [oH_apply, hl, ← ha d]⟩

end head

/-- The first key of the query tile's own block. -/
abbrev tile (i : grid0.Coords) : ℕ := 512 * (i 2).val

section block
variable (i : grid0.Coords) (x0 : Vec Ideal S512x512 .bf16) (x1 x2 : Vec Ideal S4096x512 .bf16) (x3 : Vec Ideal S4096x128 .bf16)

/-- What the four heads carry after their first `N` keys. -/
def CInv (N : ℕ) : Carry Ideal → Prop := fun (m0, l0, a0, m1, l1, a1, m2, l2, a2, m3, l3, a3) =>
  HInv x0 x1 x2 x3 0 (hd i 0#32) (tile i) N m0 l0 a0 ∧ HInv x0 x1 x2 x3 128 (hd i 1#32) (tile i) N m1 l1 a1
    ∧ HInv x0 x1 x2 x3 256 (hd i 2#32) (tile i) N m2 l2 a2 ∧ HInv x0 x1 x2 x3 384 (hd i 3#32) (tile i) N m3 l3 a3

/-- Every logit of the four heads is a real number. -/
structure Reals : Prop where
  r0 : Real x0 x1 x3 0 (hd i 0#32)
  r1 : Real x0 x1 x3 128 (hd i 1#32)
  r2 : Real x0 x1 x3 256 (hd i 2#32)
  r3 : Real x0 x1 x3 384 (hd i 3#32)

theorem HInv.start (L : ℕ) (n : BitVec 32) (T : ℕ) : HInv x0 x1 x2 x3 L n T 0 k0_pay100 k0_pay101 k0_pay102 := by
  intro r
  refine Or.inl ⟨rfl, ?_, ?_, fun d => ?_⟩
  · unfold k0_pay100; pointwise [neg_inf]
  · unfold k0_pay101; pointwise
  · unfold k0_pay102; pointwise

theorem CInv_init : CInv i x0 x1 x2 x3 0 init :=
  ⟨HInv.start x0 x1 x2 x3 _ _ _, HInv.start x0 x1 x2 x3 _ _ _, HInv.start x0 x1 x2 x3 _ _ _, HInv.start x0 x1 x2 x3 _ _ _⟩

theorem CInv_stV (hR : Reals i x0 x1 x3) (k : ℕ) (hk : k ≤ (k0_t1_loop i).trips) : CInv i x0 x1 x2 x3 (1024 * k) (stV i x0 x1 x2 x3 k) := by
  induction k with
  | zero => exact CInv_init i x0 x1 x2 x3
  | succ k ih =>
    have ih := ih (Nat.le_of_succ_le hk)
    have hk' : k < (k0_t1_loop i).trips := hk
    have hT : 1024 * k + 1024 ≤ tile i := by
      have h := trips1 i
      unfold tile
      omega
    unfold stV
    rw [dif_pos hk']
    generalize stV i x0 x1 x2 x3 k = S at ih ⊢
    obtain ⟨m0, l0, a0, m1, l1, a1, m2, l2, a2, m3, l3, a3⟩ := S
    obtain ⟨h0, h1, h2, h3⟩ := ih
    unfold tripV
    rw [q0_eq, q1_eq, q2_eq, q3_eq]
    exact ⟨h0.trip hR.r0 hT _ _ _ _ _ _ _ _ _ (off1_eq i ⟨k, hk'⟩) (off3_eq i ⟨k, hk'⟩) (off2_eq i ⟨k, hk'⟩) (off4_eq i ⟨k, hk'⟩),
      h1.trip hR.r1 hT _ _ _ _ _ _ _ _ _ (off5_eq i ⟨k, hk'⟩) (off6_eq i ⟨k, hk'⟩) (off2_eq i ⟨k, hk'⟩) (off4_eq i ⟨k, hk'⟩),
      h2.trip hR.r2 hT _ _ _ _ _ _ _ _ _ (off7_eq i ⟨k, hk'⟩) (off8_eq i ⟨k, hk'⟩) (off2_eq i ⟨k, hk'⟩) (off4_eq i ⟨k, hk'⟩),
      h3.trip hR.r3 hT _ _ _ _ _ _ _ _ _ (off9_eq i ⟨k, hk'⟩) (off10_eq i ⟨k, hk'⟩) (off2_eq i ⟨k, hk'⟩) (off4_eq i ⟨k, hk'⟩)⟩

/-- An entry of a head's output: the row's weighted sum of values over its sum of weights. -/
def Good (L : ℕ) (n : BitVec 32) (o : FVec Ideal S512x128 .bf16) : Prop :=
  ∀ (r : Fin 512) (d : Fin 128), ∃ μ : ℝ, o (ix2 r d) = Ideal.div (∑ J : Fin 4096, (wt (srow x0 x1 x3 L n (tile i) r J) μ : EReal) * vrow x2 L J d)
      (∑ J : Fin 4096, (wt (srow x0 x1 x3 L n (tile i) r J) μ : EReal))

theorem out_pieces (hR : Reals i x0 x1 x3) : ∃ o0 o1 o2 o3, outV i x0 x1 x2 x3 = View.canon (pieces o0 o1 o2 o3)
    ∧ Good i x0 x1 x2 x3 0 (hd i 0#32) o0 ∧ Good i x0 x1 x2 x3 128 (hd i 1#32) o1
    ∧ Good i x0 x1 x2 x3 256 (hd i 2#32) o2 ∧ Good i x0 x1 x2 x3 384 (hd i 3#32) o3 := by
  have h := CInv_stV i x0 x1 x2 x3 hR _ le_rfl
  have ht := trips1 i
  have h8 : (i 2).val < 8 := (i 2).isLt
  have hT : tile i + 512 ≤ 4096 := by unfold tile; omega
  unfold outV
  generalize stV i x0 x1 x2 x3 (k0_t1_loop i).trips = S at h ⊢
  obtain ⟨m0, l0, a0, m1, l1, a1, m2, l2, a2, m3, l3, a3⟩ := S
  rw [ht] at h
  obtain ⟨h0, h1, h2, h3⟩ := h
  by_cases hc : k0_cond1 i = 1#1
  · rw [dif_pos hc]
    have hp := (cond1_iff i).1 hc
    unfold oddV
    rw [q0_eq, q1_eq, q2_eq, q3_eq]
    have e0 : 512 * (i 2).val - 512 = 1024 * ((i 2).val / 2) := by omega
    have e1 : 512 * (i 2).val = 1024 * ((i 2).val / 2) + 512 := by omega
    have eT : 1024 * ((i 2).val / 2) + 512 = tile i := by unfold tile; omega
    refine ⟨_, _, _, _, rfl,
      (h0.odd hR.r0 eT _ _ _ _ _ _ _ _ _ ?_ ?_ ?_ ?_).out hT, (h1.odd hR.r1 eT _ _ _ _ _ _ _ _ _ ?_ ?_ ?_ ?_).out hT,
      (h2.odd hR.r2 eT _ _ _ _ _ _ _ _ _ ?_ ?_ ?_ ?_).out hT, (h3.odd hR.r3 eT _ _ _ _ _ _ _ _ _ ?_ ?_ ?_ ?_).out hT⟩
    · rw [off21_eq i hp, e0]
    · rw [off23_eq i hp, e1]
    · rw [off22_eq i hp, e0]
    · rw [off24_eq i hp, e1]
    · rw [off25_eq i hp, e0]
    · rw [off26_eq i hp, e1]
    · rw [off22_eq i hp, e0]
    · rw [off24_eq i hp, e1]
    · rw [off27_eq i hp, e0]
    · rw [off28_eq i hp, e1]
    · rw [off22_eq i hp, e0]
    · rw [off24_eq i hp, e1]
    · rw [off29_eq i hp, e0]
    · rw [off30_eq i hp, e1]
    · rw [off22_eq i hp, e0]
    · rw [off24_eq i hp, e1]
  · rw [dif_neg hc]
    have hp : ¬ (i 2).val % 2 = 1 := fun e => hc ((cond1_iff i).2 e)
    unfold evenV
    rw [q0_eq, q1_eq, q2_eq, q3_eq]
    have e1 : 512 * (i 2).val = 1024 * ((i 2).val / 2) := by omega
    have eT : 1024 * ((i 2).val / 2) = tile i := by unfold tile; omega
    refine ⟨_, _, _, _, rfl,
      (h0.even hR.r0 eT _ _ _ _ _ ?_ ?_).out hT, (h1.even hR.r1 eT _ _ _ _ _ ?_ ?_).out hT,
      (h2.even hR.r2 eT _ _ _ _ _ ?_ ?_).out hT, (h3.even hR.r3 eT _ _ _ _ _ ?_ ?_).out hT⟩
    · rw [off31_eq i, e1]
    · rw [off32_eq i, e1]
    · rw [off33_eq i, e1]
    · rw [off32_eq i, e1]
    · rw [off34_eq i, e1]
    · rw [off32_eq i, e1]
    · rw [off35_eq i, e1]
    · rw [off32_eq i, e1]

theorem canon_hit (b : ℕ) (hb : b + 128 ≤ 512) (inb) (o : FVec Ideal S512x128 .bf16) (Ls : List (View.Piece (Elt Ideal) S512x512 .bf16)) (r : Fin 512) (d : Fin 128) :
    View.canon ((⟨Rect.unit (s := S512x512) ![0, b] ![512, 128] inb, o⟩ : View.Piece (Elt Ideal) S512x512 .bf16) :: Ls) (ix2 r ⟨b + d, by omega⟩) = o (ix2 r d) := by
  have e : (ix2 r ⟨b + d, by omega⟩ : S512x512.Idx) = (Rect.unit (s := S512x512) ![0, b] ![512, 128] inb).emb (ix2 r d) := by
    funext a; fin_cases a <;> (apply Fin.ext; simp [ix2, Rect.emb, Rect.unit])
  rw [e]
  exact View.canon_cons_emb _ _ _ _
theorem canon_skip (b b' : ℕ) (hb : b + 128 ≤ 512) (h : b + 128 ≤ b') (inb) (o : FVec Ideal S512x128 .bf16) (Ls : List (View.Piece (Elt Ideal) S512x512 .bf16))
    (r : Fin 512) (d : Fin 128) :
    View.canon ((⟨Rect.unit (s := S512x512) ![0, b'] ![512, 128] inb, o⟩ : View.Piece (Elt Ideal) S512x512 .bf16) :: Ls) (ix2 r ⟨b + d, by omega⟩)
      = View.canon Ls (ix2 r ⟨b + d, by omega⟩) := by
  refine View.canon_cons_of_not_mem _ _ fun hm => ?_
  have h1 := ((Rect.mem_set_unit (inb := inb)).1 hm (1 : Fin 2)).1
  have h2 : b' ≤ b + d.val := h1
  omega

/-- The pieces read at an entry. -/
theorem pieces_0 (o0 o1 o2 o3 : FVec Ideal S512x128 .bf16) (r : Fin 512) (d : Fin 128) :
    View.canon (pieces o0 o1 o2 o3) (ix2 r ⟨0 + d, by omega⟩) = o0 (ix2 r d) :=
  (canon_skip 0 384 (by omega) (by omega) _ _ _ r d).trans ((canon_skip 0 256 (by omega) (by omega) _ _ _ r d).trans
    ((canon_skip 0 128 (by omega) (by omega) _ _ _ r d).trans (canon_hit 0 (by omega) _ _ _ r d)))
theorem pieces_1 (o0 o1 o2 o3 : FVec Ideal S512x128 .bf16) (r : Fin 512) (d : Fin 128) :
    View.canon (pieces o0 o1 o2 o3) (ix2 r ⟨128 + d, by omega⟩) = o1 (ix2 r d) :=
  (canon_skip 128 384 (by omega) (by omega) _ _ _ r d).trans ((canon_skip 128 256 (by omega) (by omega) _ _ _ r d).trans
    (canon_hit 128 (by omega) _ _ _ r d))
theorem pieces_2 (o0 o1 o2 o3 : FVec Ideal S512x128 .bf16) (r : Fin 512) (d : Fin 128) :
    View.canon (pieces o0 o1 o2 o3) (ix2 r ⟨256 + d, by omega⟩) = o2 (ix2 r d) :=
  (canon_skip 256 384 (by omega) (by omega) _ _ _ r d).trans (canon_hit 256 (by omega) _ _ _ r d)
theorem pieces_3 (o0 o1 o2 o3 : FVec Ideal S512x128 .bf16) (r : Fin 512) (d : Fin 128) :
    View.canon (pieces o0 o1 o2 o3) (ix2 r ⟨384 + d, by omega⟩) = o3 (ix2 r d) := canon_hit 384 (by omega) _ _ _ r d

/-- The output block at an entry. -/
theorem outV_apply (hR : Reals i x0 x1 x3) (r : Fin 512) (h : Fin 4) (d : Fin 128) :
    ∃ μ : ℝ, outV i x0 x1 x2 x3 (ix2 r ⟨128 * h + d, by omega⟩)
      = Ideal.div (∑ J : Fin 4096, (wt (srow x0 x1 x3 (128 * h) (hd i (BitVec.ofNat 32 h)) (tile i) r J) μ : EReal) * vrow x2 (128 * h) J d)
          (∑ J : Fin 4096, (wt (srow x0 x1 x3 (128 * h) (hd i (BitVec.ofNat 32 h)) (tile i) r J) μ : EReal)) := by
  obtain ⟨o0, o1, o2, o3, e, g0, g1, g2, g3⟩ := out_pieces i x0 x1 x2 x3 hR
  rw [e]
  have hh := h
  fin_cases h
  · obtain ⟨μ, hμ⟩ := g0 r d
    exact ⟨μ, (pieces_0 o0 o1 o2 o3 r d).trans hμ⟩
  · obtain ⟨μ, hμ⟩ := g1 r d
    exact ⟨μ, (pieces_1 o0 o1 o2 o3 r d).trans hμ⟩
  · obtain ⟨μ, hμ⟩ := g2 r d
    exact ⟨μ, (pieces_2 o0 o1 o2 o3 r d).trans hμ⟩
  · obtain ⟨μ, hμ⟩ := g3 r d
    exact ⟨μ, (pieces_3 o0 o1 o2 o3 r d).trans hμ⟩

end block

end Cert.Attn
-- ==== Proof.Ref.lean ====
/-
  The reference at an entry: the softmax of the row's logits, a weighted mean of the values.
-/
module

public import proofs.«01_k».proof.Proof.Logit
public import proofs.«01_k».proof.Proof.Online
public import proofs.«01_k».proof.Proof.Gen.ReferenceIdeal.Read

@[expose] public section

set_option maxRecDepth 16384

noncomputable section

namespace Cert.Attn

open Cert.ReferenceIdeal Cert.ReferenceIdeal.Read
open Idealize.ShloMosaic Idealize.ShloMosaic.TcCoe
open Cert.Attn.Online

variable (Z : FVec Ideal S32768x7168 .bf16) (C : FVec Ideal S32768x128 .bf16)

/-- The logarithm of the decay, stored in three parts. -/
def cum (b H J : ℕ) : EReal :=
  at2 (a := 32768) (b := 128) C (b * 4096 + J) H + at2 (a := 32768) (b := 128) C (b * 4096 + J) (8 + H) + at2 (a := 32768) (b := 128) C (b * 4096 + J) (16 + H)
/-- A query times a key. -/
def qk (b H T J : ℕ) : EReal :=
  ∑ k : Fin 128, at2 (a := 32768) (b := 7168) Z (b * 4096 + T) (2048 + (128 * H + k)) * at2 (a := 32768) (b := 7168) Z (b * 4096 + J) (3072 + (128 * H + k))
/-- A value. -/
def vv (b H J d : ℕ) : EReal := at2 (a := 32768) (b := 7168) Z (b * 4096 + J) (4096 + (128 * H + d))

theorem at2_of {a b : ℕ} (x : (⟨2, ![a, b]⟩ : Shape).Idx → EReal) (i : (⟨2, ![a, b]⟩ : Shape).Idx) (r c : ℕ) (hr : (i 0).val = r) (hc : (i 1).val = c) :
    x i = at2 x r c := by
  subst hr; subst hc
  unfold at2
  rw [dif_pos ⟨(i 0).isLt, (i 1).isLt⟩]
  congr 1
  funext k; match k with | ⟨0, _⟩ => rfl | ⟨1, _⟩ => rfl

theorem v2_at (i : S8x4096x8x128.Idx) : val_main_v2 (F := Ideal) Z i = at2 (a := 32768) (b := 7168) Z ((i 0).val * 4096 + (i 1).val) (2048 + (128 * (i 2).val + (i 3).val)) := by
  have h2 : (i 2).val < 8 := (i 2).isLt; have h3 : (i 3).val < 128 := (i 3).isLt
  rw [val_main_v2_apply, val_main_v1_apply]
  exact at2_of Z _ _ _ (by show (_ : ℕ) / 1024 = _; omega) (by show 2048 + (_ : ℕ) % 1024 = _; omega)
theorem v4_at (i : S8x4096x8x128.Idx) : val_main_v4 (F := Ideal) Z i = at2 (a := 32768) (b := 7168) Z ((i 0).val * 4096 + (i 1).val) (3072 + (128 * (i 2).val + (i 3).val)) := by
  have h2 : (i 2).val < 8 := (i 2).isLt; have h3 : (i 3).val < 128 := (i 3).isLt
  rw [val_main_v4_apply, val_main_v3_apply]
  exact at2_of Z _ _ _ (by show (_ : ℕ) / 1024 = _; omega) (by show 3072 + (_ : ℕ) % 1024 = _; omega)
theorem v6_at (i : S8x4096x8x128.Idx) : val_main_v6 (F := Ideal) Z i = vv Z (i 0).val (i 2).val (i 1).val (i 3).val := by
  have h2 : (i 2).val < 8 := (i 2).isLt; have h3 : (i 3).val < 128 := (i 3).isLt
  rw [val_main_v6_apply, val_main_v5_apply]
  exact at2_of Z _ _ _ (by show (_ : ℕ) / 1024 = _; omega) (by show 4096 + (_ : ℕ) % 1024 = _; omega)
theorem v13_at (i : S8x4096x8.Idx) : val_main_v13 (F := Ideal) C i = cum C (i 0).val (i 2).val (i 1).val := by
  have h2 : (i 2).val < 8 := (i 2).isLt
  rw [val_main_v13_apply, val_main_v12_apply, val_main_v10_apply, val_main_v8_apply, val_main_v9_apply, val_main_v11_apply]
  refine congrArg₂ (· + ·) (congrArg₂ (· + ·) ?_ ?_) ?_
  · exact at2_of C _ _ _ (by show (_ : ℕ) / 8 = _; omega) (by show (_ : ℕ) % 8 = _; omega)
  · exact at2_of C _ _ _ (by show (_ : ℕ) / 8 = _; omega) (by show 8 + (_ : ℕ) % 8 = _; omega)
  · exact at2_of C _ _ _ (by show (_ : ℕ) / 8 = _; omega) (by show 16 + (_ : ℕ) % 8 = _; omega)

theorem ln2 (i : S_.Idx) : val_main_v22 (F := Ideal) i = ((Real.log 2 : ℝ) : EReal) := by
  rw [val_main_v22_apply, val_main_cst_apply]
  have h : Ideal.ofBits .f32 0x40000000#32 = ((2 : ℝ) : EReal) := by simp [Ideal.ofBits, Ideal.ieee, -EReal.coe_mul]; norm_num
  show Ideal.log (Ideal.ofBits .f32 0x40000000#32) = _
  rw [h]
  show (if (2 : ℝ) ≤ 0 then (⊥ : EReal) else _) = _
  rw [if_neg (by norm_num)]

/-- A logit of the reference before the mask. -/
theorem v24_at (i : S8x8x4096x4096.Idx) : val_main_v24 (F := Ideal) Z C i
    = (qk Z (i 0).val (i 1).val (i 2).val (i 3).val + cum C (i 0).val (i 1).val (i 2).val - cum C (i 0).val (i 1).val (i 3).val) * ((Real.log 2 : ℝ) : EReal) := by
  rw [val_main_v24_apply, val_main_v23_apply, ln2, val_main_v21_apply, val_main_v18_apply, val_main_v15_apply, val_main_v17_apply, val_main_v16_apply,
    val_main_v14_apply, v13_at, val_main_v20_apply, val_main_v19_apply, val_main_v14_apply, v13_at]
  simp only [v2_at, v4_at]
  rfl

/-- The mask keeps the keys up to the query. -/
theorem v32_at (i : S8x8x4096x4096.Idx) : val_main_v32 (F := Ideal) Z C i
    = if (i 3).val ≤ (i 2).val then val_main_v24 (F := Ideal) Z C i else ⊥ := by
  have h2 : (i 2).val < 4096 := (i 2).isLt; have h3 : (i 3).val < 4096 := (i 3).isLt
  rw [val_main_v32_apply, val_main_call0_v1_apply, val_main_v31_apply, val_main_v29_apply, val_main_v26_apply, val_main_v25_apply, val_main_v30_apply,
    val_main_v28_apply, val_main_v27_apply, val_main_call0_v2_apply, val_main_call0_v0_apply, val_main_cst_0_apply]
  have hb : (FloatOps.ofBits .f32 0xFF800000#32 : Ideal .f32) = ⊥ := neg_inf
  rw [hb]
  unfold Scalar.select
  refine if_congr ?_ rfl rfl
  show IntOp.cmpi .sle (BitVec.ofNat 32 (i 3).val) (BitVec.ofNat 32 (i 2).val) = 1#1 ↔ _
  rw [WordCmp.cmpi_sle_ofNat (by omega) (by omega)]
  by_cases h : (i 3).val ≤ (i 2).val <;> simp [h]

theorem red_lift (h : S8x8x4096x4096.Reduces [3] S8x8x4096) (i : S8x8x4096.Idx) (k : Fin 4096) : h.lift i k = idx_main_v40 i k := by
  funext a
  refine Fin.ext ?_
  show h.liftVal i k.val a = _
  match a with | ⟨0, _⟩ => rfl | ⟨1, _⟩ => rfl | ⟨2, _⟩ => rfl | ⟨3, _⟩ => rfl

/-- A maximum along the last axis from `⊥`, of a row that has a real entry and no `⊤`, is real. -/
theorem redmax_real (y : FVec Ideal S8x8x4096x4096 .f32) (init : FVec Ideal S_ .f32) (hi : init (Shape.Idx.first Gen.facts.h_S_) = ⊥) (i : S8x8x4096.Idx)
    (hR : ∀ k : Fin 4096, y (idx_main_v40 i k) ≠ ⊤) (k₀ : Fin 4096) (h0 : y (idx_main_v40 i k₀) ≠ ⊥) :
    ∃ M : ℝ, (max ⊥ (Host.reduce (FloatOps.maximumf (F := Ideal) (φ := .f32)) y init Gen.facts.reducesTo_S8x8x4096x4096_S8x8x4096_d3 Gen.facts.h_S_ i) : EReal) = (M : EReal) := by
  have h : S8x8x4096x4096.Reduces [3] S8x8x4096 := by decide
  have hf : Host.reduce (FloatOps.maximumf (F := Ideal) (φ := .f32)) y init Gen.facts.reducesTo_S8x8x4096x4096_S8x8x4096_d3 Gen.facts.h_S_ i
      = (Finset.univ : Finset (Fin 4096)).fold max (⊥ : EReal) (fun k => y (idx_main_v40 i k)) := by
    rw [Host.reduce_eq_fold_single (FloatOps.maximumf (F := Ideal) (φ := .f32)) y init Gen.facts.reducesTo_S8x8x4096x4096_S8x8x4096_d3 h Gen.facts.h_S_ i, hi]
    exact Finset.fold_congr fun k _ => congrArg y (red_lift h i k)
  rw [hf]
  exact max_real (W := 4096) (m := ⊥) _ hR k₀ h0 bot_ne_top

/-- The largest logit of a row is a real number when the row has a real logit and none is infinite upwards. -/
theorem v35_real (i : S8x8x4096.Idx) (hR : ∀ k : Fin 4096, val_main_v32 (F := Ideal) Z C (idx_main_v40 i k) ≠ ⊤)
    (k₀ : Fin 4096) (h0 : val_main_v32 (F := Ideal) Z C (idx_main_v40 i k₀) ≠ ⊥) : ∃ M : ℝ, val_main_v35 (F := Ideal) Z C i = (M : EReal) := by
  have hb : (FloatOps.ofBits .f32 0xFF800000#32 : Ideal .f32) = ⊥ := neg_inf
  rw [val_main_v35_apply, val_main_v34_apply, val_main_cst_2_apply, hb]
  unfold val_main_v33
  generalize val_main_v32 (F := Ideal) Z C = y at hR h0 ⊢
  exact redmax_real y _ (by rw [val_main_cst_1_apply, hb]) i hR k₀ h0

/-- The reference at row `T` of batch `b`, column `d` of head `H`. -/
theorem ref_apply (b H : Fin 8) (T : Fin 4096) (d : Fin 128)
    (hq : ∀ J : Fin 4096, ∃ ρ : ℝ, qk Z b H T J = (ρ : EReal)) (hc : ∀ J : Fin 4096, ∃ ρ : ℝ, cum C b H J = (ρ : EReal))
    (i : S32768x1024.Idx) (h0 : (i 0).val = b.val * 4096 + T.val) (h1 : (i 1).val = 128 * H.val + d.val) :
    ∃ M : ℝ, val_main_v47 (F := Ideal) Z C i = ∑ J : Fin 4096, vv Z b H J d *
      Ideal.div (Ideal.exp ((if J.val ≤ T.val then (qk Z b H T J + cum C b H T - cum C b H J) * ((Real.log 2 : ℝ) : EReal) else ⊥) - (M : EReal)))
        (0 + ∑ k : Fin 4096, Ideal.exp ((if k.val ≤ T.val then (qk Z b H T k + cum C b H T - cum C b H k) * ((Real.log 2 : ℝ) : EReal) else ⊥) - (M : EReal))) := by
  have hb := b.isLt; have hH := H.isLt; have hT := T.isLt; have hd := d.isLt
  have hi : idx_main_v45 (idx_main_v46 i) = ix4 b H d T := by
    funext a
    refine Fin.ext ?_
    match a with
    | ⟨0, _⟩ => show ((i 0).val * 1024 + (i 1).val) / 4194304 = b.val; omega
    | ⟨1, _⟩ => show ((i 0).val * 1024 + (i 1).val) / 128 % 8 = H.val; omega
    | ⟨2, _⟩ => show ((i 0).val * 1024 + (i 1).val) % 128 = d.val; omega
    | ⟨3, _⟩ => show ((i 0).val * 1024 + (i 1).val) / 1024 % 4096 = T.val; omega
  have hs : ∀ k : Fin 4096, val_main_v32 (F := Ideal) Z C (ix4 b H T k)
      = if k.val ≤ T.val then (qk Z b H T k + cum C b H T - cum C b H k) * ((Real.log 2 : ℝ) : EReal) else ⊥ := by
    intro k
    rw [v32_at, v24_at]; rfl
  have hk : ∀ k : Fin 4096, idx_main_v40 (ix3 b H T) k = ix4 b H T k := by
    intro k; funext a
    match a with | ⟨0, _⟩ => rfl | ⟨1, _⟩ => rfl | ⟨2, _⟩ => rfl | ⟨3, _⟩ => rfl
  have hreal : ∀ k : Fin 4096, ∃ ρ : ℝ, (qk Z b H T k + cum C b H T - cum C b H k) * ((Real.log 2 : ℝ) : EReal) = (ρ : EReal) := by
    intro k
    obtain ⟨x, hx⟩ := hq k; obtain ⟨y, hy⟩ := hc T; obtain ⟨z, hz⟩ := hc k
    rw [hx, hy, hz]
    exact ⟨(x + y - z) * Real.log 2, by push_cast; rfl⟩
  obtain ⟨M, hM⟩ := v35_real Z C (ix3 b H T) (fun k => by
      rw [hk, hs]; split
      · obtain ⟨ρ, h⟩ := hreal k; rw [h]; exact EReal.coe_ne_top ρ
      · exact bot_ne_top) T (by
      rw [hk, hs, if_pos le_rfl]
      obtain ⟨ρ, h⟩ := hreal T; rw [h]; exact EReal.coe_ne_bot ρ)
  have he : ∀ k : Fin 4096, val_main_v39 (F := Ideal) Z C (ix4 b H T k)
      = Ideal.exp ((if k.val ≤ T.val then (qk Z b H T k + cum C b H T - cum C b H k) * ((Real.log 2 : ℝ) : EReal) else ⊥) - (M : EReal)) := by
    intro k
    have h36 : idx_main_v36 (idx_main_v37 (ix4 b H T k)) = ix3 b H T := by
      funext a
      match a with | ⟨0, _⟩ => rfl | ⟨1, _⟩ => rfl | ⟨2, _⟩ => rfl
    rw [val_main_v39_apply, val_main_v38_apply, hs, val_main_v37_apply, val_main_v36_apply, h36, hM]
    rfl
  refine ⟨M, ?_⟩
  rw [val_main_v47_apply, val_main_v46_apply, val_main_v45_apply, hi]
  show val_main_v44 (F := Ideal) Z C (ix4 b H d T) = _
  rw [val_main_v44_apply]
  refine Finset.sum_congr rfl fun J _ => ?_
  have hr : ridx_main_v44 (ix4 b H d T) J = ix4 b H T J := by
    funext a
    match a with | ⟨0, _⟩ => rfl | ⟨1, _⟩ => rfl | ⟨2, _⟩ => rfl | ⟨3, _⟩ => rfl
  have h41 : idx_main_v41 (idx_main_v42 (ix4 b H T J)) = ix3 b H T := by
    funext a
    match a with | ⟨0, _⟩ => rfl | ⟨1, _⟩ => rfl | ⟨2, _⟩ => rfl
  have hz : (FloatOps.ofBits .f32 0x00000000#32 : Ideal .f32) = 0 := by
    show Ideal.ofBits .f32 0x00000000#32 = 0
    simp [Ideal.ofBits, Ideal.ieee]
  rw [hr, val_main_v43_apply, val_main_v42_apply, val_main_v41_apply, h41, val_main_v40_apply, val_main_cst_3_apply, hz, he, v6_at]
  simp only [hk, he]
  rfl

end Cert.Attn
-- ==== Proof.Soft.lean ====
/-
  Softmax over logits in nats with every logit of a row shifted by one number, against the ratio of sums of powers of two.
-/
module

public import proofs.«01_k».proof.Proof.Online

@[expose] public section

noncomputable section

namespace Cert.Attn.Online

open Idealize.ShloMosaic

variable {ι : Type} [Fintype ι]

/-- One exponential of the softmax is a positive multiple, the same for the whole row, of the weight. -/
theorem exp_eq (live : Prop) [Decidable live] (ρ c M μ : ℝ) :
    Ideal.exp ((if live then (((ρ + c) * Real.log 2 : ℝ) : EReal) else ⊥) - (M : EReal))
      = (((2 : ℝ) ^ (c + μ) * Real.exp (-M) * wt (if live then (ρ : EReal) else ⊥) μ : ℝ) : EReal) := by
  split
  · rw [wt_coe, ← EReal.coe_sub]
    show ((Real.exp _ : ℝ) : EReal) = _
    congr 1
    rw [Real.rpow_def_of_pos two_pos, Real.rpow_def_of_pos two_pos, ← Real.exp_add, ← Real.exp_add]
    congr 1; ring
  · rw [wt_bot, mul_zero, EReal.bot_sub]; rfl

/-- The weighted mean of the values by the softmax of a row is the ratio of the two sums the blocks carry. -/
theorem soft (live : ι → Prop) [DecidablePred live] (ρ : ι → ℝ) (V : ι → EReal) (c M μ : ℝ) (j₀ : ι) (h₀ : live j₀) :
    Ideal.div (∑ j, (wt (if live j then (ρ j : EReal) else ⊥) μ : EReal) * V j) (∑ j, (wt (if live j then (ρ j : EReal) else ⊥) μ : EReal))
      = ∑ j, V j * Ideal.div (Ideal.exp ((if live j then (((ρ j + c) * Real.log 2 : ℝ) : EReal) else ⊥) - (M : EReal)))
          (0 + ∑ k, Ideal.exp ((if live k then (((ρ k + c) * Real.log 2 : ℝ) : EReal) else ⊥) - (M : EReal))) := by
  have he : ∀ j, Ideal.exp ((if live j then (((ρ j + c) * Real.log 2 : ℝ) : EReal) else ⊥) - (M : EReal))
      = (((2 : ℝ) ^ (c + μ) * Real.exp (-M) * wt (if live j then (ρ j : EReal) else ⊥) μ : ℝ) : EReal) := fun j => exp_eq _ _ _ _ _
  simp only [he]
  have hC : 0 < (2 : ℝ) ^ (c + μ) * Real.exp (-M) := mul_pos (Real.rpow_pos_of_pos two_pos _) (Real.exp_pos _)
  generalize (2 : ℝ) ^ (c + μ) * Real.exp (-M) = C at hC ⊢
  have hw : ∀ j, 0 ≤ wt (if live j then (ρ j : EReal) else ⊥) μ := fun j => wt_nonneg _ _
  have hw0 : 0 < wt (if live j₀ then (ρ j₀ : EReal) else ⊥) μ := by rw [if_pos h₀, wt_coe]; exact Real.rpow_pos_of_pos two_pos _
  generalize hW : (fun j => wt (if live j then (ρ j : EReal) else ⊥) μ) = w
  have hW' : ∀ j, wt (if live j then (ρ j : EReal) else ⊥) μ = w j := fun j => congrFun hW j
  simp only [hW'] at hw hw0 ⊢
  have hS : 0 < ∑ j, w j := Finset.sum_pos' (fun j _ => hw j) ⟨j₀, Finset.mem_univ _, hw0⟩
  rw [zero_add, ← coe_sum, ← coe_sum, ← Finset.mul_sum]
  have hd : ∀ (x : EReal) (y : ℝ), y ≠ 0 → Ideal.div x (y : EReal) = ((y⁻¹ : ℝ) : EReal) * x := fun x y hy => by
    unfold Ideal.div
    rw [if_neg (by exact_mod_cast hy), ← EReal.coe_inv, mul_comm]
  rw [hd _ _ hS.ne', coe_mul_sum _ _ (inv_nonneg.2 hS.le)]
  refine Finset.sum_congr rfl fun j _ => ?_
  rw [hd _ _ (mul_pos hC hS).ne', ← EReal.coe_mul, ← mul_assoc, ← EReal.coe_mul, mul_comm (V j)]
  congr 2
  field_simp

end Cert.Attn.Online
-- ==== Proof.Array.lean ====
/-
  The attention call's blocks as entries of its arrays, and the array it leaves: the reference's value, when queries, keys and decays are finite.
-/
module

public import proofs.«01_k».proof.Proof.Block
public import proofs.«01_k».proof.Proof.Ref
public import proofs.«01_k».proof.Proof.Soft
public import Idealize.ShloMosaic.Lib.Pipeline.Value
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe
open Idealize.ShloMosaic.Pipeline (Dat Cfg Window)
open Cert.Attn.Online

/-! ## The blocks -/

theorem index0 : ∀ t : Fin cfg0.N, win0_0.index t = ![(grid0.coords t 0).val * 8 + (grid0.coords t 2).val, 4 + (grid0.coords t 1).val] :=
  (by decide +kernel : ∀ t : Fin grid0.N, win0_0.index t = ![(grid0.coords t 0).val * 8 + (grid0.coords t 2).val, 4 + (grid0.coords t 1).val])
theorem index1 : ∀ t : Fin cfg0.N, win0_1.index t = ![(grid0.coords t 0).val, 6 + (grid0.coords t 1).val] :=
  (by decide +kernel : ∀ t : Fin grid0.N, win0_1.index t = ![(grid0.coords t 0).val, 6 + (grid0.coords t 1).val])
theorem index2 : ∀ t : Fin cfg0.N, win0_2.index t = ![(grid0.coords t 0).val, 8 + (grid0.coords t 1).val] :=
  (by decide +kernel : ∀ t : Fin grid0.N, win0_2.index t = ![(grid0.coords t 0).val, 8 + (grid0.coords t 1).val])
theorem index3 : ∀ t : Fin cfg0.N, win0_3.index t = ![(grid0.coords t 0).val, 0] :=
  (by decide +kernel : ∀ t : Fin grid0.N, win0_3.index t = ![(grid0.coords t 0).val, 0])
theorem index4 : ∀ t : Fin cfg0.N, win0_4.index t = ![(grid0.coords t 0).val * 8 + (grid0.coords t 2).val, (grid0.coords t 1).val] :=
  (by decide +kernel : ∀ t : Fin grid0.N, win0_4.index t = ![(grid0.coords t 0).val * 8 + (grid0.coords t 2).val, (grid0.coords t 1).val])

variable (m : (ℓ : Loc nD τ sig) → Buf (Elt Ideal) ℓ) (c : Dev nD) (t : Fin cfg0.N)

/-- The packed projections and the stored decays of device `c`. -/
def Zm : FVec Ideal S32768x7168 .bf16 := m ((c : Thread nD τ).loc main_arg0)
def Cm : FVec Ideal S32768x128 .bf16 := m ((c : Thread nD τ).loc main_arg1)

/-- The four blocks of point `t`. -/
def X0 : Vec Ideal S512x512 .bf16 := iblk m c 0 t
def X1 : Vec Ideal S4096x512 .bf16 := iblk m c 1 t
def X2 : Vec Ideal S4096x512 .bf16 := iblk m c 2 t
def X3 : Vec Ideal S4096x128 .bf16 := iblk m c 3 t

theorem X0_at (r x : ℕ) (hr : r < 512) (hx : x < 512) : at2 (a := 512) (b := 512) (X0 m c t) r x
    = at2 (a := 32768) (b := 7168) (Zm m c) (((grid0.coords t 0).val * 8 + (grid0.coords t 2).val) * 512 + r) ((4 + (grid0.coords t 1).val) * 512 + x) := by
  unfold at2
  rw [dif_pos ⟨hr, hx⟩]
  refine at2_of (a := 32768) (b := 7168) (Zm m c) ((win0_0.rect t).emb (ix2 ⟨r, hr⟩ ⟨x, hx⟩)) _ _ ?_ ?_
  · refine (Window.rect_emb_val win0_0 t _ 0 rfl).trans ?_; rw [index0 t]; rfl
  · refine (Window.rect_emb_val win0_0 t _ 1 rfl).trans ?_; rw [index0 t]; rfl
theorem X1_at (r x : ℕ) (hr : r < 4096) (hx : x < 512) : at2 (a := 4096) (b := 512) (X1 m c t) r x
    = at2 (a := 32768) (b := 7168) (Zm m c) ((grid0.coords t 0).val * 4096 + r) ((6 + (grid0.coords t 1).val) * 512 + x) := by
  unfold at2
  rw [dif_pos ⟨hr, hx⟩]
  refine at2_of (a := 32768) (b := 7168) (Zm m c) ((win0_1.rect t).emb (ix2 ⟨r, hr⟩ ⟨x, hx⟩)) _ _ ?_ ?_
  · refine (Window.rect_emb_val win0_1 t _ 0 rfl).trans ?_; rw [index1 t]; rfl
  · refine (Window.rect_emb_val win0_1 t _ 1 rfl).trans ?_; rw [index1 t]; rfl
theorem X2_at (r x : ℕ) (hr : r < 4096) (hx : x < 512) : at2 (a := 4096) (b := 512) (X2 m c t) r x
    = at2 (a := 32768) (b := 7168) (Zm m c) ((grid0.coords t 0).val * 4096 + r) ((8 + (grid0.coords t 1).val) * 512 + x) := by
  unfold at2
  rw [dif_pos ⟨hr, hx⟩]
  refine at2_of (a := 32768) (b := 7168) (Zm m c) ((win0_2.rect t).emb (ix2 ⟨r, hr⟩ ⟨x, hx⟩)) _ _ ?_ ?_
  · refine (Window.rect_emb_val win0_2 t _ 0 rfl).trans ?_; rw [index2 t]; rfl
  · refine (Window.rect_emb_val win0_2 t _ 1 rfl).trans ?_; rw [index2 t]; rfl
theorem X3_at (r x : ℕ) (hr : r < 4096) (hx : x < 128) : at2 (a := 4096) (b := 128) (X3 m c t) r x
    = at2 (a := 32768) (b := 128) (Cm m c) ((grid0.coords t 0).val * 4096 + r) x := by
  unfold at2
  rw [dif_pos ⟨hr, hx⟩]
  refine at2_of (a := 32768) (b := 128) (Cm m c) ((win0_3.rect t).emb (ix2 ⟨r, hr⟩ ⟨x, hx⟩)) _ _ ?_ ?_
  · refine (Window.rect_emb_val win0_3 t _ 0 rfl).trans ?_; rw [index3 t]; rfl
  · refine (Window.rect_emb_val win0_3 t _ 1 rfl).trans ?_; rw [index3 t]; show 0 * 128 + x = x; omega

/-! ## Real entries, real logits -/

/-- Every entry of the queries, of the keys and of the stored decays is a real number. -/
structure Fin2 (Z : FVec Ideal S32768x7168 .bf16) (C : FVec Ideal S32768x128 .bf16) : Prop where
  z : ∀ r c, r < 32768 → 2048 ≤ c → c < 4096 → ∃ ρ : ℝ, at2 (a := 32768) (b := 7168) Z r c = (ρ : EReal)
  c : ∀ r l, r < 32768 → l < 24 → ∃ ρ : ℝ, at2 (a := 32768) (b := 128) C r l = (ρ : EReal)

theorem at2_out {a b : ℕ} (x : (⟨2, ![a, b]⟩ : Shape).Idx → EReal) (r c : ℕ) (h : ¬ (r < a ∧ c < b)) : at2 x r c = 0 := by
  unfold at2; rw [dif_neg h]

theorem sum_real {ι : Type} [Fintype ι] (f : ι → EReal) (h : ∀ j, ∃ ρ : ℝ, f j = (ρ : EReal)) : ∃ ρ : ℝ, ∑ j, f j = (ρ : EReal) := by
  choose g hg using h
  exact ⟨∑ j, g j, by rw [coe_sum]; exact Finset.sum_congr rfl fun j _ => hg j⟩
theorem mul_real {x y : EReal} (hx : ∃ ρ : ℝ, x = (ρ : EReal)) (hy : ∃ ρ : ℝ, y = (ρ : EReal)) : ∃ ρ : ℝ, x * y = (ρ : EReal) := by
  obtain ⟨a, rfl⟩ := hx; obtain ⟨b, rfl⟩ := hy; exact ⟨a * b, (EReal.coe_mul a b).symm⟩
theorem add_real {x y : EReal} (hx : ∃ ρ : ℝ, x = (ρ : EReal)) (hy : ∃ ρ : ℝ, y = (ρ : EReal)) : ∃ ρ : ℝ, x + y = (ρ : EReal) := by
  obtain ⟨a, rfl⟩ := hx; obtain ⟨b, rfl⟩ := hy; exact ⟨a + b, (EReal.coe_add a b).symm⟩

section real
variable {m c t}
variable (hF : Fin2 (Zm m c) (Cm m c))
include hF

theorem X0_real (r x : ℕ) : ∃ ρ : ℝ, at2 (a := 512) (b := 512) (X0 m c t) r x = (ρ : EReal) := by
  by_cases h : r < 512 ∧ x < 512
  · have h0 : (grid0.coords t 0).val < 8 := (grid0.coords t 0).isLt
    have h1 : (grid0.coords t 1).val < 2 := (grid0.coords t 1).isLt
    have h2 : (grid0.coords t 2).val < 8 := (grid0.coords t 2).isLt
    rw [X0_at m c t r x h.1 h.2]
    exact hF.z _ _ (by omega) (by omega) (by omega)
  · exact ⟨0, at2_out _ _ _ h⟩
theorem X1_real (r x : ℕ) : ∃ ρ : ℝ, at2 (a := 4096) (b := 512) (X1 m c t) r x = (ρ : EReal) := by
  by_cases h : r < 4096 ∧ x < 512
  · have h0 : (grid0.coords t 0).val < 8 := (grid0.coords t 0).isLt
    have h1 : (grid0.coords t 1).val < 2 := (grid0.coords t 1).isLt
    rw [X1_at m c t r x h.1 h.2]
    exact hF.z _ _ (by omega) (by omega) (by omega)
  · exact ⟨0, at2_out _ _ _ h⟩
theorem X3_real (r x : ℕ) (hx : x < 24) : ∃ ρ : ℝ, at2 (a := 4096) (b := 128) (X3 m c t) r x = (ρ : EReal) := by
  by_cases h : r < 4096
  · have h0 : (grid0.coords t 0).val < 8 := (grid0.coords t 0).isLt
    rw [X3_at m c t r x h (by omega)]
    exact hF.c _ _ (by omega) hx
  · exact ⟨0, at2_out _ _ _ (fun h' => h h'.1)⟩

theorem lg_real (i : grid0.Coords) (L : ℕ) (h : Fin 4) : Real (X0 m c t) (X1 m c t) (X3 m c t) L (hd i (BitVec.ofNat 32 h)) := by
  intro r J
  refine add_real (sum_real _ fun x => mul_real (X0_real hF _ _) (X1_real hF _ _)) (sum_real _ fun x => ?_)
  rw [sel_eq]
  split
  · rename_i hx
    exact mul_real ⟨-1, rfl⟩ (X3_real hF _ _ hx.1)
  · exact ⟨0, zero_mul _⟩

theorem reals (i : grid0.Coords) : Reals i (X0 m c t) (X1 m c t) (X3 m c t) :=
  ⟨lg_real hF i 0 0, lg_real hF i 128 1, lg_real hF i 256 2, lg_real hF i 384 3⟩

theorem qk_real (b H T J : ℕ) (hb : b < 8) (hH : H < 8) (hT : T < 4096) (hJ : J < 4096) : ∃ ρ : ℝ, qk (Zm m c) b H T J = (ρ : EReal) :=
  sum_real _ fun k => mul_real (hF.z _ _ (by omega) (by omega) (by have := k.isLt; omega)) (hF.z _ _ (by omega) (by omega) (by have := k.isLt; omega))
theorem cum_real (b H J : ℕ) (hb : b < 8) (hH : H < 8) (hJ : J < 4096) : ∃ ρ : ℝ, cum (Cm m c) b H J = (ρ : EReal) :=
  add_real (add_real (hF.c _ _ (by omega) (by omega)) (hF.c _ _ (by omega) (by omega))) (hF.c _ _ (by omega) (by omega))

end real

/-- The selecting matrix takes the three stored parts of the head's decay, negated. -/
theorem sel_sum (i : grid0.Coords) (h : Fin 4) (f : ℕ → EReal) :
    ∑ x : Fin 128, sel (hd i (BitVec.ofNat 32 h)) x * f x = -f (4 * (i 1).val + h) + -f (8 + (4 * (i 1).val + h)) + -f (16 + (4 * (i 1).val + h)) := by
  have h1 : (i 1).val < 2 := (i 1).isLt
  have hh := h.isLt
  have e : ∀ x : Fin 128, sel (hd i (BitVec.ofNat 32 h)) x * f x
      = ((if x = (⟨4 * (i 1).val + h, by omega⟩ : Fin 128) then -f x else 0) + (if x = (⟨8 + (4 * (i 1).val + h), by omega⟩ : Fin 128) then -f x else 0))
        + (if x = (⟨16 + (4 * (i 1).val + h), by omega⟩ : Fin 128) then -f x else 0) := by
    intro x
    rw [sel_eq]
    simp only [Fin.ext_iff]
    have hx := x.isLt
    by_cases a : x.val = 4 * (i 1).val + h
    · rw [if_pos (by omega), if_pos a, if_neg (by omega), if_neg (by omega), add_zero, add_zero, neg_mul, one_mul]
    · by_cases a' : x.val = 8 + (4 * (i 1).val + h)
      · rw [if_pos (by omega), if_neg a, if_pos a', if_neg (by omega), zero_add, add_zero, neg_mul, one_mul]
      · by_cases a'' : x.val = 16 + (4 * (i 1).val + h)
        · rw [if_pos (by omega), if_neg a, if_neg a', if_pos a'', zero_add, zero_add, neg_mul, one_mul]
        · rw [if_neg (by omega), if_neg a, if_neg a', if_neg a'', zero_mul, add_zero, add_zero]
  simp only [e, Finset.sum_add_distrib, Finset.sum_ite_eq', Finset.mem_univ, if_true]

/-- A block's logit is the query times the key less the key's decay. -/
theorem lg_eq (hF : Fin2 (Zm m c) (Cm m c)) (h : Fin 4) (r : Fin 512) (J : Fin 4096) :
    lg (X0 m c t) (X1 m c t) (X3 m c t) (128 * h) (hd (grid0.coords t) (BitVec.ofNat 32 h)) r J
      = qk (Zm m c) (grid0.coords t 0).val (4 * (grid0.coords t 1).val + h) (512 * (grid0.coords t 2).val + r) J
        - cum (Cm m c) (grid0.coords t 0).val (4 * (grid0.coords t 1).val + h) J := by
  have h0 : (grid0.coords t 0).val < 8 := (grid0.coords t 0).isLt
  have h1 : (grid0.coords t 1).val < 2 := (grid0.coords t 1).isLt
  have h2 : (grid0.coords t 2).val < 8 := (grid0.coords t 2).isLt
  have hh := h.isLt; have hr := r.isLt; have hJ := J.isLt
  unfold lg
  rw [sel_sum (grid0.coords t) h (fun x => at2 (a := 4096) (b := 128) (X3 m c t) J x)]
  simp only []
  rw [X3_at m c t J _ hJ (by omega), X3_at m c t J _ hJ (by omega), X3_at m c t J _ hJ (by omega)]
  rw [sub_eq_add_neg]
  refine congrArg₂ (· + ·) (Finset.sum_congr rfl fun x _ => ?_) ?_
  · have hx := x.isLt
    rw [X0_at m c t r _ hr (by omega), X1_at m c t J _ hJ (by omega)]
    refine congrArg₂ (· * ·) (congrArg₂ (at2 (a := 32768) (b := 7168) (Zm m c)) ?_ ?_) (congrArg₂ (at2 (a := 32768) (b := 7168) (Zm m c)) ?_ ?_) <;> omega
  · unfold cum
    obtain ⟨a, ha⟩ := hF.c ((grid0.coords t 0).val * 4096 + J) (4 * (grid0.coords t 1).val + h) (by omega) (by omega)
    obtain ⟨b, hb⟩ := hF.c ((grid0.coords t 0).val * 4096 + J) (8 + (4 * (grid0.coords t 1).val + h)) (by omega) (by omega)
    obtain ⟨d, hd⟩ := hF.c ((grid0.coords t 0).val * 4096 + J) (16 + (4 * (grid0.coords t 1).val + h)) (by omega) (by omega)
    rw [ha, hb, hd]
    norm_cast
    congr 1
    ring

/-! ## The array -/

/-- An entry of a point's output block is the reference's. -/
theorem outAt_ref (hF : Fin2 (Zm m c) (Cm m c)) (r : Fin 512) (h : Fin 4) (d : Fin 128) (k : S32768x1024.Idx)
    (hk0 : (k 0).val = ((grid0.coords t 0).val * 8 + (grid0.coords t 2).val) * 512 + r.val)
    (hk1 : (k 1).val = (grid0.coords t 1).val * 512 + (128 * h.val + d.val)) :
    outAt c t (X0 m c t) (X1 m c t) (X2 m c t) (X3 m c t) (ix2 r ⟨128 * h + d, by omega⟩)
      = Cert.ReferenceIdeal.Read.val_main_v47 (F := Ideal) (Zm m c) (Cm m c) k := by
  have h0 : (grid0.coords t 0).val < 8 := (grid0.coords t 0).isLt
  have h1 : (grid0.coords t 1).val < 2 := (grid0.coords t 1).isLt
  have h2 : (grid0.coords t 2).val < 8 := (grid0.coords t 2).isLt
  have hh := h.isLt; have hr := r.isLt; have hdd := d.isLt
  rw [outAt_eq]
  obtain ⟨μ, hμ⟩ := outV_apply (grid0.coords t) (X0 m c t) (X1 m c t) (X2 m c t) (X3 m c t) (reals hF _) r h d
  rw [hμ]
  obtain ⟨M, hM⟩ := ref_apply (Zm m c) (Cm m c) ⟨(grid0.coords t 0).val, h0⟩ ⟨4 * (grid0.coords t 1).val + h, by omega⟩ ⟨512 * (grid0.coords t 2).val + r, by omega⟩ d
    (fun J => qk_real hF _ _ _ _ h0 (by show 4 * (grid0.coords t 1).val + h.val < 8; omega) (by show 512 * (grid0.coords t 2).val + r.val < 4096; omega) J.isLt)
    (fun J => cum_real hF _ _ _ h0 (by show 4 * (grid0.coords t 1).val + h.val < 8; omega) J.isLt) k (by show _ = (grid0.coords t 0).val * 4096 + (512 * (grid0.coords t 2).val + r.val); omega)
    (by show _ = 128 * (4 * (grid0.coords t 1).val + h.val) + d.val; omega)
  rw [hM]
  simp only []
  have hq : ∀ J : Fin 4096, ∃ ρ : ℝ, qk (Zm m c) (grid0.coords t 0).val (4 * (grid0.coords t 1).val + h) (512 * (grid0.coords t 2).val + r) J = (ρ : EReal) :=
    fun J => qk_real hF _ _ _ _ h0 (by omega) (by omega) J.isLt
  have hc : ∀ J : Fin 4096, ∃ ρ : ℝ, cum (Cm m c) (grid0.coords t 0).val (4 * (grid0.coords t 1).val + h) J = (ρ : EReal) :=
    fun J => cum_real hF _ _ _ h0 (by omega) J.isLt
  choose σ hσ using hq
  choose γ hγ using hc
  obtain ⟨ct, hct⟩ := cum_real hF (grid0.coords t 0).val (4 * (grid0.coords t 1).val + h) (512 * (grid0.coords t 2).val + r) h0 (by omega) (by omega)
  have hs : ∀ J : Fin 4096, srow (X0 m c t) (X1 m c t) (X3 m c t) (128 * h) (hd (grid0.coords t) (BitVec.ofNat 32 h)) (tile (grid0.coords t)) r J
      = if J.val ≤ 512 * (grid0.coords t 2).val + r.val then ((σ J - γ J : ℝ) : EReal) else ⊥ := by
    intro J
    unfold srow
    refine if_congr Iff.rfl ?_ rfl
    rw [lg_eq m c t hF h r J, hσ, hγ, EReal.coe_sub]
  have hv : ∀ J : Fin 4096, vrow (X2 m c t) (128 * h) J d = vv (Zm m c) (grid0.coords t 0).val (4 * (grid0.coords t 1).val + h) J d := by
    intro J
    unfold vrow vv
    rw [X2_at m c t J _ J.isLt (by omega)]
    exact congrArg₂ (at2 (a := 32768) (b := 7168) (Zm m c)) rfl (by omega)
  have hl : ∀ J : Fin 4096, (qk (Zm m c) (grid0.coords t 0).val (4 * (grid0.coords t 1).val + h) (512 * (grid0.coords t 2).val + r) J
        + cum (Cm m c) (grid0.coords t 0).val (4 * (grid0.coords t 1).val + h) (512 * (grid0.coords t 2).val + r)
        - cum (Cm m c) (grid0.coords t 0).val (4 * (grid0.coords t 1).val + h) J) * ((_root_.Real.log 2 : ℝ) : EReal)
      = ((((σ J - γ J) + ct) * _root_.Real.log 2 : ℝ) : EReal) := by
    intro J
    rw [hσ, hγ, hct]
    norm_cast
    congr 1
    ring
  simp only [hs, hv, hl]
  exact soft (fun J : Fin 4096 => J.val ≤ 512 * (grid0.coords t 2).val + r.val) (fun J => σ J - γ J)
    (fun J => vv (Zm m c) (grid0.coords t 0).val (4 * (grid0.coords t 1).val + h) J d) ct M μ ⟨512 * (grid0.coords t 2).val + r, by omega⟩ le_rfl

/-- The array the call leaves. -/
theorem final (hF : Fin2 (Zm m c) (Cm m c)) : (dats m 0 c).arrAt 4 cfg0.N = Cert.ReferenceIdeal.Read.val_main_v47 (F := Ideal) (Zm m c) (Cm m c) := by
  refine (dats m 0 c).arrAt_eq_of_covers 4 _ (by decide +kernel) fun t hf y => ?_
  have e : ∀ y : S512x512.Idx, (dats m 0 c).after 4 t y = Cert.ReferenceIdeal.Read.val_main_v47 (F := Ideal) (Zm m c) (Cm m c) ((win0_4.rect t).emb y) := by
    intro y
    have hy0 : (y 0).val < 512 := (y 0).isLt
    have hy1 : (y 1).val < 512 := (y 1).isLt
    rw [after_4]
    have hy : y = ix2 (⟨(y 0).val, hy0⟩ : Fin 512) (⟨128 * (⟨(y 1).val / 128, by omega⟩ : Fin 4).val + (⟨(y 1).val % 128, by omega⟩ : Fin 128).val, by simp only []; omega⟩ : Fin 512) := by
      funext a
      refine Fin.ext ?_
      match a with
      | ⟨0, _⟩ => rfl
      | ⟨1, _⟩ => show (y 1).val = 128 * ((y 1).val / 128) + (y 1).val % 128; omega
    conv_lhs => rw [hy]
    refine outAt_ref m c t hF ⟨(y 0).val, hy0⟩ ⟨(y 1).val / 128, by omega⟩ ⟨(y 1).val % 128, by omega⟩ ((win0_4.rect t).emb y) ?_ ?_
    · refine (Window.rect_emb_val win0_4 t _ 0 rfl).trans ?_; rw [index4 t]; rfl
    · refine (Window.rect_emb_val win0_4 t _ 1 rfl).trans ?_; rw [index4 t]
      show (grid0.coords t 1).val * 512 + (y 1).val = (grid0.coords t 1).val * 512 + (128 * ((y 1).val / 128) + (y 1).val % 128)
      omega
  exact e y

end Cert.Attn
-- ==== Proof.Pre.lean ====
/-
  The precondition read: every query, key and stored decay is a real number.
-/
module

public import proofs.«01_k».proof.Pre_finite
public import proofs.«01_k».proof.Proof.Array
public import Idealize.ShloMosaic.Lib.ReduceAll

@[expose] public section

set_option maxRecDepth 16384

noncomputable section

namespace Cert.Attn

open Idealize.ShloMosaic Idealize.ShloMosaic.TcCoe
open Cert.Pre_finite

instance preFacts : Cert.Pre_finite.Facts where
  slices_S32768x7168_S32768x2048_0_2048 := by decide
  bitsLt_bf16_f32 := by decide
  bcast_S_S32768x2048 := by decide
  reducesTo_S32768x2048_S_d0_1 := by decide
  h_S_ := by decide
  slices_S32768x128_S32768x24_0_0 := by decide
  bcast_S_S32768x24 := by decide
  reducesTo_S32768x24_S_d0_1 := by decide

theorem pos_inf : Ideal.ofBits .f32 0x7F800000#32 = ⊤ := by
  simp [Ideal.ofBits, Ideal.ieee]

/-- An extended real whose absolute value is below `⊤` is a real number. -/
theorem real_of_abs (x : EReal) (h : (FloatOps.cmpf (F := Ideal) (φ := .f32) .olt (max x (-x) : EReal) (⊤ : EReal)) = 1#1) : ∃ ρ : ℝ, x = (ρ : EReal) := by
  have hlt : max x (-x) < ⊤ := by
    by_contra hn
    change BitVec.ofBool (decide (max x (-x) < (⊤ : EReal))) = 1#1 at h
    simp [hn] at h
  induction x using EReal.rec with
  | bot => simp at hlt
  | top => simp at hlt
  | coe r => exact ⟨r, rfl⟩

instance : Subsingleton S_.Idx := ⟨fun a b => funext fun k => k.elim0⟩

theorem fin2_of_pre (Z : FVec Ideal S32768x7168 .bf16) (C : FVec Ideal S32768x128 .bf16) (h : Cert.Pre_finite.fn (F := Ideal) Z C = fun _ => 1#1) : Fin2 Z C := by
  have h1 := congrFun h (Shape.Idx.first preFacts.h_S_)
  unfold Cert.Pre_finite.fn at h1
  simp only [] at h1
  obtain ⟨ha, hb⟩ := IntOp.andi_eq_one.1 h1
  refine ⟨fun r c hr hc hc' => ?_, fun r l hr hl => ?_⟩
  · have := Host.reduce_andi_all _ _ _ _ _ ha (ix2 (⟨r, hr⟩ : Fin 32768) (⟨c - 2048, by omega⟩ : Fin 2048))
    have e : extractStridedSlice S32768x2048 ![0, 2048] Z preFacts.slices_S32768x7168_S32768x2048_0_2048 (ix2 (⟨r, hr⟩ : Fin 32768) (⟨c - 2048, by omega⟩ : Fin 2048))
        = at2 (a := 32768) (b := 7168) Z r c := by
      rw [extractStridedSlice_apply ![0, 2048] Z preFacts.slices_S32768x7168_S32768x2048_0_2048 _ (ix2 (⟨r, hr⟩ : Fin 32768) (⟨c, by omega⟩ : Fin 7168)) (fun a => match a with
        | ⟨0, _⟩ => by show r = 0 + r; omega
        | ⟨1, _⟩ => by show c = 2048 + (c - 2048); omega)]
      exact at2_of Z _ _ _ rfl rfl
    rw [← e]
    exact real_of_abs _ (by rw [← pos_inf]; exact this)
  · have := Host.reduce_andi_all _ _ _ _ _ hb (ix2 (⟨r, hr⟩ : Fin 32768) (⟨l, hl⟩ : Fin 24))
    have e : extractStridedSlice S32768x24 ![0, 0] C preFacts.slices_S32768x128_S32768x24_0_0 (ix2 (⟨r, hr⟩ : Fin 32768) (⟨l, hl⟩ : Fin 24))
        = at2 (a := 32768) (b := 128) C r l := by
      rw [extractStridedSlice_apply ![0, 0] C preFacts.slices_S32768x128_S32768x24_0_0 _ (ix2 (⟨r, hr⟩ : Fin 32768) (⟨l, by omega⟩ : Fin 128)) (fun a => match a with
        | ⟨0, _⟩ => by show r = 0 + r; omega
        | ⟨1, _⟩ => by show l = 0 + l; omega)]
      exact at2_of C _ _ _ rfl rfl
    rw [← e]
    exact real_of_abs _ (by rw [← pos_inf]; exact this)

end Cert.Attn
-- ==== Proof.ProjBody.lean ====
/-
  The projection body at one grid point, over any float values: what it leaves in the scratch block of normalized
  rows, in the forget logits' block and in the projections' block. Read at the kernel's idealization.
-/
module

public import proofs.«01_k».proof.Proof.Gen.InprojIdeal.Frame
public import proofs.«01_k».proof.Proof.Gen.InprojIdeal.Skeleton
public import Idealize.ShloMosaic.Lib.VecWindow
public import Idealize.ShloMosaic.Lib.Claim

@[expose] public section

set_option maxRecDepth 16384

noncomputable section

namespace Cert.Proj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A column block that is neither the first nor the queries': the product of the kept rows with the weight block. -/
theorem body_plain (c : Dev nD) (E : Set ℕ) (i : grid0.Coords)
    (arg2 : Memref sig .tc .vmem S2048x1024 .f32) (h2 : arg2.IsWhole) (arg3 : Memref sig .tc .vmem S1x1024 .f32) (h3 : arg3.IsWhole)
    (arg4 : Memref sig .tc .vmem S1024x1024 .bf16) (h4 : arg4.IsWhole) (arg5 : Memref sig .tc .vmem S1024x128 .bf16) (h5 : arg5.IsWhole)
    (arg6 : Memref sig .tc .vmem S2048x1024 .bf16) (h6 : arg6.IsWhole) (arg7 : Memref sig .tc .vmem S2048x128 .f32) (h7 : arg7.IsWhole)
    (arg8 : Memref sig .tc .vmem S2048x1024 .bf16) (h8 : arg8.IsWhole)
    (x4 : Vec F S1024x1024 .bf16) (x8 : Vec F S2048x1024 .bf16) (K : PUnit → sProp 𝕄)
    (hc1 : ¬ k0_cond1 i = 1#1) (hc2 : ¬ k0_cond2 i = 1#1) (hc3 : k0_cond3 i = 1#1) :
    iprop(owns (c : Thread nD τ) arg4 fullShare x4 ∗ owns (c : Thread nD τ) arg8 fullShare x8 ∗ (∃ d, owns (c : Thread nD τ) arg6 fullShare d)
        ∗ (iprop(owns (c : Thread nD τ) arg4 fullShare x4 ∗ owns (c : Thread nD τ) arg8 fullShare x8
            ∗ owns (c : Thread nD τ) arg6 fullShare (k0_pay5 x8 x4)) -∗ K ⟨⟩))
      ⊢ wp frame (wpE (defs₀ (F := F)) Variants.none (c : Thread nD τ) none) E
        (cc0_inproj i arg2 h2 arg3 h3 arg4 h4 arg5 h5 arg6 h6 arg7 h7 arg8 h8) K := by
  simp only [cc0_inproj_eq_skeleton]; unfold cc0_inproj_skel owns
  iintro ⟨⟨%f4, %hf4, H4⟩, ⟨%f8, %hf8, H8⟩, ⟨%d, %f6, -, H6⟩, Hk⟩
  sl_exec (disch := first | sl_exact hc1 | sl_exact hc2 | sl_exact hc3)
  sl_step
  iapply Hk
  isplitl [H4]
  · iexists _; isplitr; swap; · iexact H4
    ipureintro; exact hf4
  isplitl [H8]
  · iexists _; isplitr; swap; · iexact H8
    ipureintro; exact hf8
  iexists _; isplitr; swap; · iexact H6
  ipureintro
  rw [View.read_writes_full, View.readAt_full, View.readAt_full, hf4, hf8]

/-- The queries' column block: that product times the named factor. -/
theorem body_query (c : Dev nD) (E : Set ℕ) (i : grid0.Coords)
    (arg2 : Memref sig .tc .vmem S2048x1024 .f32) (h2 : arg2.IsWhole) (arg3 : Memref sig .tc .vmem S1x1024 .f32) (h3 : arg3.IsWhole)
    (arg4 : Memref sig .tc .vmem S1024x1024 .bf16) (h4 : arg4.IsWhole) (arg5 : Memref sig .tc .vmem S1024x128 .bf16) (h5 : arg5.IsWhole)
    (arg6 : Memref sig .tc .vmem S2048x1024 .bf16) (h6 : arg6.IsWhole) (arg7 : Memref sig .tc .vmem S2048x128 .f32) (h7 : arg7.IsWhole)
    (arg8 : Memref sig .tc .vmem S2048x1024 .bf16) (h8 : arg8.IsWhole)
    (x4 : Vec F S1024x1024 .bf16) (x8 : Vec F S2048x1024 .bf16) (K : PUnit → sProp 𝕄)
    (hc1 : ¬ k0_cond1 i = 1#1) (hc2 : k0_cond2 i = 1#1) (hc3 : ¬ k0_cond3 i = 1#1) :
    iprop(owns (c : Thread nD τ) arg4 fullShare x4 ∗ owns (c : Thread nD τ) arg8 fullShare x8 ∗ (∃ d, owns (c : Thread nD τ) arg6 fullShare d)
        ∗ (iprop(owns (c : Thread nD τ) arg4 fullShare x4 ∗ owns (c : Thread nD τ) arg8 fullShare x8
            ∗ owns (c : Thread nD τ) arg6 fullShare (k0_pay4 x8 x4)) -∗ K ⟨⟩))
      ⊢ wp frame (wpE (defs₀ (F := F)) Variants.none (c : Thread nD τ) none) E
        (cc0_inproj i arg2 h2 arg3 h3 arg4 h4 arg5 h5 arg6 h6 arg7 h7 arg8 h8) K := by
  simp only [cc0_inproj_eq_skeleton]; unfold cc0_inproj_skel owns
  iintro ⟨⟨%f4, %hf4, H4⟩, ⟨%f8, %hf8, H8⟩, ⟨%d, %f6, -, H6⟩, Hk⟩
  sl_exec (disch := first | sl_exact hc1 | sl_exact hc2 | sl_exact hc3)
  sl_step
  iapply Hk
  isplitl [H4]
  · iexists _; isplitr; swap; · iexact H4
    ipureintro; exact hf4
  isplitl [H8]
  · iexists _; isplitr; swap; · iexact H8
    ipureintro; exact hf8
  iexists _; isplitr; swap; · iexact H6
  ipureintro
  rw [View.read_writes_full, View.readAt_full, View.readAt_full, hf4, hf8]

/-- The first column block: the normalized rows are made and kept, the forget logits' block and the first projection block
    made from them. -/
theorem body_first (c : Dev nD) (E : Set ℕ) (i : grid0.Coords)
    (arg2 : Memref sig .tc .vmem S2048x1024 .f32) (h2 : arg2.IsWhole) (arg3 : Memref sig .tc .vmem S1x1024 .f32) (h3 : arg3.IsWhole)
    (arg4 : Memref sig .tc .vmem S1024x1024 .bf16) (h4 : arg4.IsWhole) (arg5 : Memref sig .tc .vmem S1024x128 .bf16) (h5 : arg5.IsWhole)
    (arg6 : Memref sig .tc .vmem S2048x1024 .bf16) (h6 : arg6.IsWhole) (arg7 : Memref sig .tc .vmem S2048x128 .f32) (h7 : arg7.IsWhole)
    (arg8 : Memref sig .tc .vmem S2048x1024 .bf16) (h8 : arg8.IsWhole)
    (x2 : Vec F S2048x1024 .f32) (x3 : Vec F S1x1024 .f32) (x4 : Vec F S1024x1024 .bf16) (x5 : Vec F S1024x128 .bf16) (K : PUnit → sProp 𝕄)
    (hc1 : k0_cond1 i = 1#1) (hc2 : ¬ k0_cond2 i = 1#1) (hc3 : k0_cond3 i = 1#1) :
    iprop(owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay5 (k0_pay2 x2 x3) x4) ∗ owns (c : Thread nD τ) arg7 fullShare (k0_pay3 x2 x3 x5)
            ∗ owns (c : Thread nD τ) arg8 fullShare (k0_pay2 x2 x3)) -∗ K ⟨⟩))
      ⊢ wp frame (wpE (defs₀ (F := F)) Variants.none (c : Thread nD τ) none) E
        (cc0_inproj i arg2 h2 arg3 h3 arg4 h4 arg5 h5 arg6 h6 arg7 h7 arg8 h8) K := by
  simp only [cc0_inproj_eq_skeleton]; unfold cc0_inproj_skel owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  sl_exec (disch := first | sl_exact hc1 | sl_exact hc2 | sl_exact hc3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    unfold body_first.sl.v9 body_first.sl.H8_1
    rw [View.read_writes_full, View.readCov_full, View.readAt_full, View.readAt_full, View.readAt_full, hf2, hf3, hf4]
  isplitl [H7]
  · iexists _; isplitr; swap; · iexact H7
    ipureintro
    rw [View.read_writes_full, View.readAt_full, View.readAt_full, View.readAt_full, hf2, hf3, hf5]
  iexists _; isplitr; swap; · iexact H8
  ipureintro
  unfold body_first.sl.H8_1
  rw [View.read_writes_full, View.readAt_full, View.readAt_full, hf2, hf3]

end Cert.Proj
-- ==== Proof.ProjRun.lean ====
/-
  The projection run over any float values: the pipeline's proof data with the normalized rows carried from point to
  point, the body obligation, the launch and the frame.
-/
module

public import proofs.«01_k».proof.Proof.ProjBody
public import Idealize.ShloMosaic.Lib.Pipeline.TableIdle

@[expose] public section

set_option maxRecDepth 16384

noncomputable section

namespace Cert.Proj

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The points -/

theorem cond1_iff : ∀ t : Fin cfg0.N, (k0_cond1 (grid0.coords t) = 1#1) ↔ t.val % 7 = 0 := by decide +kernel
theorem cond2_iff : ∀ t : Fin cfg0.N, (k0_cond2 (grid0.coords t) = 1#1) ↔ t.val % 7 = 2 := by decide +kernel
theorem cond3_iff : ∀ t : Fin cfg0.N, (k0_cond3 (grid0.coords t) = 1#1) ↔ ¬ t.val % 7 = 2 := by decide +kernel

/-- The first point of the row block that point `n` works on. -/
def rowPt (n : ℕ) : Fin cfg0.N := ⟨7 * (n / 7) % 112, Nat.mod_lt _ (by decide)⟩

theorem rowPt_self (t : Fin cfg0.N) (h : t.val % 7 = 0) : rowPt t.val = t := by
  apply Fin.ext
  have : t.val < 112 := t.isLt
  show 7 * (t.val / 7) % 112 = t.val
  omega

theorem rowPt_succ (n : ℕ) (h : (n + 1) % 7 ≠ 0) : rowPt (n + 1) = rowPt n := by
  apply Fin.ext
  show 7 * ((n + 1) / 7) % 112 = 7 * (n / 7) % 112
  rw [show (n + 1) / 7 = n / 7 by omega]

theorem idle4 (t : Fin cfg0.N) : cfg0.idle 4 (cfg0.grid.coords t) = false := by
  show (!(k0_cond2 (grid0.coords t) == 1#1) && !(k0_cond3 (grid0.coords t) == 1#1)) = false
  have h2 := cond2_iff t
  have h3 := cond3_iff t
  by_cases h : t.val % 7 = 2
  · rw [h2.mpr h]; rfl
  · rw [h3.mpr h]; simp

theorem idle5 (t : Fin cfg0.N) : cfg0.idle 5 (cfg0.grid.coords t) = !(t.val % 7 == 0) := by
  show (!(k0_cond1 (grid0.coords t) == 1#1)) = _
  have h1 := cond1_iff t
  by_cases h : t.val % 7 = 0
  · rw [h1.mpr h, h]; rfl
  · rw [beq_eq_false_iff_ne.mpr (fun e => h (h1.mp e)), beq_eq_false_iff_ne.mpr h]

theorem fresh5 (n : ℕ) (hn : n ≤ cfg0.N) : cfg0.fresh 5 n = (n % 7 == 0) :=
  cfg0.fresh_tab 5 (fun n => n % 7 == 0) rfl (fun t => by
    rw [idle5]
    show ((t.val + 1) % 7 == 0) = ((cfg0.win 5).flush t || (!(t.val % 7 == 0) && (t.val % 7 == 0)))
    have hf := flush0_5 t
    by_cases h : t.val % 7 = 6
    · rw [hf.mpr h, show (t.val + 1) % 7 = 0 by omega]; rfl
    · rw [Bool.eq_false_iff.mpr (fun e => h (hf.mp e)), beq_eq_false_iff_ne.mpr (show (t.val + 1) % 7 ≠ 0 by omega)]
      cases (t.val % 7 == 0) <;> rfl) n hn

variable (m : (ℓ : Loc nD τ sig) → Buf (Elt F) ℓ) (ρ : Dev nD → PrngReg)

/-! ## The proof data -/

/-- The normalized rows of point `n`'s row block. -/
def Ub (c : Dev nD) (n : ℕ) : Vec F S2048x1024 .bf16 := k0_pay2 (iblk m c 0 (rowPt n)) (iblk m c 1 (rowPt n))

/-- The projection block point `t` writes. -/
def outZ (c : Dev nD) (t : Fin cfg0.N) : Vec F S2048x1024 .bf16 :=
  if t.val % 7 = 2 then k0_pay4 (Ub m c t.val) (iblk m c 2 t) else k0_pay5 (Ub m c t.val) (iblk m c 2 t)

/-- The forget logits of point `n`'s row block. -/
def outF (c : Dev nD) (n : ℕ) : Vec F S2048x128 .f32 :=
  k0_pay3 (iblk m c 0 (rowPt n)) (iblk m c 1 (rowPt n)) (iblk m c 3 (rowPt n))

/-- The scratch block between points: past a row block's first point, its normalized rows. -/
def Φp (c : Dev nD) (n : ℕ) : sProp 𝕄 :=
  iprop((∃ f, ⌜n % 7 ≠ 0 → f = Ub m c n⌝ ∗ owns (c : Thread nD τ) (Memref.whole cc0_scratch0) fullShare f) ∗ ∃ r, prngReg c r)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outZ m c t
    | ⟨5, _⟩ => outF m c t.val
  Φ t := Φp m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outZ m c t := by dsimp only [dats]
theorem after_5 (c : Dev nD) (t : Fin cfg0.N) : (dats m 0 c).after 5 t = outF m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Past a row block's first point the forget logits' block holds what that point left. -/
theorem before_5 (c : Dev nD) (t : Fin cfg0.N) (h : t.val % 7 ≠ 0) (d) : (dats m 0 c).before 5 t d = outF m c t.val := by
  have back : ∀ s : Fin cfg0.N, s.val % 7 ≠ 0 → rowPt (s.val - 1) = rowPt s.val := fun s hs => by
    have e := rowPt_succ (s.val - 1) (by omega)
    rw [show s.val - 1 + 1 = s.val by omega] at e
    exact e.symm
  rw [(dats m 0 c).before_out_traj 5 rfl (fun _ _ => rfl) (fun s hs hi hf => by
      have h7 : s.val % 7 ≠ 0 := fun e => by
        rw [fresh5 s.val s.isLt.le, e] at hf; exact absurd hf (by decide)
      rw [after_5, after_5]; unfold outF; rw [back s h7]) t.val t rfl d,
    fresh5 t.val t.isLt.le, beq_eq_false_iff_ne.mpr h, if_neg Bool.false_ne_true, after_5]
  unfold outF; rw [back t h]

/-! ## The body at a point -/

/-- What the body is called with at point `t`. -/
def bodyPre (c : Dev nD) (t : Fin cfg0.N) : sProp 𝕄 :=
  iprop(Φp m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop(Φp m c (t.val + 1) ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- The forget logits' block held at `outF` is what a point may leave of it. -/
theorem leaves_5 (c : Dev nD) (t : Fin cfg0.N) :
    (owns (c : Thread nD τ) (st0_5 t) fullShare (outF m c t.val) : sProp 𝕄) ⊢ (dats m 0 c).leavesExact 5 t := by
  unfold Dat.leavesExact
  rw [idle5]
  by_cases h : t.val % 7 = 0
  · rw [h]; exact Entails.of_eq (by rw [← after_5]; rfl)
  · rw [beq_eq_false_iff_ne.mpr h]
    rw [show (!false) = true from rfl]
    cases hf : (cfg0.win 5).flush t
    · dsimp only
      iintro H; iexists (fun _ => Classical.ofNonempty)
      rw [before_5 m c t h]; iexact H
    · dsimp only; rw [after_5]

theorem Ub_succ (c : Dev nD) (n : ℕ) (h : (n + 1) % 7 ≠ 0) : Ub m c (n + 1) = Ub m c n := by
  unfold Ub; rw [rowPt_succ n h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Φp
  simp only [before_0, before_1, before_2, before_3]
  rw [after_0, after_1, after_2, after_3, after_4]
  by_cases h0 : t.val % 7 = 0
  · iintro ⟨⟨⟨%f8, -, H8⟩, Hr⟩, Ho, ⟨%d0, H0⟩, ⟨%d1, H1⟩, ⟨%d2, H2⟩, ⟨%d3, H3⟩, ⟨%d4, H4⟩, ⟨%d5, H5⟩⟩
    iapply (body_first c Set.univ (grid0.coords t) _ _ _ _ _ _ _ _ _ _ _ _ _ _ (iblk m c 0 t) (iblk m c 1 t) (iblk m c 2 t) (iblk m c 3 t) _
      ((cond1_iff t).mpr h0) (fun e => by have := (cond2_iff t).mp e; omega) ((cond3_iff t).mpr (by omega)))
    isplitl [H0]; · iexact H0
    isplitl [H1]; · iexact H1
    isplitl [H2]; · iexact H2
    isplitl [H3]; · iexact H3
    isplitl [H4]; · iexists _; iexact H4
    isplitl [H5]; · iexists _; iexact H5
    isplitl [H8]; · iexists _; iexact H8
    iintro ⟨H0, H1, H2, H3, H4, H5, H8⟩
    have eU : k0_pay2 (iblk m c 0 t) (iblk m c 1 t) = Ub m c t.val := by unfold Ub; rw [rowPt_self t h0]
    have eF : k0_pay3 (iblk m c 0 t) (iblk m c 1 t) (iblk m c 3 t) = outF m c t.val := by unfold outF; rw [rowPt_self t h0]
    have eZ : k0_pay5 (Ub m c t.val) (iblk m c 2 t) = outZ m c t := by unfold outZ; rw [if_neg (by omega)]
    isplitl [H8 Hr]
    · isplitl [H8]
      · iexists _; isplitr; swap; · iexact H8
        ipureintro; intro h; rw [Ub_succ m c _ h]; exact eU
      iexact Hr
    isplitl [Ho]; · iexact Ho
    isplitl [H0]; · iexact H0
    isplitl [H1]; · iexact H1
    isplitl [H2]; · iexact H2
    isplitl [H3]; · iexact H3
    isplitl [H4]; · rw [← eZ, ← eU]; iexact H4
    iapply (leaves_5 m c t); rw [← eF]; iexact H5
  · iintro ⟨⟨⟨%f8, %hU, H8⟩, Hr⟩, Ho, ⟨%d0, H0⟩, ⟨%d1, H1⟩, ⟨%d2, H2⟩, ⟨%d3, H3⟩, ⟨%d4, H4⟩, ⟨%d5, H5⟩⟩
    obtain rfl := hU h0
    rw [before_5 m c t h0]
    by_cases h2 : t.val % 7 = 2
    · iapply (body_query c Set.univ (grid0.coords t) _ _ _ _ _ _ _ _ _ _ _ _ _ _ (iblk m c 2 t) (Ub m c t.val) _
        (fun e => h0 ((cond1_iff t).mp e)) ((cond2_iff t).mpr h2) (fun e => (cond3_iff t).mp e h2))
      isplitl [H2]; · iexact H2
      isplitl [H8]; · iexact H8
      isplitl [H4]; · iexists _; iexact H4
      iintro ⟨H2, H8, H4⟩
      isplitl [H8 Hr]
      · isplitl [H8]
        · iexists _; isplitr; swap; · iexact H8
          ipureintro; intro h; rw [Ub_succ m c _ h]
        iexact Hr
      isplitl [Ho]; · iexact Ho
      isplitl [H0]; · iexact H0
      isplitl [H1]; · iexact H1
      isplitl [H2]; · iexact H2
      isplitl [H3]; · iexact H3
      isplitl [H4]; · unfold outZ; rw [if_pos h2]; iexact H4
      iapply (leaves_5 m c t); iexact H5
    · iapply (body_plain c Set.univ (grid0.coords t) _ _ _ _ _ _ _ _ _ _ _ _ _ _ (iblk m c 2 t) (Ub m c t.val) _
        (fun e => h0 ((cond1_iff t).mp e)) (fun e => h2 ((cond2_iff t).mp e)) ((cond3_iff t).mpr h2))
      isplitl [H2]; · iexact H2
      isplitl [H8]; · iexact H8
      isplitl [H4]; · iexists _; iexact H4
      iintro ⟨H2, H8, H4⟩
      isplitl [H8 Hr]
      · isplitl [H8]
        · iexists _; isplitr; swap; · iexact H8
          ipureintro; intro h; rw [Ub_succ m c _ h]
        iexact Hr
      isplitl [Ho]; · iexact Ho
      isplitl [H0]; · iexact H0
      isplitl [H1]; · iexact H1
      isplitl [H2]; · iexact H2
      isplitl [H3]; · iexact H3
      isplitl [H4]; · unfold outZ; rw [if_neg h2]; iexact H4
      iapply (leaves_5 m c t); iexact H5

theorem defs₀_row (t : Fin cfg0.N) :
    defs₀ (F := F) .tc cfg0.body (cfg0.bodyArgs t (cfg0.slots t)) = bodyAt0 t := by
  unfold defs₀; rw [Defs.onTc_tc]

theorem leaves_4 (c : Dev nD) (t : Fin cfg0.N) :
    (owns (c : Thread nD τ) (st0_4 t) fullShare ((dats m 0 c).after 4 t) : sProp 𝕄) ⊢ (dats m 0 c).leavesExact 4 t := by
  unfold Dat.leavesExact; rw [idle4]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ =>
    sep_mono .rfl (sep_mono .rfl (sep_mono .rfl (sep_mono .rfl (sep_mono .rfl (sep_mono .rfl (sep_mono (leaves_4 m c t) .rfl))))))

/-! ## The launch -/

theorem phi_in (c : Dev nD) : (Pipeline.ΦA spec0 c : sProp 𝕄) ⊢ Φp m c 0 := by
  unfold Pipeline.ΦA Φp
  rw [scopedRest0_eq]
  iintro ⟨⟨%f, H⟩, Hr⟩
  isplitl [H]
  · iexists f; isplitr
    · ipureintro; intro h; exact absurd rfl h
    rw [owns_whole]; iexact H
  iexact Hr

theorem phi_out (c : Dev nD) (n : ℕ) : Φp m c n ⊢ (Pipeline.ΦA spec0 c : sProp 𝕄) := by
  unfold Pipeline.ΦA Φp
  rw [scopedRest0_eq]
  simp only [owns_whole]
  iintro ⟨⟨%f, -, H⟩, Hr⟩
  isplitl [H]
  · iexists f
    iexact H
  iexact Hr

set_option backward.isDefEq.respectTransparency.types false in
set_option maxHeartbeats 800000 in
/-- The launch: every array of the pipeline at what the proof data says, every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m)
    (hin := fun c => phi_in m c) (hout := fun c => phi_out m c _)

/-- The run's frame with the counters. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.Proj
-- ==== Proof.ProjEntry.lean ====
/-
  The projection body's values and the reference's at an entry, over the extended reals: a normalized row times a
  column of weights, the queries' columns times the softmax's factor.
-/
module

public import proofs.«01_k».proof.Proof.Gen.InprojIdeal.Skeleton
public import proofs.«01_k».proof.Proof.Gen.ProjectionsIdeal.Read
public import Idealize.ShloMosaic.Lib.KernelVsHost
public import Idealize.ShloMosaic.Lib.Pipeline.Value
public import proofs.«01_k».proof.Proof.Logit

@[expose] public section

set_option maxRecDepth 16384

noncomputable section

namespace Cert.Proj

open Idealize.ShloMosaic Idealize.ShloMosaic.TcCoe Idealize.ShloMosaic.Tactic

/-- An entry of a row divided by the row's root mean square, times its gain. -/
def nrm (X G : Fin 1024 → EReal) (k : Fin 1024) : EReal :=
  X k * Ideal.rsqrt (Ideal.div (∑ j, X j * X j) (Ideal.ofBits .f32 0x44800000#32) + Ideal.ofBits .f32 0x358637BD#32) * G k

/-- The queries' factor: over the square root of a head's width, and to base two. -/
def qfac : EReal := (((Real.sqrt 128)⁻¹ * (Real.log 2)⁻¹ : ℝ) : EReal)

section kernel

open Cert.InprojIdeal Cert.InprojIdeal.Gen

theorem pay1_apply (x : FVec Ideal S2048x1024 .f32) (g : FVec Ideal S1x1024 .f32) (r : Fin 2048) (k : Fin 1024) :
    k0_pay1 (F := Ideal) x g (ix2 r k) = nrm (fun j => x (ix2 r j)) (fun j => g (ix2 0 j)) k := by
  unfold k0_pay1 nrm
  pointwise

theorem pay2_apply (x : FVec Ideal S2048x1024 .f32) (g : FVec Ideal S1x1024 .f32) (r : Fin 2048) (k : Fin 1024) :
    k0_pay2 (F := Ideal) x g (ix2 r k) = nrm (fun j => x (ix2 r j)) (fun j => g (ix2 0 j)) k := by
  unfold k0_pay2
  rw [shapeCast_self]
  exact pay1_apply x g r k

theorem pay3_apply (x : FVec Ideal S2048x1024 .f32) (g : FVec Ideal S1x1024 .f32) (w : FVec Ideal S1024x128 .bf16) (r : Fin 2048) (l : Fin 128) :
    k0_pay3 (F := Ideal) x g w (ix2 r l) = ∑ k : Fin 1024, nrm (fun j => x (ix2 r j)) (fun j => g (ix2 0 j)) k * w (ix2 k l) := by
  simp only [← pay1_apply]
  unfold k0_pay3
  generalize k0_pay1 (F := Ideal) x g = u
  pointwise

theorem pay5_apply (u : FVec Ideal S2048x1024 .bf16) (w : FVec Ideal S1024x1024 .bf16) (r : Fin 2048) (l : Fin 1024) :
    k0_pay5 (F := Ideal) u w (ix2 r l) = ∑ k : Fin 1024, u (ix2 r k) * w (ix2 k l) := by
  unfold k0_pay5
  pointwise

theorem pay4_apply (u : FVec Ideal S2048x1024 .bf16) (w : FVec Ideal S1024x1024 .bf16) (r : Fin 2048) (l : Fin 1024) :
    k0_pay4 (F := Ideal) u w (ix2 r l) = (∑ k : Fin 1024, u (ix2 r k) * w (ix2 k l)) * qfac := by
  unfold k0_pay4
  pointwise
  rfl

end kernel

section reference

open Cert.ProjectionsIdeal Cert.ProjectionsIdeal.Read

variable (x : FVec Ideal S32768x1024 .f32) (g : FVec Ideal S1024 .f32) (w : FVec Ideal S1024x7176 .f32)

theorem v12_at (t : Fin 32768) (k : Fin 1024) : val_main_v12 (F := Ideal) x g (ix2 t k) = nrm (fun j => x (ix2 t j)) (fun j => g (ix1 j)) k := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, val_main_cst_apply, val_main_cst_0_apply, val_main_cst_1_apply]
  have e1 : ∀ j : Fin 1024, val_main_v0 (F := Ideal) x (idx_main_v1 (idx_main_v2 (idx_main_v8 (ix2 t k))) j) = x (ix2 t j) * x (ix2 t j) := fun j => by
    rw [val_main_v0_apply]
    refine congrArg (fun i => x i * x i) ?_
    funext a; match a with | ⟨0, _⟩ => rfl | ⟨1, _⟩ => rfl
  have e2 : g (idx_main_v10 (idx_main_v11 (ix2 t k))) = g (ix1 k) := by
    refine congrArg g ?_
    funext a; match a with | ⟨0, _⟩ => rfl
  rw [Finset.sum_congr rfl fun j _ => e1 j, e2]
  show (x (ix2 t k) * Ideal.rsqrt (Ideal.div (Ideal.ofBits .f32 0x00000000#32 + ∑ j : Fin 1024, x (ix2 t j) * x (ix2 t j)) (Ideal.ofBits .f32 0x44800000#32)
    + Ideal.ofBits .f32 0x358637BD#32)) * g (ix1 k) = _
  rw [Ideal.ofBits_zero_f32, zero_add]
  rfl

/-- Row `t` normalized, times column `J` of the weights. -/
def zz (t J : ℕ) : EReal :=
  ∑ k : Fin 1024, nrm (fun j => Cert.Attn.at2 (a := 32768) (b := 1024) x t j) (fun j => g (ix1 j)) k * Cert.Attn.at2 (a := 1024) (b := 7176) w k J

theorem v13_at (i : S32768x7176.Idx) : val_main_v13 (F := Ideal) x g w i = zz x g w (i 0).val (i 1).val := by
  rw [val_main_v13_apply]
  unfold zz
  refine Finset.sum_congr rfl fun k _ => ?_
  have e : lidx_main_v13 i k = ix2 (i 0) k := by funext a; match a with | ⟨0, _⟩ => rfl | ⟨1, _⟩ => rfl
  rw [e]
  refine congrArg₂ (· * ·) ((v12_at x g (i 0) k).trans (congrArg (nrm · _ k) (funext fun j => ?_))) ?_
  · unfold Cert.Attn.at2; rw [dif_pos ⟨(i 0).isLt, j.isLt⟩]; rfl
  · unfold Cert.Attn.at2; rw [dif_pos ⟨k.isLt, (i 1).isLt⟩]
    refine congrArg w ?_
    funext a; match a with | ⟨0, _⟩ => rfl | ⟨1, _⟩ => rfl

theorem fac_at (i : S_.Idx) : val_main_v17 (F := Ideal) i = qfac := by
  rw [val_main_v17_apply, val_main_v15_apply, val_main_v16_apply, val_main_cst_2_apply, val_main_cst_3_apply]
  have h2 : Ideal.ofBits .f32 0x40000000#32 = ((2 : ℝ) : EReal) := by simp [Ideal.ofBits, Ideal.ieee, -EReal.coe_mul]; norm_num
  have h128 : Ideal.ofBits .f32 0x43000000#32 = ((128 : ℝ) : EReal) := by simp [Ideal.ofBits, Ideal.ieee, -EReal.coe_mul]; norm_num
  show Ideal.div (Ideal.rsqrt (Ideal.ofBits .f32 0x43000000#32)) (Ideal.log (Ideal.ofBits .f32 0x40000000#32)) = _
  rw [h2, h128]
  have hl : Real.log 2 ≠ 0 := (Real.log_pos (by norm_num)).ne'
  show Ideal.div (if (128 : ℝ) < 0 then (⊥ : EReal) else if (128 : ℝ) = 0 then ⊤ else ((Real.sqrt 128)⁻¹ : ℝ)) (if (2 : ℝ) ≤ 0 then (⊥ : EReal) else (Real.log 2 : ℝ)) = _
  rw [if_neg (by norm_num), if_neg (by norm_num), if_neg (by norm_num)]
  unfold Ideal.div qfac
  rw [if_neg (by exact_mod_cast hl), ← EReal.coe_inv, ← EReal.coe_mul]

/-- The weights' column behind column `J` of the packed projections. -/
def col (J : ℕ) : ℕ := if J < 5120 then J else J + 8

/-- The reference's packed projections. -/
theorem v26_at (i : S32768x7168.Idx) : val_main_v26 (F := Ideal) x g w i
    = if 2048 ≤ (i 1).val ∧ (i 1).val < 3072 then zz x g w (i 0).val (col (i 1).val) * qfac else zz x g w (i 0).val (col (i 1).val) := by
  have h1 : (i 1).val < 7168 := (i 1).isLt
  rw [val_main_v26_apply]
  show val_main_v23 (F := Ideal) x g w i = _
  unfold val_main_v23 col
  by_cases a : (i 1).val < 2048
  · rw [if_neg (by omega), if_pos (by omega)]
    refine (concatenate_apply_piece 1 _ _ i 0 (by simp) S32768x2048 _ rfl rfl 0 rfl
      (fun b => match b with | ⟨0, _⟩ => ⟨(i 0).val, (i 0).isLt⟩ | ⟨1, _⟩ => ⟨(i 1).val, a⟩)
      (fun b hb => match b with | ⟨0, _⟩ => rfl | ⟨1, _⟩ => absurd rfl hb) (by show 0 + (i 1).val = _; omega)).trans ?_
    rw [val_main_v20_apply, v13_at]
  by_cases b : (i 1).val < 3072
  · rw [if_pos ⟨by omega, b⟩, if_pos (by omega)]
    refine (concatenate_apply_piece 1 _ _ i 1 (by simp) S32768x1024 _ rfl rfl 2048 rfl
      (fun b => match b with | ⟨0, _⟩ => ⟨(i 0).val, (i 0).isLt⟩ | ⟨1, _⟩ => ⟨(i 1).val - 2048, by show (i 1).val - 2048 < 1024; omega⟩)
      (fun b hb => match b with | ⟨0, _⟩ => rfl | ⟨1, _⟩ => absurd rfl hb) (by show 2048 + ((i 1).val - 2048) = _; omega)).trans ?_
    rw [val_main_v19_apply, val_main_v14_apply, val_main_v18_apply, fac_at, v13_at]
    show zz x g w (i 0).val (2048 + ((i 1).val - 2048)) * qfac = _
    rw [show 2048 + ((i 1).val - 2048) = (i 1).val by omega]
  by_cases d : (i 1).val < 5120
  · rw [if_neg (by omega), if_pos (by omega)]
    refine (concatenate_apply_piece 1 _ _ i 2 (by simp) S32768x2048 _ rfl rfl 3072 rfl
      (fun b => match b with | ⟨0, _⟩ => ⟨(i 0).val, (i 0).isLt⟩ | ⟨1, _⟩ => ⟨(i 1).val - 3072, by show (i 1).val - 3072 < 2048; omega⟩)
      (fun b hb => match b with | ⟨0, _⟩ => rfl | ⟨1, _⟩ => absurd rfl hb) (by show 3072 + ((i 1).val - 3072) = _; omega)).trans ?_
    rw [val_main_v21_apply, v13_at]
    show zz x g w (i 0).val (3072 + ((i 1).val - 3072)) = _
    rw [show 3072 + ((i 1).val - 3072) = (i 1).val by omega]
  · rw [if_neg (by omega), if_neg (by omega)]
    refine (concatenate_apply_piece 1 _ _ i 3 (by simp) S32768x2048 _ rfl rfl 5120 rfl
      (fun b => match b with | ⟨0, _⟩ => ⟨(i 0).val, (i 0).isLt⟩ | ⟨1, _⟩ => ⟨(i 1).val - 5120, by show (i 1).val - 5120 < 2048; omega⟩)
      (fun b hb => match b with | ⟨0, _⟩ => rfl | ⟨1, _⟩ => absurd rfl hb) (by show 5120 + ((i 1).val - 5120) = _; omega)).trans ?_
    rw [val_main_v22_apply, v13_at]
    show zz x g w (i 0).val (5128 + ((i 1).val - 5120)) = _
    rw [show 5128 + ((i 1).val - 5120) = (i 1).val + 8 by omega]

/-- The reference's forget logits, zero past the heads. -/
theorem v25_at (i : S32768x128.Idx) : val_main_v25 (F := Ideal) x g w i
    = if (i 1).val < 8 then zz x g w (i 0).val (5120 + (i 1).val) else 0 := by
  unfold val_main_v25
  by_cases h : (i 1).val < 8
  · rw [if_pos h]
    refine (pad_apply_of_inside _ _ _ _ _ _ _ i
      (fun b => match b with | ⟨0, _⟩ => ⟨(i 0).val, (i 0).isLt⟩ | ⟨1, _⟩ => ⟨(i 1).val, h⟩ : S32768x8.Idx)
      (fun b => match b with | ⟨0, _⟩ => (by show (i 0).val = 0 + (i 0).val * 1; omega) | ⟨1, _⟩ => (by show (i 1).val = 0 + (i 1).val * 1; omega))).trans ?_
    rw [val_main_v24_apply, v13_at]
  · rw [if_neg h, pad_apply_of_not_inside _ _ _ _ _ _ _ i (1 : Fin 2) (fun hc => h (by
      have := hc.2.2
      change ((i 1).val - 0) / 1 < 8 at this
      omega)), val_main_call0_v0_apply, val_main_c_apply]
    show (((0#32 : BitVec 32).toInt : ℝ) : EReal) = 0
    simp

end reference

end Cert.Proj
-- ==== Proof.ProjArray.lean ====
/-
  The projection call's arrays as the host prepares them, its blocks as entries of these, and the two arrays it leaves:
  the reference's.
-/
module

public import proofs.«01_k».proof.Proof.ProjRun
public import proofs.«01_k».proof.Proof.ProjEntry
public import Idealize.ShloMosaic.Lib.Pipeline.ValueKit

@[expose] public section

set_option maxRecDepth 16384

noncomputable section

namespace Cert.Proj

open Cert.InprojIdeal Cert.InprojIdeal.Gen
open Idealize.ShloMosaic Idealize.ShloMosaic.TcCoe Idealize.ShloMosaic.StableHlo
open Idealize.ShloMosaic.Pipeline (Dat Cfg Window)
open Cert.Attn (at2)

variable (m : (ℓ : Loc nD τ sig) → Buf (Elt Ideal) ℓ) (c : Dev nD) (t : Fin cfg0.N)

/-- The arguments of device `c`: the rows, the gains, the weights. -/
def Xm : FVec Ideal S32768x1024 .f32 := m ((c : Thread nD τ).loc main_arg0)
def Gm : FVec Ideal S1024 .f32 := m ((c : Thread nD τ).loc main_arg1)
def Wm : FVec Ideal S1024x7176 .f32 := m ((c : Thread nD τ).loc main_arg2)

/-! ## The host's arrays -/

theorem V_v3 : V m c main_v3 = truncf .bf16 (concatenate S1024x7168 1 [⟨S1024x5120, extractStridedSlice S1024x5120 ![0, 0] (Wm m c) slices_S1024x7176_S1024x5120_0_0⟩,
    ⟨S1024x2048, extractStridedSlice S1024x2048 ![0, 5128] (Wm m c) slices_S1024x7176_S1024x2048_0_5128⟩] concatenates_S1024x5120_S1024x2048_S1024x7168_d1) bitsLt_bf16_f32 := by
  unfold V Wm
  simp only [hostOps0, hostOps0_1, hostOps0_2, List.flatten_cons, List.flatten_nil, List.append_nil, List.cons_append, List.nil_append,
    TRef.binary, TRef.unary, TRef.toBuf, TRef.ofBuf, cast_eq]
  after_results_simp
  rfl

theorem V_v6 : V m c main_v6 = truncf .bf16 (pad S1024x128 ![0, 0] ![0, 120] ![0, 0] (extractStridedSlice S1024x8 ![0, 5120] (Wm m c) slices_S1024x7176_S1024x8_0_5120)
    (sitofp (F := Ideal) .f32 (constantI S_ 32 0#32)) pads_S1024x8_S1024x128_000_01200 h_S_) bitsLt_bf16_f32 := by
  unfold V Wm
  simp only [hostOps0, hostOps0_1, hostOps0_2, List.flatten_cons, List.flatten_nil, List.append_nil, List.cons_append, List.nil_append,
    TRef.binary, TRef.unary, TRef.toBuf, TRef.ofBuf, cast_eq]
  after_results_simp

theorem V_v7 : V m c main_v7 = shapeCast S1x1024 (Gm m c) shapeCasts_S1024_S1x1024 := by
  unfold V Gm
  simp only [hostOps0, hostOps0_1, hostOps0_2, List.flatten_cons, List.flatten_nil, List.append_nil, List.cons_append, List.nil_append,
    TRef.binary, TRef.unary, TRef.toBuf, TRef.ofBuf, cast_eq]
  after_results_simp
  rfl

theorem cast_at {S : Shape} (x : FVec Ideal S .f32) (i : S.Idx) : truncf .bf16 x bitsLt_bf16_f32 i = x i := rfl

theorem v3_at (k J : ℕ) (hk : k < 1024) (hJ : J < 7168) (i : S1024x7168.Idx) (h0 : (i 0).val = k) (h1 : (i 1).val = J) :
    (V m c main_v3 : FVec Ideal S1024x7168 .bf16) i = at2 (a := 1024) (b := 7176) (Wm m c) k (col J) := by
  rw [V_v3]
  rw [cast_at]
  subst h0; subst h1
  unfold col
  by_cases h : (i 1).val < 5120
  · rw [if_pos h]
    refine (concatenate_pair_apply_left (t := S1024x7168) (s₁ := S1024x5120) (s₂ := S1024x2048) 1 _ _ _ i rfl
      (ix2 ⟨(i 0).val, hk⟩ ⟨(i 1).val, h⟩ : S1024x5120.Idx)
      (fun b => match b with | ⟨0, _⟩ => rfl | ⟨1, _⟩ => rfl)).trans ?_
    refine (extractStridedSlice_apply ![0, 0] _ _ _ (ix2 ⟨(i 0).val, hk⟩ ⟨(i 1).val, by omega⟩ : S1024x7176.Idx) (fun a => match a with
      | ⟨0, _⟩ => by show (i 0).val = 0 + (i 0).val; omega
      | ⟨1, _⟩ => by show (i 1).val = 0 + (i 1).val; omega)).trans ?_
    unfold at2; rw [dif_pos ⟨hk, by omega⟩]
  · rw [if_neg h]
    refine (concatenate_pair_apply_right (t := S1024x7168) (s₁ := S1024x5120) (s₂ := S1024x2048) 1 _ _ _ i rfl rfl
      (ix2 ⟨(i 0).val, hk⟩ ⟨(i 1).val - 5120, by omega⟩ : S1024x2048.Idx)
      (fun b hb => match b with | ⟨0, _⟩ => rfl | ⟨1, _⟩ => absurd rfl hb) (by show (i 1).val - 5120 + 5120 = _; omega)).trans ?_
    refine (extractStridedSlice_apply ![0, 5128] _ _ _ (ix2 ⟨(i 0).val, hk⟩ ⟨(i 1).val + 8, by omega⟩ : S1024x7176.Idx) (fun a => match a with
      | ⟨0, _⟩ => by show (i 0).val = 0 + (i 0).val; omega
      | ⟨1, _⟩ => by show (i 1).val + 8 = 5128 + ((i 1).val - 5120); omega)).trans ?_
    unfold at2; rw [dif_pos ⟨hk, by omega⟩]

theorem v6_at (k l : ℕ) (hk : k < 1024) (hl : l < 128) (i : S1024x128.Idx) (h0 : (i 0).val = k) (h1 : (i 1).val = l) :
    (V m c main_v6 : FVec Ideal S1024x128 .bf16) i = if l < 8 then at2 (a := 1024) (b := 7176) (Wm m c) k (5120 + l) else 0 := by
  rw [V_v6]
  rw [cast_at]
  subst h0; subst h1
  by_cases h : (i 1).val < 8
  · rw [if_pos h]
    refine (pad_apply_of_inside _ _ _ _ _ _ _ i
      (ix2 ⟨(i 0).val, hk⟩ ⟨(i 1).val, h⟩ : S1024x8.Idx)
      (fun b => match b with | ⟨0, _⟩ => (by show (i 0).val = 0 + (i 0).val * 1; omega) | ⟨1, _⟩ => (by show (i 1).val = 0 + (i 1).val * 1; omega))).trans ?_
    refine (extractStridedSlice_apply (s := S1024x7176) (t := S1024x8) ![0, 5120] _ _ _ (ix2 ⟨(i 0).val, hk⟩ ⟨5120 + (i 1).val, by omega⟩ : S1024x7176.Idx) (fun a => match a with
      | ⟨0, _⟩ => by show (i 0).val = 0 + (i 0).val; omega
      | ⟨1, _⟩ => by show 5120 + (i 1).val = 5120 + (i 1).val; rfl)).trans ?_
    unfold at2; rw [dif_pos ⟨hk, by omega⟩]
  · rw [if_neg h, pad_apply_of_not_inside _ _ _ _ _ _ _ i (1 : Fin 2) (fun hc => h (by
      have := hc.2.2
      change ((i 1).val - 0) / 1 < 8 at this
      omega))]
    show (((0#32 : BitVec 32).toInt : ℝ) : EReal) = 0
    simp

theorem v7_at (j : Fin 1024) (i : S1x1024.Idx) (h1 : (i 1).val = j.val) : (V m c main_v7 : FVec Ideal S1x1024 .f32) i = Gm m c (ix1 j) := by
  rw [V_v7]
  have h0 : (i 0).val < 1 := (i 0).isLt
  refine shapeCast_apply (Gm m c) shapeCasts_S1024_S1x1024 i (ix1 j) ?_
  rw [Shape.rowMajor_val_one, Shape.rowMajor_val_two]
  show j.val = (i 0).val * 1024 + (i 1).val
  omega

/-! ## The blocks -/

theorem index0 : ∀ t : Fin cfg0.N, win0_0.index t = ![t.val / 7, 0] :=
  (by decide +kernel : ∀ t : Fin grid0.N, win0_0.index t = ![t.val / 7, 0])
theorem index1 : ∀ t : Fin cfg0.N, win0_1.index t = ![0, 0] :=
  (by decide +kernel : ∀ t : Fin grid0.N, win0_1.index t = ![0, 0])
theorem index2 : ∀ t : Fin cfg0.N, win0_2.index t = ![0, t.val % 7] :=
  (by decide +kernel : ∀ t : Fin grid0.N, win0_2.index t = ![0, t.val % 7])
theorem index3 : ∀ t : Fin cfg0.N, win0_3.index t = ![0, 0] :=
  (by decide +kernel : ∀ t : Fin grid0.N, win0_3.index t = ![0, 0])
theorem index4 : ∀ t : Fin cfg0.N, win0_4.index t = ![t.val / 7, t.val % 7] :=
  (by decide +kernel : ∀ t : Fin grid0.N, win0_4.index t = ![t.val / 7, t.val % 7])
theorem index5 : ∀ t : Fin cfg0.N, win0_5.index t = ![t.val / 7, 0] :=
  (by decide +kernel : ∀ t : Fin grid0.N, win0_5.index t = ![t.val / 7, 0])

/-- The four blocks of point `t`. -/
def B0 : FVec Ideal S2048x1024 .f32 := iblk m c 0 t
def B1 : FVec Ideal S1x1024 .f32 := iblk m c 1 t
def B2 : FVec Ideal S1024x1024 .bf16 := iblk m c 2 t
def B3 : FVec Ideal S1024x128 .bf16 := iblk m c 3 t

theorem B0_at (r : Fin 2048) (j : Fin 1024) : B0 m c t (ix2 r j) = at2 (a := 32768) (b := 1024) (Xm m c) (t.val / 7 * 2048 + r) j := by
  have hV : V m c main_arg0 = Xm m c := V_main_arg0 m c
  have ht : t.val < 112 := t.isLt
  have hr := r.isLt
  unfold at2
  rw [dif_pos ⟨by omega, j.isLt⟩, ← hV]
  refine congrArg (V m c main_arg0) (?_ : (win0_0.rect t).emb (ix2 r j) = _)
  funext a
  refine Fin.ext ?_
  match a with
  | ⟨0, _⟩ => refine (Window.rect_emb_val win0_0 t _ 0 rfl).trans ?_; rw [index0 t]; rfl
  | ⟨1, _⟩ => refine (Window.rect_emb_val win0_0 t _ 1 rfl).trans ?_; rw [index0 t]; show 0 * 1024 + j.val = j.val; omega
theorem B1_at (j : Fin 1024) : B1 m c t (ix2 0 j) = Gm m c (ix1 j) := by
  refine v7_at m c j ((win0_1.rect t).emb (ix2 0 j)) ?_
  refine (Window.rect_emb_val win0_1 t _ 1 rfl).trans ?_; rw [index1 t]; show 0 * 1024 + j.val = j.val; omega
theorem B2_at (k j : Fin 1024) : B2 m c t (ix2 k j) = at2 (a := 1024) (b := 7176) (Wm m c) k (col (t.val % 7 * 1024 + j)) := by
  have hj := j.isLt
  refine v3_at m c k _ k.isLt (by omega) ((win0_2.rect t).emb (ix2 k j)) ?_ ?_
  · refine (Window.rect_emb_val win0_2 t _ 0 rfl).trans ?_; rw [index2 t]; show 0 * 1024 + k.val = k.val; omega
  · refine (Window.rect_emb_val win0_2 t _ 1 rfl).trans ?_; rw [index2 t]; rfl
theorem B3_at (k : Fin 1024) (l : Fin 128) : B3 m c t (ix2 k l) = if l.val < 8 then at2 (a := 1024) (b := 7176) (Wm m c) k (5120 + l) else 0 := by
  refine v6_at m c k l k.isLt l.isLt ((win0_3.rect t).emb (ix2 k l)) ?_ ?_
  · refine (Window.rect_emb_val win0_3 t _ 0 rfl).trans ?_; rw [index3 t]; show 0 * 1024 + k.val = k.val; omega
  · refine (Window.rect_emb_val win0_3 t _ 1 rfl).trans ?_; rw [index3 t]; show 0 * 128 + l.val = l.val; omega

/-! ## The arrays -/

theorem rowPt_div : (rowPt t.val).val / 7 = t.val / 7 := by
  have ht : t.val < 112 := t.isLt
  show 7 * (t.val / 7) % 112 / 7 = t.val / 7
  omega

theorem rows_eq (r : Fin 2048) : (fun j => B0 m c (rowPt t.val) (ix2 r j)) = fun j : Fin 1024 => at2 (a := 32768) (b := 1024) (Xm m c) (t.val / 7 * 2048 + r) j := by
  funext j; rw [B0_at, rowPt_div]
theorem gains_eq : (fun j => B1 m c t (ix2 0 j)) = fun j : Fin 1024 => Gm m c (ix1 j) := by
  funext j; rw [B1_at]

theorem Ub_at (r : Fin 2048) (k : Fin 1024) : (Ub m c t.val : FVec Ideal S2048x1024 .bf16) (ix2 r k)
    = nrm (fun j => at2 (a := 32768) (b := 1024) (Xm m c) (t.val / 7 * 2048 + r) j) (fun j => Gm m c (ix1 j)) k := by
  refine (pay2_apply (B0 m c (rowPt t.val)) (B1 m c (rowPt t.val)) r k).trans ?_
  rw [rows_eq, gains_eq]

theorem prod_at (r : Fin 2048) (l : Fin 1024) : ∑ k : Fin 1024, (Ub m c t.val : FVec Ideal S2048x1024 .bf16) (ix2 r k) * B2 m c t (ix2 k l)
    = zz (Xm m c) (Gm m c) (Wm m c) (t.val / 7 * 2048 + r) (col (t.val % 7 * 1024 + l)) :=
  Finset.sum_congr rfl fun k _ => by rw [Ub_at, B2_at]

theorem outZ_at (r : Fin 2048) (l : Fin 1024) : (outZ m c t : FVec Ideal S2048x1024 .bf16) (ix2 r l)
    = if 2048 ≤ t.val % 7 * 1024 + l.val ∧ t.val % 7 * 1024 + l.val < 3072 then
        zz (Xm m c) (Gm m c) (Wm m c) (t.val / 7 * 2048 + r) (col (t.val % 7 * 1024 + l)) * qfac
      else zz (Xm m c) (Gm m c) (Wm m c) (t.val / 7 * 2048 + r) (col (t.val % 7 * 1024 + l)) := by
  have hl := l.isLt
  unfold outZ
  by_cases h : t.val % 7 = 2
  · rw [if_pos h, if_pos (by omega), ← prod_at]
    exact pay4_apply (Ub m c t.val) (B2 m c t) r l
  · rw [if_neg h, if_neg (by omega), ← prod_at]
    exact pay5_apply (Ub m c t.val) (B2 m c t) r l

theorem outF_at (r : Fin 2048) (l : Fin 128) : (outF m c t.val : FVec Ideal S2048x128 .f32) (ix2 r l)
    = if l.val < 8 then zz (Xm m c) (Gm m c) (Wm m c) (t.val / 7 * 2048 + r) (5120 + l) else 0 := by
  refine (pay3_apply (B0 m c (rowPt t.val)) (B1 m c (rowPt t.val)) (B3 m c (rowPt t.val)) r l).trans ?_
  rw [rows_eq, gains_eq]
  simp only [B3_at]
  by_cases h : l.val < 8
  · simp only [if_pos h]; rfl
  · simp only [if_neg h, mul_zero, Finset.sum_const_zero]

theorem final4 : (dats m 0 c).arrAt 4 cfg0.N = Cert.ProjectionsIdeal.Read.val_main_v26 (F := Ideal) (Xm m c) (Gm m c) (Wm m c) := by
  refine (dats m 0 c).arrAt_eq_of_covers 4 _ (by decide +kernel) fun t hf y => ?_
  have e : ∀ y : S2048x1024.Idx, (dats m 0 c).after 4 t y = Cert.ProjectionsIdeal.Read.val_main_v26 (F := Ideal) (Xm m c) (Gm m c) (Wm m c) ((win0_4.rect t).emb y) := by
    intro y
    have e0 : ((win0_4.rect t).emb y 0).val = t.val / 7 * 2048 + (y 0).val := by
      refine (Window.rect_emb_val win0_4 t _ 0 rfl).trans ?_; rw [index4 t]; rfl
    have e1 : ((win0_4.rect t).emb y 1).val = t.val % 7 * 1024 + (y 1).val := by
      refine (Window.rect_emb_val win0_4 t _ 1 rfl).trans ?_; rw [index4 t]; rfl
    have hy : y = ix2 (y 0) (y 1) := by funext a; match a with | ⟨0, _⟩ => rfl | ⟨1, _⟩ => rfl
    rw [after_4, v26_at, e0, e1]
    conv_lhs => rw [hy]
    exact outZ_at m c t (y 0) (y 1)
  exact e y

theorem final5 : (dats m 0 c).arrAt 5 cfg0.N = Cert.ProjectionsIdeal.Read.val_main_v25 (F := Ideal) (Xm m c) (Gm m c) (Wm m c) := by
  refine (dats m 0 c).arrAt_eq_of_covers 5 _ (by decide +kernel) fun t hf y => ?_
  have e : ∀ y : S2048x128.Idx, (dats m 0 c).after 5 t y = Cert.ProjectionsIdeal.Read.val_main_v25 (F := Ideal) (Xm m c) (Gm m c) (Wm m c) ((win0_5.rect t).emb y) := by
    intro y
    have e0 : ((win0_5.rect t).emb y 0).val = t.val / 7 * 2048 + (y 0).val := by
      refine (Window.rect_emb_val win0_5 t _ 0 rfl).trans ?_; rw [index5 t]; rfl
    have e1 : ((win0_5.rect t).emb y 1).val = (y 1).val := by
      refine (Window.rect_emb_val win0_5 t _ 1 rfl).trans ?_; rw [index5 t]; show 0 * 128 + (y 1).val = _; omega
    have hy : y = ix2 (y 0) (y 1) := by funext a; match a with | ⟨0, _⟩ => rfl | ⟨1, _⟩ => rfl
    rw [after_5, v25_at, e0, e1]
    conv_lhs => rw [hy]
    exact outF_at m c t (y 0) (y 1)
  exact e y

end Cert.Proj
-- ==== Proof.MixBody.lean ====
/-
  The merge body at one grid point, over any float values: its inputs kept, the residual block exactly, the others at some contents.
  Read at the merge call's idealization.
-/
module

public import proofs.«01_k».proof.Proof.Gen.MergeIdeal.Frame
public import proofs.«01_k».proof.Proof.Gen.MergeIdeal.Skeleton
public import Idealize.ShloMosaic.Lib.VecWindow
public import Idealize.ShloMosaic.Lib.Claim

@[expose] public section

set_option maxRecDepth 16384

noncomputable section

namespace Cert.Mix

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The residual block from the blocks the body reads: both branches projected and gated, their sum projected, the residual added. -/
def x1Blk (x1 x2 x3 x4 : Vec F S512x1024 .bf16) (x5 : Vec F S512x1024 .f32) (x6 x7 x8 : Vec F S1024x1024 .bf16) : Vec F S512x1024 .f32 :=
  k0_pay9 (k0_pay7 x2 x7) (k0_pay8 x1 x6 x3) x4 x5 x8

/-- The carry is cleared at the points where this holds. -/
def clears (i : grid0.Coords) : Prop :=
  Scalar.cmpi .ne (Scalar.extui (Scalar.cmpi .eq (Scalar.select (Scalar.andi (Scalar.xori (Scalar.cmpi .slt (Scalar.remsi (BitVec.ofNat 32 (i 0).val) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (BitVec.ofNat 32 (i 0).val) (Scalar.select (Scalar.cmpi .eq 64#32 0#32) 1#32 64#32)) 0#32)) (Scalar.addi (Scalar.remsi (BitVec.ofNat 32 (i 0).val) (Scalar.select (Scalar.cmpi .eq 64#32 0#32) 1#32 64#32)) (Scalar.select (Scalar.cmpi .eq 64#32 0#32) 1#32 64#32)) (Scalar.remsi (BitVec.ofNat 32 (i 0).val) (Scalar.select (Scalar.cmpi .eq 64#32 0#32) 1#32 64#32))) 0#32)) 0#32 = 1#1

set_option maxHeartbeats 4000000 in
theorem body_run (c : Dev nD) (E : Set ℕ) (i : grid0.Coords)
    (arg1 : Memref sig .tc .vmem S512x1024 .bf16) (h1 : arg1.IsWhole)
    (arg2 : Memref sig .tc .vmem S512x1024 .bf16) (h2 : arg2.IsWhole)
    (arg3 : Memref sig .tc .vmem S512x1024 .bf16) (h3 : arg3.IsWhole)
    (arg4 : Memref sig .tc .vmem S512x1024 .bf16) (h4 : arg4.IsWhole)
    (arg5 : Memref sig .tc .vmem S512x1024 .f32) (h5 : arg5.IsWhole)
    (arg6 : Memref sig .tc .vmem S1024x1024 .bf16) (h6 : arg6.IsWhole)
    (arg7 : Memref sig .tc .vmem S1024x1024 .bf16) (h7 : arg7.IsWhole)
    (arg8 : Memref sig .tc .vmem S1024x1024 .bf16) (h8 : arg8.IsWhole)
    (arg9 : Memref sig .tc .vmem S1x1024 .f32) (h9 : arg9.IsWhole)
    (arg10 : Memref sig .tc .vmem S1024x128 .bf16) (h10 : arg10.IsWhole)
    (arg11 : Memref sig .tc .vmem S1x128 .f32) (h11 : arg11.IsWhole)
    (arg12 : Memref sig .tc .vmem S512x1024 .f32) (h12 : arg12.IsWhole)
    (arg13 : Memref sig .tc .vmem S2048x2x128 .bf16) (h13 : arg13.IsWhole)
    (arg14 : Memref sig .tc .vmem S512x128 .f32) (h14 : arg14.IsWhole)
    (arg15 : Memref sig .tc .vmem S8x512 .f32) (h15 : arg15.IsWhole)
    (arg16 : Memref sig .tc .vmem S1x1x128 .f32) (h16 : arg16.IsWhole)
    (arg17 : Memref sig .tc .vmem S1x128 .f32) (h17 : arg17.IsWhole)
    (x1 : Vec F S512x1024 .bf16) (x2 : Vec F S512x1024 .bf16) (x3 : Vec F S512x1024 .bf16) (x4 : Vec F S512x1024 .bf16) (x5 : Vec F S512x1024 .f32) (x6 : Vec F S1024x1024 .bf16) (x7 : Vec F S1024x1024 .bf16) (x8 : Vec F S1024x1024 .bf16) (x9 : Vec F S1x1024 .f32) (x10 : Vec F S1024x128 .bf16) (x11 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (x1Blk x1 x2 x3 x4 x5 x6 x7 x8) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none (c : Thread nD τ) none) E
        (cc0_merge i arg1 h1 arg2 h2 arg3 h3 arg4 h4 arg5 h5 arg6 h6 arg7 h7 arg8 h8 arg9 h9 arg10 h10 arg11 h11 arg12 h12 arg13 h13 arg14 h14 arg15 h15 arg16 h16 arg17 h17) K := by
  simp only [cc0_merge_eq_skeleton]; unfold cc0_merge_skel
  simp only [k0_part1_eq_skeleton, k0_part2_eq_skeleton, k0_part3_eq_skeleton, k0_part4_eq_skeleton, k0_part5_eq_skeleton]; unfold k0_part1_skel k0_part2_skel k0_part3_skel k0_part4_skel k0_part5_skel owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  by_cases hc : clears i
  · sl_exec (disch := sl_exact hc)
    sl_step
    iapply Hk
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists _; isplitr; swap; · iexact H12
      ipureintro
      unfold x1Blk
      rw [View.read_writes_full]
      show k0_pay9 (k0_pay7 _ _) (k0_pay8 _ _ _) _ _ _ = _
      rw [View.readAt_full, View.readAt_full, View.readAt_full, View.readAt_full, View.readAt_full, View.readAt_full, View.readAt_full, View.readAt_full,
        hf1, hf2, hf3, hf4, hf5, hf6, hf7, hf8]
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    iexists _; iexists _; isplitr; swap; · iexact H17
    ipureintro; rfl
  · sl_exec (disch := sl_exact hc)
    sl_step
    iapply Hk
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H8]
    · iexists _; isplitr; swap; · iexact H8
      ipureintro; exact hf8
    isplitl [H9]
    · iexists _; isplitr; swap; · iexact H9
      ipureintro; exact hf9
    isplitl [H10]
    · iexists _; isplitr; swap; · iexact H10
      ipureintro; exact hf10
    isplitl [H11]
    · iexists _; isplitr; swap; · iexact H11
      ipureintro; exact hf11
    isplitl [H12]
    · iexists _; isplitr; swap; · iexact H12
      ipureintro
      unfold x1Blk
      rw [View.read_writes_full]
      show k0_pay9 (k0_pay7 _ _) (k0_pay8 _ _ _) _ _ _ = _
      rw [View.readAt_full, View.readAt_full, View.readAt_full, View.readAt_full, View.readAt_full, View.readAt_full, View.readAt_full, View.readAt_full,
        hf1, hf2, hf3, hf4, hf5, hf6, hf7, hf8]
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    iexists _; iexists _; isplitr; swap; · iexact H17
    ipureintro; rfl

end Cert.Mix
-- ==== Proof.MixRun.lean ====
/-
  The merge run over any float values: the pipeline's proof data, which say what the body leaves in
  the residual's window and nothing of the other outputs, the body obligation, the launch and the frame.
-/
module

public import proofs.«01_k».proof.Proof.MixBody
public import Idealize.ShloMosaic.Lib.Pipeline.Cells

@[expose] public section

set_option maxRecDepth 16384

noncomputable section

namespace Cert.Mix

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said: every output but the residual sum. -/
def unsaid (w : Fin cfg0.W) : Bool := decide (12 ≤ w.val)

/-- The residual block point `t` writes. -/
def x1At (c : Dev nD) (t : Fin cfg0.N) : Vec F S512x1024 .f32 :=
  x1Blk (iblk m c 0 t) (iblk m c 1 t) (iblk m c 2 t) (iblk m c 3 t) (iblk m c 4 t) (iblk m c 5 t) (iblk m c 6 t) (iblk m c 7 t)

/-- The pipeline's proof data: arrays as launched, each input block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => x1At m c t
    | _ => fun _ => Classical.ofNonempty
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem after_11 (c : Dev nD) (t : Fin cfg0.N) : (dats m 0 c).after 11 t = x1At m c t := rfl

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body is called with at point `t`. -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

/-- What it returns. -/
def bodyPost (c : Dev nD) (t : Fin cfg0.N) : sProp 𝕄 :=
  iprop(Pipeline.ΦA spec0 c ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Pipeline.ΦA
  rw [scopedRest0_eq]
  simp only [before_0, before_1, before_2, before_3, before_4, before_5, before_6, before_7, before_8, before_9, before_10]
  rw [after_0, after_1, after_2, after_3, after_4, after_5, after_6, after_7, after_8, after_9, after_10, after_11]
  simp only [← owns_whole]
  iintro ⟨⟨⟨%fs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [Hs]; · iexists _; iexact Hs
  iintro ⟨H0, H1, H2, H3, H4, H5, H6, H7, H8, H9, H10, H11, H12, H13, H14, H15, ⟨%gs, Hs⟩⟩
  isplitl [Hs Hr]
  · isplitl [Hs]
    · iexists gs; iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

set_option backward.isDefEq.respectTransparency.types false in
set_option maxHeartbeats 800000 in
/-- The launch: every array of the pipeline at something the proof data allow, every counter at zero. -/
theorem launch : θ_run defs (onTc (τ := τ) (main (F := F))) (s₀ m ρ)
    (fun r => (RDat.FramePost cfg0 (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (body_obligation m c).loose) (hq := fun _ _ _ => rfl)
    (howed := fun _ _ => rfl) (V := V m) (hmain := hmain m Variants.none) (hA := A_eq m) (hΦ := fun _ _ => rfl)

/-- The run: the residual sum's array is what the proof data say of its window; arguments and counters are left alone. -/
theorem run_all : θ_run defs (onTc (τ := τ) (main (F := F))) ⟨m, fun _ => 0, ρ⟩ (fun r => (∀ c : Dev nD,
      r.2.mem ((c.tc : Thread nD τ).loc main_v11_0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨((dats m 0 c).toRForget_arrAt_iff (show unsaid 11 = false from rfl) _ _).mp ((h.1 c).1 11),
      (h.1.arr_in c 0 rfl).trans ((A_eq m c 0).trans (V_main_arg0 m c)),
      (h.1.arr_in c 1 rfl).trans ((A_eq m c 1).trans (V_main_arg1 m c)),
      (h.1.arr_in c 3 rfl).trans ((A_eq m c 3).trans (V_main_arg2 m c)),
      (h.1.arr_in c 4 rfl).trans ((A_eq m c 4).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c)⟩, h.2⟩) (launch m ρ)

/-- The run's frame with the counters. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => (h.1 c).2, h.2⟩) (run_all m ρ)

end Cert.Mix
-- ==== Proof.MixArray.lean ====
/-
  The merge call's residual sum over the extended reals: both branches projected and gated, their sum projected, the
  residual added — the reference's array.
-/
module

public import proofs.«01_k».proof.Proof.MixRun
public import proofs.«01_k».proof.Proof.Gen.ResidualIdeal.Read
public import proofs.«01_k».proof.Proof.Logit
public import Idealize.ShloMosaic.Lib.KernelVsHost
public import Idealize.ShloMosaic.Lib.IdealHost
public import Idealize.ShloMosaic.Lib.Pipeline.ValueKit

@[expose] public section

set_option maxRecDepth 16384

noncomputable section

namespace Cert.Mix

open Idealize.ShloMosaic Idealize.ShloMosaic.TcCoe Idealize.ShloMosaic.StableHlo Idealize.ShloMosaic.Tactic
open Idealize.ShloMosaic.Pipeline (Dat Cfg Window)
open Cert.Attn (at2)

/-- A gate's sigmoid. -/
abbrev sg (x : EReal) : EReal := Ideal.logistic x

theorem at2_ix {a b : ℕ} (x : (⟨2, ![a, b]⟩ : Shape).Idx → EReal) (i : (⟨2, ![a, b]⟩ : Shape).Idx) (r l : ℕ) (h0 : (i 0).val = r) (h1 : (i 1).val = l) :
    x i = at2 x r l := by
  subst h0; subst h1
  unfold at2; rw [dif_pos ⟨(i 0).isLt, (i 1).isLt⟩]
  refine congrArg x ?_
  funext a; match a with | ⟨0, _⟩ => rfl | ⟨1, _⟩ => rfl

section kernel

open Cert.MergeIdeal Cert.MergeIdeal.Gen

theorem pay7_apply (o : FVec Ideal S512x1024 .bf16) (w : FVec Ideal S1024x1024 .bf16) (r : Fin 512) (l : Fin 1024) :
    k0_pay7 (F := Ideal) o w (ix2 r l) = ∑ j : Fin 1024, o (ix2 r j) * w (ix2 j l) := by
  unfold k0_pay7
  pointwise

theorem pay8_apply (h : FVec Ideal S512x1024 .bf16) (w : FVec Ideal S1024x1024 .bf16) (z : FVec Ideal S512x1024 .bf16) (r : Fin 512) (l : Fin 1024) :
    k0_pay8 (F := Ideal) h w z (ix2 r l) = sg (z (ix2 r l)) * ∑ j : Fin 1024, h (ix2 r j) * w (ix2 j l) := by
  unfold k0_pay8
  pointwise

theorem pay9_apply (p q : FVec Ideal S512x1024 .f32) (z : FVec Ideal S512x1024 .bf16) (x : FVec Ideal S512x1024 .f32) (w : FVec Ideal S1024x1024 .bf16)
    (r : Fin 512) (l : Fin 1024) :
    k0_pay9 (F := Ideal) p q z x w (ix2 r l) = x (ix2 r l) + ∑ k : Fin 1024, (q (ix2 r k) + sg (z (ix2 r k)) * p (ix2 r k)) * w (ix2 k l) := by
  unfold k0_pay9
  pointwise

end kernel

section reference

open Cert.ResidualIdeal Cert.ResidualIdeal.Read

variable (hg o : FVec Ideal S32768x1024 .bf16) (z : FVec Ideal S32768x7168 .bf16) (x : FVec Ideal S32768x1024 .f32) (wl wa wo : FVec Ideal S1024x1024 .f32)

/-- Row `t` of the gated sum of both projected branches, at column `k`. -/
def mixed (t : ℕ) (k : Fin 1024) : EReal :=
  sg (at2 (a := 32768) (b := 7168) z t (5120 + k)) * (∑ j : Fin 1024, at2 (a := 32768) (b := 1024) hg t j * at2 (a := 1024) (b := 1024) wl j k)
    + sg (at2 (a := 32768) (b := 7168) z t (6144 + k)) * (∑ j : Fin 1024, at2 (a := 32768) (b := 1024) o t j * at2 (a := 1024) (b := 1024) wa j k)

/-- Its projection's column `J`, the residual added. -/
def summed (t J : ℕ) : EReal :=
  at2 (a := 32768) (b := 1024) x t J + ∑ k : Fin 1024, mixed hg o z wl wa t k * at2 (a := 1024) (b := 1024) wo k J

theorem v22_at (i : S32768x1024.Idx) (t : ℕ) (k : Fin 1024) (h0 : (i 0).val = t) (h1 : (i 1).val = k.val) :
    val_main_v22 (F := Ideal) hg o z wl wa i = mixed hg o z wl wa t k := by
  rw [val_main_v22_apply, val_main_v14_apply, val_main_v21_apply, val_main_v13_apply, val_main_v20_apply, val_main_v12_apply, val_main_v19_apply,
    val_main_v11_apply, val_main_v18_apply, val_main_v10_apply, val_main_v17_apply, val_main_v9_apply, val_main_v16_apply, val_main_v8_apply, val_main_v15_apply,
    val_main_v5_apply, val_main_v7_apply, val_main_v4_apply, val_main_v6_apply, val_main_cst_apply, val_main_cst_0_apply, val_main_cst_1_apply, val_main_cst_2_apply,
    val_main_v1_apply, val_main_v3_apply]
  rw [at2_ix z (idx_main_v4 i) t (5120 + k) h0 (congrArg (5120 + ·) h1), at2_ix z (idx_main_v6 i) t (6144 + k) h0 (congrArg (6144 + ·) h1)]
  have e1 : ∑ j : Fin 1024, (val_main_v0 (F := Ideal) hg) (lidx_main_v1 i j) * wl (ridx_main_v1 i j)
      = ∑ j : Fin 1024, at2 (a := 32768) (b := 1024) hg t j * at2 (a := 1024) (b := 1024) wl j k :=
    Finset.sum_congr rfl fun j _ => congrArg₂ (· * ·) ((val_main_v0_apply (F := Ideal) hg _).trans (at2_ix hg _ t j h0 rfl)) (at2_ix wl _ j k rfl h1)
  have e2 : ∑ j : Fin 1024, (val_main_v2 (F := Ideal) o) (lidx_main_v3 i j) * wa (ridx_main_v3 i j)
      = ∑ j : Fin 1024, at2 (a := 32768) (b := 1024) o t j * at2 (a := 1024) (b := 1024) wa j k :=
    Finset.sum_congr rfl fun j _ => congrArg₂ (· * ·) ((val_main_v2_apply (F := Ideal) o _).trans (at2_ix o _ t j h0 rfl)) (at2_ix wa _ j k rfl h1)
  rw [e1, e2]
  show Ideal.div (Ideal.ofBits .f32 0x3F800000#32) (Ideal.ofBits .f32 0x3F800000#32 + Ideal.exp (- at2 (a := 32768) (b := 7168) z t (5120 + k))) * _
    + Ideal.div (Ideal.ofBits .f32 0x3F800000#32) (Ideal.ofBits .f32 0x3F800000#32 + Ideal.exp (- at2 (a := 32768) (b := 7168) z t (6144 + k))) * _ = _
  rw [Ideal.ofBits_one_f32]
  rfl

/-- The reference's array. -/
theorem v24_at (i : S32768x1024.Idx) : val_main_v24 (F := Ideal) hg o z x wl wa wo i = summed hg o z x wl wa wo (i 0).val (i 1).val := by
  rw [val_main_v24_apply, val_main_v23_apply, at2_ix x i _ _ rfl rfl]
  refine congrArg (at2 (a := 32768) (b := 1024) x (i 0).val (i 1).val + ·) ?_
  exact Finset.sum_congr rfl fun k _ => congrArg₂ (· * ·) (v22_at hg o z wl wa _ _ k rfl rfl) (at2_ix wo _ k _ rfl rfl)

end reference

section array

open Cert.MergeIdeal Cert.MergeIdeal.Gen

variable (m : (ℓ : Loc nD τ sig) → Buf (Elt Ideal) ℓ) (c : Dev nD) (t : Fin cfg0.N)

/-- The arguments of device `c`: both branches' outputs, the packed projections, the residual, the three weights. -/
def Hm : FVec Ideal S32768x1024 .bf16 := m ((c : Thread nD τ).loc main_arg0)
def Om : FVec Ideal S32768x1024 .bf16 := m ((c : Thread nD τ).loc main_arg1)
def Zm : FVec Ideal S32768x7168 .bf16 := m ((c : Thread nD τ).loc main_arg2)
def Xm : FVec Ideal S32768x1024 .f32 := m ((c : Thread nD τ).loc main_arg3)
def Lm : FVec Ideal S1024x1024 .f32 := m ((c : Thread nD τ).loc main_arg4)
def Am : FVec Ideal S1024x1024 .f32 := m ((c : Thread nD τ).loc main_arg5)
def Pm : FVec Ideal S1024x1024 .f32 := m ((c : Thread nD τ).loc main_arg6)

/-! ## The host's arrays -/

theorem V_v7 : V m c main_v7 = truncf .bf16 (Lm m c) bitsLt_bf16_f32 := by
  unfold V Lm
  simp only [hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp
theorem V_v8 : V m c main_v8 = truncf .bf16 (Am m c) bitsLt_bf16_f32 := by
  unfold V Am
  simp only [hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp
theorem V_v9 : V m c main_v9 = truncf .bf16 (Pm m c) bitsLt_bf16_f32 := by
  unfold V Pm
  simp only [hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp

/-! ## The blocks -/

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 5] :=
  (by decide +kernel : ∀ t : Fin grid0.N, win0_2.index t = ![t.val, 5])
theorem index3 : ∀ t : Fin cfg0.N, win0_3.index t = ![t.val, 6] :=
  (by decide +kernel : ∀ t : Fin grid0.N, win0_3.index t = ![t.val, 6])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index11 : ∀ t : Fin cfg0.N, win0_11.index t = ![t.val, 0] :=
  (by decide +kernel : ∀ t : Fin grid0.N, win0_11.index t = ![t.val, 0])

/-- The blocks of point `t`. -/
def B0 : FVec Ideal S512x1024 .bf16 := iblk m c 0 t
def B1 : FVec Ideal S512x1024 .bf16 := iblk m c 1 t
def B2 : FVec Ideal S512x1024 .bf16 := iblk m c 2 t
def B3 : FVec Ideal S512x1024 .bf16 := iblk m c 3 t
def B4 : FVec Ideal S512x1024 .f32 := iblk m c 4 t
def B5 : FVec Ideal S1024x1024 .bf16 := iblk m c 5 t
def B6 : FVec Ideal S1024x1024 .bf16 := iblk m c 6 t
def B7 : FVec Ideal S1024x1024 .bf16 := iblk m c 7 t

theorem B0_at (r : Fin 512) (l : Fin 1024) : B0 m c t (ix2 r l) = at2 (a := 32768) (b := 1024) (Hm m c) (t.val * 512 + r) l := by
  have hV : V m c main_arg0 = Hm m c := V_main_arg0 m c
  rw [← hV]
  refine at2_ix (a := 32768) (b := 1024) (V m c main_arg0) ((win0_0.rect t).emb (ix2 r l)) _ _ ?_ ?_
  · refine (Window.rect_emb_val win0_0 t _ 0 rfl).trans ?_; rw [index0 t]; rfl
  · refine (Window.rect_emb_val win0_0 t _ 1 rfl).trans ?_; rw [index0 t]; show 0 * 1024 + l.val = l.val; omega
theorem B1_at (r : Fin 512) (l : Fin 1024) : B1 m c t (ix2 r l) = at2 (a := 32768) (b := 1024) (Om m c) (t.val * 512 + r) l := by
  have hV : V m c main_arg1 = Om m c := V_main_arg1 m c
  rw [← hV]
  refine at2_ix (a := 32768) (b := 1024) (V m c main_arg1) ((win0_1.rect t).emb (ix2 r l)) _ _ ?_ ?_
  · refine (Window.rect_emb_val win0_1 t _ 0 rfl).trans ?_; rw [index1 t]; rfl
  · refine (Window.rect_emb_val win0_1 t _ 1 rfl).trans ?_; rw [index1 t]; show 0 * 1024 + l.val = l.val; omega
theorem B2_at (r : Fin 512) (l : Fin 1024) : B2 m c t (ix2 r l) = at2 (a := 32768) (b := 7168) (Zm m c) (t.val * 512 + r) (5120 + l) := by
  have hV : V m c main_arg2 = Zm m c := V_main_arg2 m c
  rw [← hV]
  refine at2_ix (a := 32768) (b := 7168) (V m c main_arg2) ((win0_2.rect t).emb (ix2 r l)) _ _ ?_ ?_
  · refine (Window.rect_emb_val win0_2 t _ 0 rfl).trans ?_; rw [index2 t]; rfl
  · refine (Window.rect_emb_val win0_2 t _ 1 rfl).trans ?_; rw [index2 t]; show 5 * 1024 + l.val = 5120 + l.val; omega
theorem B3_at (r : Fin 512) (l : Fin 1024) : B3 m c t (ix2 r l) = at2 (a := 32768) (b := 7168) (Zm m c) (t.val * 512 + r) (6144 + l) := by
  have hV : V m c main_arg2 = Zm m c := V_main_arg2 m c
  rw [← hV]
  refine at2_ix (a := 32768) (b := 7168) (V m c main_arg2) ((win0_3.rect t).emb (ix2 r l)) _ _ ?_ ?_
  · refine (Window.rect_emb_val win0_3 t _ 0 rfl).trans ?_; rw [index3 t]; rfl
  · refine (Window.rect_emb_val win0_3 t _ 1 rfl).trans ?_; rw [index3 t]; show 6 * 1024 + l.val = 6144 + l.val; omega
theorem B4_at (r : Fin 512) (l : Fin 1024) : B4 m c t (ix2 r l) = at2 (a := 32768) (b := 1024) (Xm m c) (t.val * 512 + r) l := by
  have hV : V m c main_arg3 = Xm m c := V_main_arg3 m c
  rw [← hV]
  refine at2_ix (a := 32768) (b := 1024) (V m c main_arg3) ((win0_4.rect t).emb (ix2 r l)) _ _ ?_ ?_
  · refine (Window.rect_emb_val win0_4 t _ 0 rfl).trans ?_; rw [index4 t]; rfl
  · refine (Window.rect_emb_val win0_4 t _ 1 rfl).trans ?_; rw [index4 t]; show 0 * 1024 + l.val = l.val; omega
theorem B5_at (r l : Fin 1024) : B5 m c t (ix2 r l) = at2 (a := 1024) (b := 1024) (Lm m c) r l := by
  have hV : V m c main_v7 = Lm m c := V_v7 m c
  rw [← hV]
  refine at2_ix (a := 1024) (b := 1024) (V m c main_v7) ((win0_5.rect t).emb (ix2 r l)) _ _ ?_ ?_
  · refine (Window.rect_emb_val win0_5 t _ 0 rfl).trans ?_; rw [index5 t]; show 0 * 1024 + r.val = r.val; omega
  · refine (Window.rect_emb_val win0_5 t _ 1 rfl).trans ?_; rw [index5 t]; show 0 * 1024 + l.val = l.val; omega
theorem B6_at (r l : Fin 1024) : B6 m c t (ix2 r l) = at2 (a := 1024) (b := 1024) (Am m c) r l := by
  have hV : V m c main_v8 = Am m c := V_v8 m c
  rw [← hV]
  refine at2_ix (a := 1024) (b := 1024) (V m c main_v8) ((win0_6.rect t).emb (ix2 r l)) _ _ ?_ ?_
  · refine (Window.rect_emb_val win0_6 t _ 0 rfl).trans ?_; rw [index6 t]; show 0 * 1024 + r.val = r.val; omega
  · refine (Window.rect_emb_val win0_6 t _ 1 rfl).trans ?_; rw [index6 t]; show 0 * 1024 + l.val = l.val; omega
theorem B7_at (r l : Fin 1024) : B7 m c t (ix2 r l) = at2 (a := 1024) (b := 1024) (Pm m c) r l := by
  have hV : V m c main_v9 = Pm m c := V_v9 m c
  rw [← hV]
  refine at2_ix (a := 1024) (b := 1024) (V m c main_v9) ((win0_7.rect t).emb (ix2 r l)) _ _ ?_ ?_
  · refine (Window.rect_emb_val win0_7 t _ 0 rfl).trans ?_; rw [index7 t]; show 0 * 1024 + r.val = r.val; omega
  · refine (Window.rect_emb_val win0_7 t _ 1 rfl).trans ?_; rw [index7 t]; show 0 * 1024 + l.val = l.val; omega

theorem x1At_at (r : Fin 512) (l : Fin 1024) : (x1At m c t : FVec Ideal S512x1024 .f32) (ix2 r l)
    = summed (Hm m c) (Om m c) (Zm m c) (Xm m c) (Lm m c) (Am m c) (Pm m c) (t.val * 512 + r) l := by
  refine (pay9_apply _ _ (B3 m c t) (B4 m c t) (B7 m c t) r l).trans ?_
  rw [B4_at]
  refine congrArg (at2 (a := 32768) (b := 1024) (Xm m c) (t.val * 512 + r) l + ·) (Finset.sum_congr rfl fun k _ => ?_)
  rw [B7_at]
  refine congrArg (· * at2 (a := 1024) (b := 1024) (Pm m c) k l) ?_
  rw [B3_at]
  unfold mixed
  refine congrArg₂ (· + ·) ((pay8_apply (B0 m c t) (B5 m c t) (B2 m c t) r k).trans ?_)
    (congrArg (sg (at2 (a := 32768) (b := 7168) (Zm m c) (t.val * 512 + r) (6144 + k)) * ·) ((pay7_apply (B1 m c t) (B6 m c t) r k).trans ?_))
  · rw [B2_at]
    exact congrArg (sg (at2 (a := 32768) (b := 7168) (Zm m c) (t.val * 512 + r) (5120 + k)) * ·) (Finset.sum_congr rfl fun j _ => by rw [B0_at, B5_at])
  · exact Finset.sum_congr rfl fun j _ => by rw [B1_at, B6_at]

theorem final11 : (dats m 0 c).arrAt 11 cfg0.N
    = Cert.ResidualIdeal.Read.val_main_v24 (F := Ideal) (Hm m c) (Om m c) (Zm m c) (Xm m c) (Lm m c) (Am m c) (Pm m c) := by
  refine (dats m 0 c).arrAt_eq_of_covers 11 _ (by decide +kernel) fun t hf y => ?_
  have e : ∀ y : S512x1024.Idx, (dats m 0 c).after 11 t y
      = Cert.ResidualIdeal.Read.val_main_v24 (F := Ideal) (Hm m c) (Om m c) (Zm m c) (Xm m c) (Lm m c) (Am m c) (Pm m c) ((win0_11.rect t).emb y) := by
    intro y
    have e0 : ((win0_11.rect t).emb y 0).val = t.val * 512 + (y 0).val := by
      refine (Window.rect_emb_val win0_11 t _ 0 rfl).trans ?_; rw [index11 t]; rfl
    have e1 : ((win0_11.rect t).emb y 1).val = (y 1).val := by
      refine (Window.rect_emb_val win0_11 t _ 1 rfl).trans ?_; rw [index11 t]; show 0 * 1024 + (y 1).val = _; omega
    have hy : y = ix2 (y 0) (y 1) := by funext a; match a with | ⟨0, _⟩ => rfl | ⟨1, _⟩ => rfl
    rw [after_11, v24_at, e0, e1]
    conv_lhs => rw [hy]
    exact x1At_at m c t (y 0) (y 1)
  exact e y

end array

end Cert.Mix
-- ==== Proof.GateScan.lean ====
/-
  The gate body's values at an entry, over the extended reals: a running sum by doubling is the sum of the rows up to
  its own, and the three parts of a real number's split are the number and two zeros.
-/
module

public import proofs.«01_k».proof.Proof.Gen.ForgetIdeal.Skeleton
public import Idealize.ShloMosaic.Lib.KernelVsHost
public import Idealize.ShloMosaic.Lib.Pipeline.Value
public import Idealize.ShloMosaic.Lib.WordCmp
public import Idealize.ShloMosaic.Lib.IdealHost
public import proofs.«01_k».proof.Proof.Logit

@[expose] public section

set_option maxRecDepth 16384

noncomputable section

namespace Cert.Gate

open Idealize.ShloMosaic Idealize.ShloMosaic.TcCoe Idealize.ShloMosaic.Tactic

/-! ## Running sums -/

/-- The sum of the last `n` of `g 0 … g r`. -/
def win (g : ℕ → EReal) (n r : ℕ) : EReal := ∑ i ∈ Finset.range n, if i ≤ r then g (r - i) else 0

theorem win_one (g : ℕ → EReal) (r : ℕ) : win g 1 r = g r := by
  unfold win
  rw [Finset.sum_range_one, if_pos (Nat.zero_le r), Nat.sub_zero]

theorem win_double (g : ℕ → EReal) (n r : ℕ) : win g (n + n) r = win g n r + if n ≤ r then win g n (r - n) else 0 := by
  unfold win
  rw [Finset.sum_range_add]
  congr 1
  by_cases h : n ≤ r
  · rw [if_pos h]
    refine Finset.sum_congr rfl fun i _ => ?_
    by_cases hi : n + i ≤ r
    · rw [if_pos hi, if_pos (by omega), show r - (n + i) = r - n - i by omega]
    · rw [if_neg hi, if_neg (by omega)]
  · rw [if_neg h]
    exact Finset.sum_eq_zero fun i _ => if_neg (by omega)

/-- A running sum of real numbers is real. -/
theorem win_real (g : ℕ → EReal) (n r : ℕ) (h : ∀ k ≤ r, ∃ z : ℝ, g k = (z : EReal)) : ∃ y : ℝ, win g n r = (y : EReal) := by
  unfold win
  induction n with
  | zero => exact ⟨0, by simp⟩
  | succ n ih =>
    obtain ⟨y, hy⟩ := ih
    rw [Finset.sum_range_succ, hy]
    by_cases hn : n ≤ r
    · obtain ⟨z, hz⟩ := h (r - n) (by omega)
      exact ⟨y + z, by rw [if_pos hn, hz, EReal.coe_add]⟩
    · exact ⟨y, by rw [if_neg hn, add_zero]⟩

/-! ## The logarithm of the logistic function -/

/-- The kernel's. -/
def ls (z : EReal) : EReal := min z 0 - Ideal.log1p (Ideal.exp (0 - max z (-z)))

/-- Of a real number it is real. -/
theorem ls_real (z : ℝ) : ls (z : EReal) = ((min z 0 - Real.log (1 + Real.exp (-|z|)) : ℝ) : EReal) := by
  have e1 : max (z : EReal) (-(z : EReal)) = ((|z| : ℝ) : EReal) := by
    rw [← EReal.coe_neg, ← EReal.coe_strictMono.monotone.map_max]; rfl
  have e2 : (0 : EReal) - ((|z| : ℝ) : EReal) = ((-|z| : ℝ) : EReal) := by rw [zero_sub, EReal.coe_neg]
  have e3 : min (z : EReal) 0 = ((min z 0 : ℝ) : EReal) := (EReal.coe_strictMono.monotone.map_min (a := z) (b := 0)).symm
  have e4 : Ideal.log1p (((Real.exp (-|z|) : ℝ) : EReal)) = ((Real.log (1 + Real.exp (-|z|)) : ℝ) : EReal) := by
    have hp : ¬ (1 + Real.exp (-|z|) ≤ 0) := by have := Real.exp_pos (-|z|); linarith
    show Ideal.log (1 + ((Real.exp (-|z|) : ℝ) : EReal)) = _
    rw [← EReal.coe_one, ← EReal.coe_add]
    show (if 1 + Real.exp (-|z|) ≤ 0 then (⊥ : EReal) else _) = _
    rw [if_neg hp]
  unfold ls
  rw [e1, e2, e3]
  show _ - Ideal.log1p (((Real.exp (-|z|) : ℝ) : EReal)) = _
  rw [e4, ← EReal.coe_sub]

open Cert.ForgetIdeal Cert.ForgetIdeal.Gen

/-! ## One doubling -/

/-- A step of the running sum: the rows `n` before added, where there are any. -/
def dbl (n : BitVec 32) (x : FVec Ideal S4096x128 .f32) : FVec Ideal S4096x128 .f32 :=
  addf x (select (cmpi .sge (iota .tc S4096x128 32 [0] iota_S4096x128_d0_w32) (broadcast S4096x128 n))
    (dynamicRotate 0 n none x rotates_S4096x128_d0) (broadcast S4096x128 (Scalar.ofBits (F := Ideal) .f32 0x00000000#32)))

theorem sge_iff (k n : ℕ) (hk : k < 2 ^ 31) (hn : n < 2 ^ 31) : IntOp.cmpi .sge (BitVec.ofNat 32 k) (BitVec.ofNat 32 n) = 1#1 ↔ n ≤ k := by
  show IntOp.cmpi .sle (BitVec.ofNat 32 n) (BitVec.ofNat 32 k) = 1#1 ↔ _
  exact WordCmp.cmpi_sle_ofNat_eq_one_iff hn hk

theorem dbl_apply (n : ℕ) (hn : n < 4096) (x : FVec Ideal S4096x128 .f32) (r : Fin 4096) (l : Fin 128) :
    dbl (BitVec.ofNat 32 n) x (ix2 r l) = x (ix2 r l) + if h : n ≤ r.val then x (ix2 ⟨r.val - n, by omega⟩ l) else 0 := by
  have hr := r.isLt
  show x (ix2 r l) + (if IntOp.cmpi .sge (iota .tc S4096x128 32 [0] iota_S4096x128_d0_w32 (ix2 r l)) (BitVec.ofNat 32 n) = 1#1
    then dynamicRotate 0 (BitVec.ofNat 32 n) none x rotates_S4096x128_d0 (ix2 r l) else Ideal.ofBits .f32 0x00000000#32) = _
  rw [iota_single_apply]
  show _ + (if IntOp.cmpi .sge (BitVec.ofNat 32 r.val) (BitVec.ofNat 32 n) = 1#1 then _ else _) = _
  congr 1
  by_cases h : n ≤ r.val
  · rw [if_pos ((sge_iff r.val n (by omega) (by omega)).2 h), dif_pos h]
    refine dynamicRotate_apply 0 _ x _ (ix2 r l) (ix2 ⟨r.val - n, by omega⟩ l) fun b => ?_
    match b with
    | ⟨0, _⟩ =>
      refine Eq.trans ?_ (if_pos (Fin.ext rfl)).symm
      show r.val - n = (r.val + 4096 - (BitVec.ofNat 32 n).toNat % 4096) % 4096
      rw [BitVec.toNat_ofNat, Nat.mod_eq_of_lt (show n < 2 ^ 32 by omega)]
      omega
    | ⟨1, _⟩ => exact (if_neg (fun hc => absurd (congrArg Fin.val hc) (by show (1 : ℕ) ≠ 0; decide))).symm
  · rw [if_neg (fun hc => h ((sge_iff r.val n (by omega) (by omega)).1 hc)), dif_neg h]
    exact Ideal.ofBits_zero_f32

/-- Doubling doubles the length of the sums. -/
theorem dbl_win (n : ℕ) (hn : n < 4096) (g : ℕ → EReal) (x : FVec Ideal S4096x128 .f32) (l : Fin 128)
    (hx : ∀ r : Fin 4096, x (ix2 r l) = win g n r.val) (r : Fin 4096) :
    dbl (BitVec.ofNat 32 n) x (ix2 r l) = win g (n + n) r.val := by
  rw [dbl_apply n hn, win_double, hx]
  congr 1
  by_cases h : n ≤ r.val
  · rw [dif_pos h, if_pos h, hx]
  · rw [dif_neg h, if_neg h]

/-! ## The body's values -/

/-- The logarithms of the gates, from the logits' block and the row of biases. -/
def logs (x : FVec Ideal S4096x128 .f32) (b : FVec Ideal S1x128 .f32) : FVec Ideal S4096x128 .f32 :=
  let z := addf x (broadcastTo S4096x128 (shapeCast S1x128 b shapeCasts_S1x128_S1x128) broadcasts_S1x128_S4096x128)
  let o : FVec Ideal S4096x128 .f32 := broadcast S4096x128 (Scalar.ofBits (F := Ideal) .f32 0x00000000#32)
  subf (minimumf z o) (log1p (exp (subf o (absf z))))

theorem logs_apply (x : FVec Ideal S4096x128 .f32) (b : FVec Ideal S1x128 .f32) (r : Fin 4096) (l : Fin 128) :
    logs x b (ix2 r l) = ls (x (ix2 r l) + b (ix2 0 l)) := by
  unfold logs
  rw [shapeCast_self]
  have e : broadcastTo S4096x128 b broadcasts_S1x128_S4096x128 (ix2 r l) = b (ix2 0 l) := by pointwise
  show min (x (ix2 r l) + broadcastTo S4096x128 b broadcasts_S1x128_S4096x128 (ix2 r l)) (Ideal.ofBits .f32 0x00000000#32)
    - Ideal.log1p (Ideal.exp (Ideal.ofBits .f32 0x00000000#32 - max (x (ix2 r l) + broadcastTo S4096x128 b broadcasts_S1x128_S4096x128 (ix2 r l))
      (-(x (ix2 r l) + broadcastTo S4096x128 b broadcasts_S1x128_S4096x128 (ix2 r l))))) = _
  rw [e, Ideal.ofBits_zero_f32]
  rfl

theorem pay2_eq (x : FVec Ideal S4096x128 .f32) (b : FVec Ideal S1x128 .f32) :
    k0_pay2 (F := Ideal) x b = dbl 8#32 (dbl 4#32 (dbl 2#32 (dbl 1#32 (logs x b)))) := rfl

/-- The rows' numbers. -/
abbrev rowIx : IVec S4096x128 32 := iota .tc S4096x128 32 [0] iota_S4096x128_d0_w32

/-- The six doublings past the fourth; the eleventh; the last, with the split. -/
theorem pay4_eq (x : FVec Ideal S4096x128 .f32) :
    k0_pay4 (F := Ideal) rowIx x k0_pay3 = dbl 512#32 (dbl 256#32 (dbl 128#32 (dbl 64#32 (dbl 32#32 (dbl 16#32 x))))) := by
  unfold k0_pay4 k0_pay3 dbl
  rfl

theorem pay5_eq (x : FVec Ideal S4096x128 .f32) :
    addf (k0_pay4 (F := Ideal) rowIx x k0_pay3) (k0_pay5 (F := Ideal) rowIx x k0_pay3) = dbl 1024#32 (k0_pay4 (F := Ideal) rowIx x k0_pay3) := by
  unfold k0_pay5 dbl
  rfl

/-- The lanes from `a` up to `b`. -/
def lanes (a b : BitVec 32) : IVec S4096x128 1 :=
  andi (cmpi .sge (iota .tc S4096x128 32 [1] iota_S4096x128_d1_w32) (broadcast S4096x128 a))
    (cmpi .slt (iota .tc S4096x128 32 [1] iota_S4096x128_d1_w32) (broadcast S4096x128 b))

/-- A value to base two, its remainder and the remainder's, eight lanes each. -/
def spread (x : FVec Ideal S4096x128 .f32) : FVec Ideal S4096x128 .bf16 :=
  let v : FVec Ideal S4096x128 .f32 := mulf x (broadcast S4096x128 (Named.named (F := Ideal) κ "log2e" 0x3FB8AA3B#32))
  let rem : FVec Ideal S4096x128 .f32 := subf v v
  truncf .bf16 (select (lanes 16#32 24#32) (dynamicRotate 1 16#32 none (subf rem rem) rotates_S4096x128_d1)
    (select (lanes 8#32 16#32) (dynamicRotate 1 8#32 none rem rotates_S4096x128_d1)
      (select (lanes 0#32 8#32) v (broadcast S4096x128 (Scalar.ofBits (F := Ideal) .f32 0x00000000#32))))) bitsLt_bf16_f32

theorem pay1_eq (x y : FVec Ideal S4096x128 .f32) :
    k0_pay1 (F := Ideal) rowIx (iota .tc S4096x128 32 [1] iota_S4096x128_d1_w32) x y = spread (dbl 2048#32 (addf x y)) := by
  unfold k0_pay1 spread dbl lanes
  rfl

/-- A column's sums of all lengths. -/
theorem scan_at (g : ℕ → EReal) (x : FVec Ideal S4096x128 .f32) (l : Fin 128) (hx : ∀ r : Fin 4096, x (ix2 r l) = g r.val) (r : Fin 4096) :
    dbl 2048#32 (dbl 1024#32 (dbl 512#32 (dbl 256#32 (dbl 128#32 (dbl 64#32 (dbl 32#32 (dbl 16#32 (dbl 8#32 (dbl 4#32 (dbl 2#32 (dbl 1#32 x))))))))))) (ix2 r l)
      = win g 4096 r.val := by
  have h0 : ∀ r : Fin 4096, x (ix2 r l) = win g 1 r.val := fun r => by rw [win_one, hx]
  exact dbl_win 2048 (by omega) g _ l (dbl_win 1024 (by omega) g _ l (dbl_win 512 (by omega) g _ l (dbl_win 256 (by omega) g _ l
    (dbl_win 128 (by omega) g _ l (dbl_win 64 (by omega) g _ l (dbl_win 32 (by omega) g _ l (dbl_win 16 (by omega) g _ l
    (dbl_win 8 (by omega) g _ l (dbl_win 4 (by omega) g _ l (dbl_win 2 (by omega) g _ l (dbl_win 1 (by omega) g _ l h0))))))))))) r

/-! ## The split -/

theorem lanes_apply (a b : ℕ) (ha : a < 128) (hb : b < 128) (r : Fin 4096) (l : Fin 128) :
    lanes (BitVec.ofNat 32 a) (BitVec.ofNat 32 b) (ix2 r l) = 1#1 ↔ a ≤ l.val ∧ l.val < b := by
  have hl := l.isLt
  show IntOp.andi (IntOp.cmpi .sge (iota .tc S4096x128 32 [1] iota_S4096x128_d1_w32 (ix2 r l)) (BitVec.ofNat 32 a))
    (IntOp.cmpi .slt (iota .tc S4096x128 32 [1] iota_S4096x128_d1_w32 (ix2 r l)) (BitVec.ofNat 32 b)) = 1#1 ↔ _
  rw [iota_single_apply, IntOp.andi_eq_one]
  show IntOp.cmpi .sge (BitVec.ofNat 32 l.val) (BitVec.ofNat 32 a) = 1#1 ∧ IntOp.cmpi .slt (BitVec.ofNat 32 l.val) (BitVec.ofNat 32 b) = 1#1 ↔ _
  rw [sge_iff _ _ (by omega) (by omega), WordCmp.cmpi_slt_ofNat_eq_one_iff (by omega) (by omega)]

/-- A value of lane `l - n`, by a rotation of the lanes by `n`. -/
theorem rot_at (n : ℕ) (hn : n < 128) (x : FVec Ideal S4096x128 .f32) (r : Fin 4096) (l : Fin 128) (h : n ≤ l.val) :
    dynamicRotate 1 (BitVec.ofNat 32 n) none x rotates_S4096x128_d1 (ix2 r l) = x (ix2 r ⟨l.val - n, by omega⟩) := by
  have hl := l.isLt
  refine dynamicRotate_apply 1 _ x _ (ix2 r l) (ix2 r ⟨l.val - n, by omega⟩) fun b => ?_
  match b with
  | ⟨0, _⟩ => exact (if_neg (fun hc => absurd (congrArg Fin.val hc) (by show (0 : ℕ) ≠ 1; decide))).symm
  | ⟨1, _⟩ =>
    refine Eq.trans ?_ (if_pos (Fin.ext rfl)).symm
    show l.val - n = (l.val + 128 - (BitVec.ofNat 32 n).toNat % 128) % 128
    rw [BitVec.toNat_ofNat, Nat.mod_eq_of_lt (show n < 2 ^ 32 by omega)]
    omega

/-- Of sums that are real in the first eight lanes, the split leaves the sums to base two and zeros. -/
theorem spread_apply (x : FVec Ideal S4096x128 .f32) (r : Fin 4096) (y : Fin 8 → ℝ)
    (hx : ∀ (l : Fin 128) (h : l.val < 8), x (ix2 r l) = ((y ⟨l.val, h⟩ : ℝ) : EReal)) (l : Fin 128) :
    spread x (ix2 r l) = if l.val < 8 then x (ix2 r l) * (((Real.log 2)⁻¹ : ℝ) : EReal) else 0 := by
  have hl := l.isLt
  let v : FVec Ideal S4096x128 .f32 := mulf x (broadcast S4096x128 (Named.named (F := Ideal) κ "log2e" 0x3FB8AA3B#32))
  let rem : FVec Ideal S4096x128 .f32 := subf v v
  have hv : ∀ l : Fin 128, v (ix2 r l) = x (ix2 r l) * (((Real.log 2)⁻¹ : ℝ) : EReal) := fun l => rfl
  have hr : ∀ (l : Fin 128), l.val < 8 → rem (ix2 r l) = 0 := fun l h => by
    show v (ix2 r l) - v (ix2 r l) = 0
    rw [hv, hx l h, ← EReal.coe_mul, ← EReal.coe_sub, sub_self, EReal.coe_zero]
  show (if lanes 16#32 24#32 (ix2 r l) = 1#1 then dynamicRotate 1 16#32 none (subf rem rem) rotates_S4096x128_d1 (ix2 r l)
    else if lanes 8#32 16#32 (ix2 r l) = 1#1 then dynamicRotate 1 8#32 none rem rotates_S4096x128_d1 (ix2 r l)
    else if lanes 0#32 8#32 (ix2 r l) = 1#1 then v (ix2 r l) else Ideal.ofBits .f32 0x00000000#32) = _
  by_cases h : l.val < 8
  · rw [if_pos h, if_neg (fun hc => by have := (lanes_apply 16 24 (by omega) (by omega) r l).1 hc; omega),
      if_neg (fun hc => by have := (lanes_apply 8 16 (by omega) (by omega) r l).1 hc; omega),
      if_pos ((lanes_apply 0 8 (by omega) (by omega) r l).2 (by omega)), hv]
  · rw [if_neg h]
    by_cases h2 : lanes 16#32 24#32 (ix2 r l) = 1#1
    · have h3 := (lanes_apply 16 24 (by omega) (by omega) r l).1 h2
      rw [if_pos h2]
      refine (rot_at 16 (by omega) _ r l h3.1).trans ?_
      show rem _ - rem _ = 0
      rw [hr _ (by show l.val - 16 < 8; omega), sub_zero]
    · rw [if_neg h2]
      by_cases h4 : lanes 8#32 16#32 (ix2 r l) = 1#1
      · have h3 := (lanes_apply 8 16 (by omega) (by omega) r l).1 h4
        rw [if_pos h4]
        exact (rot_at 8 (by omega) _ r l h3.1).trans (hr _ (by show l.val - 8 < 8; omega))
      · rw [if_neg h4, if_neg (fun hc => by have := (lanes_apply 0 8 (by omega) (by omega) r l).1 hc; omega)]
        exact Ideal.ofBits_zero_f32

end Cert.Gate
-- ==== Proof.GateRef.lean ====
/-
  The reference's gates at an entry: the logarithms of the gates of real logits, their sums along the sequence, to base
  two.
-/
module

public import proofs.«01_k».proof.Pre_finite_logits
public import proofs.«01_k».proof.Proof.Gen.GatesIdeal.Read
public import proofs.«01_k».proof.Proof.GateScan
public import proofs.«01_k».proof.Proof.Pre

@[expose] public section

set_option maxRecDepth 16384

noncomputable section

namespace Cert.Gate

open Idealize.ShloMosaic Idealize.ShloMosaic.TcCoe
open Cert.Attn (at2 at2_of real_of_abs pos_inf)
open Cert.GatesIdeal Cert.GatesIdeal.Read

/-- An entry of a row, zero past its end. -/
def at1 (b : FVec Ideal S8 .f32) (l : ℕ) : EReal := if h : l < 8 then b (ix1 ⟨l, h⟩) else 0

/-- The logarithm of position `k`'s gate of head `l` in sequence `q`. -/
def gl (x : FVec Ideal S32768x128 .f32) (b : FVec Ideal S8 .f32) (q l k : ℕ) : EReal :=
  ls (at2 (a := 32768) (b := 128) x (q * 4096 + k) l + at1 b l)

/-- The gates' logits are real numbers. -/
def Real8 (x : FVec Ideal S32768x128 .f32) (b : FVec Ideal S8 .f32) : Prop :=
  ∀ r l : ℕ, r < 32768 → l < 8 → ∃ z : ℝ, at2 (a := 32768) (b := 128) x r l + at1 b l = (z : EReal)

/-! ## The window's sum -/

theorem foldl_sum {N : ℕ} (f : Fin N → EReal) (v : EReal) : (List.finRange N).foldl (fun r n => r + f n) v = v + ∑ n, f n := by
  have h : ∀ (L : List (Fin N)) (v : EReal), L.foldl (fun r n => r + f n) v = v + (L.map f).sum := by
    intro L
    induction L with
    | nil => intro v; simp
    | cons a L ih => intro v; rw [List.foldl_cons, ih, List.map_cons, List.sum_cons, add_assoc]
  rw [h, Fin.sum_univ_def]

/-- The window: whole sequences. -/
abbrev Wn : Shape := ⟨3, ![1, 4096, 1]⟩

/-- A window's place, counted back from its end. -/
def back : Wn.Idx ≃ Fin 4096 where
  toFun w := (w 1 : Fin 4096).rev
  invFun k := fun a => match a with
    | ⟨0, _⟩ => (⟨0, Nat.one_pos⟩ : Fin 1)
    | ⟨1, _⟩ => k.rev
    | ⟨2, _⟩ => (⟨0, Nat.one_pos⟩ : Fin 1)
  left_inv w := by
    funext a
    match a with
    | ⟨0, _⟩ => exact Subsingleton.elim (α := Fin 1) _ _
    | ⟨1, _⟩ => exact Fin.rev_rev (w 1 : Fin 4096)
    | ⟨2, _⟩ => exact Subsingleton.elim (α := Fin 1) _ _
  right_inv k := Fin.rev_rev k

theorem window_at (y : FVec Ideal S8x4096x8 .f32) (v : FVec Ideal S_ .f32) (hv : ∀ i, v i = 0) (h) (hu) (q : Fin 8) (r : Fin 4096) (l : Fin 8)
    (g : ℕ → EReal) (hg : ∀ k : Fin 4096, y (ix3 q k l) = g k.val) :
    Host.reduceWindowAdd (t := S8x4096x8) ![1, 4096, 1] ![1, 1, 1] ![0, 4095, 0] ![0, 0, 0] y v h hu (ix3 q r l) = win g 4096 r.val := by
  have hr := r.isLt
  unfold Host.reduceWindowAdd
  rw [hv, Ideal.hostReduceWindowAdd_def]
  unfold Ideal.hostReduceWindowAdd Host.reduceWindow
  dsimp only
  rw [foldl_sum, zero_add]
  unfold win
  rw [← Fin.sum_univ_eq_sum_range (fun i => if i ≤ r.val then g (r.val - i) else 0)]
  refine Fintype.sum_equiv (Wn.rowMajor.symm.trans back) _ _ fun n => ?_
  show _ = if (back (Wn.rowMajor.symm n)).val ≤ r.val then g (r.val - (back (Wn.rowMajor.symm n)).val) else 0
  have hb : (back (Wn.rowMajor.symm n)).val = 4095 - (Wn.rowMajor.symm n 1).val := by
    show 4096 - ((Wn.rowMajor.symm n 1).val + 1) = _
    omega
  have hw : (Wn.rowMajor.symm n 1).val < 4096 := (Wn.rowMajor.symm n 1).isLt
  have hw0 : (Wn.rowMajor.symm n 0).val < 1 := (Wn.rowMajor.symm n 0).isLt
  have hw2 : (Wn.rowMajor.symm n 2).val < 1 := (Wn.rowMajor.symm n 2).isLt
  have hq := q.isLt
  have hl := l.isLt
  rw [hb]
  by_cases hk : 4095 - (Wn.rowMajor.symm n 1).val ≤ r.val
  · rw [if_pos hk, show r.val - (4095 - (Wn.rowMajor.symm n 1).val) = r.val + (Wn.rowMajor.symm n 1).val - 4095 by omega]
    refine (dif_pos ?_).trans ?_
    · intro a
      match a with
      | ⟨0, _⟩ => show 0 ≤ q.val * 1 + (Wn.rowMajor.symm n 0).val ∧ q.val * 1 + (Wn.rowMajor.symm n 0).val - 0 < 8; omega
      | ⟨1, _⟩ => show 4095 ≤ r.val * 1 + (Wn.rowMajor.symm n 1).val ∧ r.val * 1 + (Wn.rowMajor.symm n 1).val - 4095 < 4096; omega
      | ⟨2, _⟩ => show 0 ≤ l.val * 1 + (Wn.rowMajor.symm n 2).val ∧ l.val * 1 + (Wn.rowMajor.symm n 2).val - 0 < 8; omega
    · refine Eq.trans (congrArg y ?_) (hg ⟨r.val + (Wn.rowMajor.symm n 1).val - 4095, by omega⟩)
      funext a
      refine Fin.ext ?_
      match a with
      | ⟨0, _⟩ => show q.val * 1 + (Wn.rowMajor.symm n 0).val - 0 = q.val; omega
      | ⟨1, _⟩ => show r.val * 1 + (Wn.rowMajor.symm n 1).val - 4095 = r.val + (Wn.rowMajor.symm n 1).val - 4095; omega
      | ⟨2, _⟩ => show l.val * 1 + (Wn.rowMajor.symm n 2).val - 0 = l.val; omega
  · rw [if_neg hk]
    refine dif_neg fun hc => hk ?_
    have := (hc 1).1
    change 4095 ≤ r.val * 1 + (Wn.rowMajor.symm n 1).val at this
    omega

/-! ## The reference's entries -/

variable (x : FVec Ideal S32768x128 .f32) (b : FVec Ideal S8 .f32)

theorem v3_at (i : S32768x8.Idx) : val_main_v3 (F := Ideal) x b i = at2 (a := 32768) (b := 128) x (i 0).val (i 1).val + at1 b (i 1).val := by
  have h1 : (i 1).val < 8 := (i 1).isLt
  rw [val_main_v3_apply, val_main_v0_apply, val_main_v2_apply, val_main_v1_apply]
  show x _ + b _ = _
  congr 1
  · exact at2_of x _ _ _ (by first | rfl | (show 0 + (i 0).val = _; omega)) (by first | rfl | (show 0 + (i 1).val = _; omega))
  · unfold at1
    rw [dif_pos h1]
    refine congrArg b ?_
    funext a; match a with | ⟨0, _⟩ => rfl

/-- The reference's logarithm of a real logit's gate is the kernel's. -/
theorem v4_at (i : S32768x8.Idx) (z : ℝ) (hz : at2 (a := 32768) (b := 128) x (i 0).val (i 1).val + at1 b (i 1).val = (z : EReal)) :
    val_main_v4 (F := Ideal) x b i = ls (z : EReal) := by
  rw [val_main_v4_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v0_apply, val_main_call0_call0_v2_apply, val_main_call0_call0_cst_apply, val_main_call0_v0_apply, v3_at, hz]
  have ho : (FloatOps.ofBits (F := Ideal) .f32 0x00000000#32 : EReal) = 0 := Ideal.ofBits_zero_f32
  have hs : FloatOps.subf (F := Ideal) (φ := .f32) (FloatOps.hostNegf (F := Ideal) (φ := .f32) (z : EReal)) (FloatOps.ofBits (F := Ideal) .f32 0x00000000#32) = ((-z : ℝ) : EReal) := by
    rw [ho]
    show -(z : EReal) - 0 = _
    rw [sub_zero, EReal.coe_neg]
  rw [hs, ho]
  have hc : FloatOps.cmpf (F := Ideal) (φ := .f32) .une ((-z : ℝ) : EReal) ((-z : ℝ) : EReal) = 0#1 := by
    show BitVec.ofBool (decide (((-z : ℝ) : EReal) ≠ ((-z : ℝ) : EReal))) = 0#1
    simp
  rw [hc]
  have hm : max (((-z : ℝ) : EReal)) (-((-z : ℝ) : EReal)) = ((|z| : ℝ) : EReal) := by
    rw [← EReal.coe_neg, ← EReal.coe_strictMono.monotone.map_max]
    show ((|(-z)| : ℝ) : EReal) = _
    rw [abs_neg]
  have hm0 : max (-(z : EReal)) 0 = ((max (-z) 0 : ℝ) : EReal) := by
    rw [← EReal.coe_neg]
    exact (EReal.coe_strictMono.monotone.map_max (a := -z) (b := 0)).symm
  show -(max (-(z : EReal)) 0 + Ideal.log1p (Ideal.exp (-(max (((-z : ℝ) : EReal)) (-((-z : ℝ) : EReal)))))) = _
  rw [hm, hm0, ls_real, ← EReal.coe_neg]
  have hp : ¬ (1 + Real.exp (-|z|) ≤ 0) := by have := Real.exp_pos (-|z|); linarith
  have e4 : Ideal.log1p (Ideal.exp ((-|z| : ℝ) : EReal)) = ((Real.log (1 + Real.exp (-|z|)) : ℝ) : EReal) := by
    show Ideal.log (1 + ((Real.exp (-|z|) : ℝ) : EReal)) = _
    rw [← EReal.coe_one, ← EReal.coe_add]
    show (if 1 + Real.exp (-|z|) ≤ 0 then (⊥ : EReal) else _) = _
    rw [if_neg hp]
  rw [e4, ← EReal.coe_add, ← EReal.coe_neg]
  congr 1
  have : max (-z) 0 = -min z 0 := by
    rcases le_total z 0 with h | h
    · rw [max_eq_left (by linarith), min_eq_left h]
    · rw [max_eq_right (by linarith), min_eq_right h, neg_zero]
  rw [this]
  ring

theorem log2_at (i : S32768x8.Idx) : val_main_v9 (F := Ideal) i = ((Real.log 2 : ℝ) : EReal) := by
  rw [val_main_v9_apply, val_main_v8_apply, val_main_cst_apply]
  have h2 : Ideal.ofBits .f32 0x40000000#32 = ((2 : ℝ) : EReal) := by simp [Ideal.ofBits, Ideal.ieee, -EReal.coe_mul]; norm_num
  show Ideal.log (Ideal.ofBits .f32 0x40000000#32) = _
  rw [h2]
  show (if (2 : ℝ) ≤ 0 then (⊥ : EReal) else (Real.log 2 : ℝ)) = _
  rw [if_neg (by norm_num)]

theorem v7_at (hf : Real8 x b) (i : S32768x8.Idx) : val_main_v7 (F := Ideal) x b i = win (gl x b ((i 0).val / 4096) (i 1).val) 4096 ((i 0).val % 4096) := by
  have h0 : (i 0).val < 32768 := (i 0).isLt
  have h1 : (i 1).val < 8 := (i 1).isLt
  rw [val_main_v7_apply]
  have e : idx_main_v7 i = ix3 (⟨(i 0).val / 4096, by omega⟩ : Fin 8) (⟨(i 0).val % 4096, by omega⟩ : Fin 4096) (⟨(i 1).val, h1⟩ : Fin 8) := by
    funext a
    refine Fin.ext ?_
    match a with
    | ⟨0, _⟩ => show ((i 0).val * 8 + (i 1).val) / 32768 = (i 0).val / 4096; omega
    | ⟨1, _⟩ => show ((i 0).val * 8 + (i 1).val) / 8 % 4096 = (i 0).val % 4096; omega
    | ⟨2, _⟩ => show ((i 0).val * 8 + (i 1).val) % 8 = (i 1).val; omega
  rw [e]
  unfold val_main_v6
  refine window_at _ _ (fun j => ?_) _ _ _ ⟨(i 0).val % 4096, by omega⟩ _ _ fun k => ?_
  · rw [val_main_call1_call0_v0_apply, val_main_call1_call0_cst_apply]
    exact Ideal.ofBits_zero_f32
  · have hk := k.isLt
    rw [val_main_v5_apply]
    have e0 : (idx_main_v5 (ix3 (⟨(i 0).val / 4096, by omega⟩ : Fin 8) k (⟨(i 1).val, h1⟩ : Fin 8)) 0).val = (i 0).val / 4096 * 4096 + k.val := by
      show ((((i 0).val / 4096) * 4096 + k.val) * 8 + (i 1).val) / 8 = _; omega
    have e1 : (idx_main_v5 (ix3 (⟨(i 0).val / 4096, by omega⟩ : Fin 8) k (⟨(i 1).val, h1⟩ : Fin 8)) 1).val = (i 1).val := by
      show ((((i 0).val / 4096) * 4096 + k.val) * 8 + (i 1).val) % 8 = _; omega
    obtain ⟨z, hz⟩ := hf ((i 0).val / 4096 * 4096 + k.val) (i 1).val (by omega) h1
    rw [v4_at x b _ z (by rw [e0, e1]; exact hz)]
    unfold gl
    rw [hz]

/-- The reference: sums of logarithms to base two, zero past the heads. -/
theorem v12_at (hf : Real8 x b) (i : S32768x128.Idx) : val_main_v12 (F := Ideal) x b i
    = if (i 1).val < 8 then win (gl x b ((i 0).val / 4096) (i 1).val) 4096 ((i 0).val % 4096) * (((Real.log 2)⁻¹ : ℝ) : EReal) else 0 := by
  rw [val_main_v12_apply]
  show val_main_v11 (F := Ideal) x b i = _
  unfold val_main_v11
  by_cases h : (i 1).val < 8
  · rw [if_pos h]
    refine (pad_apply_of_inside _ _ _ _ _ _ _ i
      (fun b => match b with | ⟨0, _⟩ => ⟨(i 0).val, (i 0).isLt⟩ | ⟨1, _⟩ => ⟨(i 1).val, h⟩ : S32768x8.Idx)
      (fun b => match b with | ⟨0, _⟩ => (by show (i 0).val = 0 + (i 0).val * 1; omega) | ⟨1, _⟩ => (by show (i 1).val = 0 + (i 1).val * 1; omega))).trans ?_
    rw [val_main_v10_apply, v7_at x b hf, log2_at]
    have hl : Real.log 2 ≠ 0 := (Real.log_pos (by norm_num)).ne'
    show Ideal.div _ _ = _
    unfold Ideal.div
    rw [if_neg (by exact_mod_cast hl), ← EReal.coe_inv]
  · rw [if_neg h, pad_apply_of_not_inside _ _ _ _ _ _ _ i (1 : Fin 2) (fun hc => h (by
      have := hc.2.2
      change ((i 1).val - 0) / 1 < 8 at this
      omega)), val_main_call2_v0_apply, val_main_c_apply]
    show (((0#32 : BitVec 32).toInt : ℝ) : EReal) = 0
    simp

/-! ## The precondition -/

instance logitFacts : Cert.Pre_finite_logits.Facts where
  slices_S32768x128_S32768x8_0_0 := by decide
  bcast_S_S32768x8 := by decide
  reducesTo_S32768x8_S_d0_1 := by decide
  h_S_ := by decide
  bcast_S_S8 := by decide
  reducesTo_S8_S_d0 := by decide

theorem real8_of_pre (h : Cert.Pre_finite_logits.fn (F := Ideal) x b = fun _ => 1#1) : Real8 x b := by
  have h1 := congrFun h (Shape.Idx.first logitFacts.h_S_)
  unfold Cert.Pre_finite_logits.fn at h1
  simp only [] at h1
  obtain ⟨ha, hb⟩ := IntOp.andi_eq_one.1 h1
  intro r l hr hl
  have p := Host.reduce_andi_all _ _ _ _ _ ha (ix2 (⟨r, hr⟩ : Fin 32768) (⟨l, hl⟩ : Fin 8))
  have e : extractStridedSlice S32768x8 ![0, 0] x logitFacts.slices_S32768x128_S32768x8_0_0 (ix2 (⟨r, hr⟩ : Fin 32768) (⟨l, hl⟩ : Fin 8))
      = at2 (a := 32768) (b := 128) x r l := by
    rw [extractStridedSlice_apply ![0, 0] x logitFacts.slices_S32768x128_S32768x8_0_0 _ (ix2 (⟨r, hr⟩ : Fin 32768) (⟨l, by omega⟩ : Fin 128)) (fun a => match a with
      | ⟨0, _⟩ => by show r = 0 + r; omega
      | ⟨1, _⟩ => by show l = 0 + l; omega)]
    exact at2_of x _ _ _ rfl rfl
  have q := Host.reduce_andi_all _ _ _ _ _ hb (ix1 (⟨l, hl⟩ : Fin 8))
  obtain ⟨u, hu⟩ := real_of_abs _ (by rw [← pos_inf]; exact p)
  obtain ⟨w, hw⟩ := real_of_abs (b (ix1 (⟨l, hl⟩ : Fin 8))) (by rw [← pos_inf]; exact q)
  refine ⟨u + w, ?_⟩
  rw [← e, EReal.coe_add, ← hu, ← hw]
  unfold at1
  rw [dif_pos hl]

end Cert.Gate
-- ==== Proof.GateArray.lean ====
/-
  The gate call's array: the bias row as the host prepares it, the blocks as entries of the arguments, and the array the
  call leaves, the reference's.
-/
module

public import proofs.«01_k».proof.Proof.Gen.ForgetIdeal.Value
public import proofs.«01_k».proof.Proof.GateRef
public import Idealize.ShloMosaic.Lib.Pipeline.ValueKit

@[expose] public section

set_option maxRecDepth 16384

noncomputable section

namespace Cert.Gate

open Cert.ForgetIdeal Cert.ForgetIdeal.Gen
open Idealize.ShloMosaic Idealize.ShloMosaic.TcCoe Idealize.ShloMosaic.StableHlo
open Idealize.ShloMosaic.Pipeline (Dat Cfg Window)
open Cert.Attn (at2)

variable (m : (ℓ : Loc nD τ sig) → Buf (Elt Ideal) ℓ) (c : Dev nD) (t : Fin cfg0.N)

/-- The arguments of device `c`: the logits and the biases. -/
def Xm : FVec Ideal S32768x128 .f32 := m ((c : Thread nD τ).loc main_arg0)
def Bm : FVec Ideal S8 .f32 := m ((c : Thread nD τ).loc main_arg1)

/-! ## The bias row -/

theorem V_v1 : V m c main_v1 = pad S1x128 ![0, 0] ![0, 120] ![0, 0] (shapeCast S1x8 (Bm m c) shapeCasts_S8_S1x8)
    (sitofp (F := Ideal) .f32 (constantI S_ 32 0#32)) pads_S1x8_S1x128_000_01200 h_S_ := by
  unfold V Bm
  simp only [hostOps0, hostOps0_1, List.flatten_cons, List.flatten_nil, List.append_nil, List.cons_append, List.nil_append,
    TRef.binary, TRef.unary, TRef.toBuf, TRef.ofBuf, cast_eq]
  after_results_simp
  rfl

theorem v1_at (l : ℕ) (i : S1x128.Idx) (h1 : (i 1).val = l) : (V m c main_v1 : FVec Ideal S1x128 .f32) i = at1 (Bm m c) l := by
  rw [V_v1]
  subst h1
  have h0 : (i 0).val < 1 := (i 0).isLt
  unfold at1
  by_cases h : (i 1).val < 8
  · rw [dif_pos h]
    refine (pad_apply_of_inside _ _ _ _ _ _ _ i (ix2 ⟨(i 0).val, h0⟩ ⟨(i 1).val, h⟩ : S1x8.Idx)
      (fun b => match b with | ⟨0, _⟩ => (by show (i 0).val = 0 + (i 0).val * 1; omega) | ⟨1, _⟩ => (by show (i 1).val = 0 + (i 1).val * 1; omega))).trans ?_
    refine shapeCast_apply (Bm m c) shapeCasts_S8_S1x8 _ (ix1 ⟨(i 1).val, h⟩) ?_
    rw [Shape.rowMajor_val_one, Shape.rowMajor_val_two]
    show (i 1).val = (i 0).val * 8 + (i 1).val
    omega
  · rw [dif_neg h, pad_apply_of_not_inside _ _ _ _ _ _ _ i (1 : Fin 2) (fun hc => h (by
      have := hc.2.2
      change ((i 1).val - 0) / 1 < 8 at this
      omega))]
    show (((0#32 : BitVec 32).toInt : ℝ) : EReal) = 0
    simp

/-! ## The blocks -/

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

/-- The two blocks of point `t`. -/
def B0 : FVec Ideal S4096x128 .f32 := iblk m c 0 t
def B1 : FVec Ideal S1x128 .f32 := iblk m c 1 t

theorem B0_at (r : Fin 4096) (j : Fin 128) : B0 m c t (ix2 r j) = at2 (a := 32768) (b := 128) (Xm m c) (t.val * 4096 + r) j := by
  have hV : V m c main_arg0 = Xm m c := V_main_arg0 m c
  have ht : t.val < 8 := t.isLt
  have hr := r.isLt
  unfold at2
  rw [dif_pos ⟨by omega, j.isLt⟩, ← hV]
  refine congrArg (V m c main_arg0) (?_ : (win0_0.rect t).emb (ix2 r j) = _)
  funext a
  refine Fin.ext ?_
  match a with
  | ⟨0, _⟩ => refine (Window.rect_emb_val win0_0 t _ 0 rfl).trans ?_; rw [index0 t]; rfl
  | ⟨1, _⟩ => refine (Window.rect_emb_val win0_0 t _ 1 rfl).trans ?_; rw [index0 t]; show 0 * 128 + j.val = j.val; omega
theorem B1_at (j : Fin 128) : B1 m c t (ix2 0 j) = at1 (Bm m c) j := by
  refine v1_at m c j ((win0_1.rect t).emb (ix2 0 j)) ?_
  refine (Window.rect_emb_val win0_1 t _ 1 rfl).trans ?_; rw [index1 t]; show 0 * 128 + j.val = j.val; omega

/-! ## The array -/

/-- What the body leaves: the doublings of the logarithms, split. -/
theorem out_eq (x : FVec Ideal S4096x128 .f32) (b : FVec Ideal S1x128 .f32) : out0_2 (F := Ideal) x b
    = spread (dbl 2048#32 (dbl 1024#32 (dbl 512#32 (dbl 256#32 (dbl 128#32 (dbl 64#32 (dbl 32#32 (dbl 16#32 (dbl 8#32 (dbl 4#32 (dbl 2#32 (dbl 1#32 (logs x b))))))))))))) := by
  have e7 : k0_pay7 (F := Ideal) x b = dbl 8#32 (dbl 4#32 (dbl 2#32 (dbl 1#32 (logs x b)))) := by
    unfold k0_pay7
    have ex : View.ld (Val := Elt Ideal) (e' := .f32) x r0_0 = x := View.ld_unit_lit (Val := Elt Ideal) (S := S4096x128) (e := .f32) inb_S4096x128_S4096x128_0_0 x (by decide)
    have eb : View.ld (Val := Elt Ideal) (e' := .f32) b r0_1 = b := View.ld_unit_lit (Val := Elt Ideal) (S := S1x128) (e := .f32) inb_S1x128_S1x128_0_0 b (by decide)
    exact (congrArg₂ k0_pay2 ex eb).trans (pay2_eq x b)
  unfold out0_2
  refine (View.canon_cons_unit_lit (Val := Elt Ideal) (S := S4096x128) (e := .bf16) inb_S4096x128_S4096x128_0_0 _ _ (by decide)).trans ?_
  rw [e7]
  unfold k0_pay6 k0_pay8
  rw [pay1_eq, pay5_eq, pay4_eq]

theorem out_at (hf : Real8 (Xm m c) (Bm m c)) (r : Fin 4096) (l : Fin 128) : out0_2 (F := Ideal) (B0 m c t) (B1 m c t) (ix2 r l)
    = if l.val < 8 then win (gl (Xm m c) (Bm m c) t.val l.val) 4096 r.val * (((Real.log 2)⁻¹ : ℝ) : EReal) else 0 := by
  have ht : t.val < 8 := t.isLt
  have hs : ∀ l : Fin 128, _ = win (gl (Xm m c) (Bm m c) t.val l.val) 4096 r.val := fun l =>
    scan_at (gl (Xm m c) (Bm m c) t.val l.val) (logs (B0 m c t) (B1 m c t)) l (fun r => by rw [logs_apply, B0_at, B1_at]; rfl) r
  have hreal : ∀ l : Fin 8, ∃ y : ℝ, win (gl (Xm m c) (Bm m c) t.val l.val) 4096 r.val = (y : EReal) := fun l =>
    win_real _ _ _ fun k hk => by
      have hr := r.isLt
      obtain ⟨z, hz⟩ := hf (t.val * 4096 + k) l.val (by omega) l.isLt
      exact ⟨_, by unfold gl; rw [hz]; exact ls_real z⟩
  choose y hy using hreal
  rw [out_eq, spread_apply _ r y (fun l h => (hs l).trans (hy ⟨l.val, h⟩)) l, hs l]

theorem final2 (hf : Real8 (Xm m c) (Bm m c)) : (dats m 0 c).arrAt 2 cfg0.N = Cert.GatesIdeal.Read.val_main_v12 (F := Ideal) (Xm m c) (Bm m c) := by
  refine (dats m 0 c).arrAt_eq_of_covers 2 _ (by decide +kernel) fun t hf' y => ?_
  have e : ∀ y : S4096x128.Idx, (dats m 0 c).after 2 t y = Cert.GatesIdeal.Read.val_main_v12 (F := Ideal) (Xm m c) (Bm m c) ((win0_2.rect t).emb y) := by
    intro y
    have h0 : (y 0).val < 4096 := (y 0).isLt
    have e0 : ((win0_2.rect t).emb y 0).val = t.val * 4096 + (y 0).val := by
      refine (Window.rect_emb_val win0_2 t _ 0 rfl).trans ?_; rw [index2 t]; rfl
    have e1 : ((win0_2.rect t).emb y 1).val = (y 1).val := by
      refine (Window.rect_emb_val win0_2 t _ 1 rfl).trans ?_; rw [index2 t]; show 0 * 128 + (y 1).val = _; omega
    have hy : y = ix2 (y 0) (y 1) := by funext a; match a with | ⟨0, _⟩ => rfl | ⟨1, _⟩ => rfl
    rw [after0_2, v12_at _ _ hf, e0, e1, show (t.val * 4096 + (y 0).val) / 4096 = t.val by omega, show (t.val * 4096 + (y 0).val) % 4096 = (y 0).val by omega]
    conv_lhs => rw [hy]
    exact out_at m c t hf (y 0) (y 1)
  exact e y

end Cert.Gate
-- ==== Proof.lean ====
/-
  The claim: the programs run and leave their arguments and counters alone; the attention call leaves its reference's value,
  the projection call leaves the values of its own, the merge call's residual sum is that of its own, and the gate call
  leaves the sums of its own.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Pre
public import proofs.«01_k».proof.Proof.ProjArray
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.ProjectionsIdeal.Run
public import proofs.«01_k».proof.Proof.Gen.ProjectionsIdeal.Read
public import proofs.«01_k».proof.Proof.MixArray
public import proofs.«01_k».proof.Proof.MixRunBits
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.ResidualIdeal.Run
public import proofs.«01_k».proof.Proof.Gen.ResidualIdeal.Read
public import proofs.«01_k».proof.Proof.GateArray
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetIdeal.Value
public import proofs.«01_k».proof.Proof.Gen.GatesIdeal.Run
public import proofs.«01_k».proof.Proof.Gen.GatesIdeal.Read
public import Idealize.ShloMosaic.Lib.Bf16PairInverse
public import Idealize.ShloMosaic.Adequacy
public import Idealize.ShloMosaic.Init

@[expose] public section

noncomputable section

namespace Cert.Proof

open Idealize.ShloMosaic Idealize.ShloMosaic.TcCoe Idealize.SL.Sem

instance kernelFacts : Cert.Kernel.Facts := Cert.Kernel.Gen.facts
instance kernelIdealFacts : Cert.KernelIdeal.Facts := Cert.KernelIdeal.Gen.facts
instance referenceFacts : Cert.ReferenceIdeal.Facts := Cert.ReferenceIdeal.Gen.facts

/-- The two programs' tables of bodies are one: each has the body's text. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem defs_eq : Cert.Kernel.defs (F := Bits) = Cert.KernelIdeal.defs (F := Bits) := congrArg (Pipeline.defs Cert.KernelIdeal.pcfgs) bodies_eq

/-- The ideal program and the kernel have the same text, so the run over any float values serves both. -/
theorem frame_kernel : Cert.quiescent_Kernel := fun m ρ _ => by
  rw [defs_eq]
  exact (θ_run Cert.KernelIdeal.defs _ _).mono (fun _ h => h) (Cert.Attn.frame_run (F := Bits) m ρ)

theorem frame_ideal : Cert.quiescent_KernelIdeal := fun m ρ _ => Cert.Attn.frame_run (F := Ideal) m ρ

theorem frame_ideal_pre : Cert.quiescent_KernelIdeal_pre_finite := fun m ρ _ => Cert.Attn.frame_run (F := Ideal) m ρ

/-- The reference is host operations only and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite := fun m ρ _ => frame_reference m ρ trivial

/-- Kernel and reference compute the same array over the extended reals. -/
theorem algebraic : Cert.algebraic_KernelIdeal_ReferenceIdeal_pre_finite := by
  intro m g m' g' hpre hagree
  refine ⟨fun c => Cert.ReferenceIdeal.Read.val_main_v47 (F := Ideal) (Cert.Attn.Zm m c) (Cert.Attn.Cm m c), ?_, ?_⟩
  · refine (θ_run Cert.KernelIdeal.defs _ _).mono (fun r h c => ⟨?_, ?_, ?_⟩) (Cert.Attn.launch m g)
    · exact ((h.1 c).1 4).trans (Cert.Attn.final m c (Cert.Attn.fin2_of_pre _ _ (hpre c)))
    · exact ((h.1 c).1 0).trans (((Cert.Attn.dats m 0 c).arrAt_in 0 rfl _).trans ((Cert.Attn.A_eq m c 0).trans (Cert.KernelIdeal.Gen.V_main_arg0 m c)))
    · exact ((h.1 c).1 3).trans (((Cert.Attn.dats m 0 c).arrAt_in 3 rfl _).trans ((Cert.Attn.A_eq m c 3).trans (Cert.KernelIdeal.Gen.V_main_arg1 m c)))
  · refine (θ_run Cert.ReferenceIdeal.defs _ _).mono (fun r h c => ⟨?_, (h c).2⟩) (Cert.ReferenceIdeal.Value.run (F := Ideal) m' g')
    rw [(h c).1, Cert.ReferenceIdeal.Read.val_main_v47_eq, (hagree c).1, (hagree c).2]
    rfl

/-! ## The projection call -/

instance inprojFacts : Cert.Inproj.Facts := Cert.Inproj.Gen.facts
instance inprojIdealFacts : Cert.InprojIdeal.Facts := Cert.InprojIdeal.Gen.facts
instance projectionsFacts : Cert.ProjectionsIdeal.Facts := Cert.ProjectionsIdeal.Gen.facts

/-- Over bit patterns a named constant is its own pattern: the ideal program read so is the kernel. -/
local instance : Named Bits := ⟨fun _ _ {φ} b => Scalar.ofBits φ b⟩

theorem proj_bodies_eq : Cert.Inproj.defs₀ (F := Bits) = Cert.InprojIdeal.defs₀ (F := Bits) := by
  unfold Cert.Inproj.defs₀ Cert.InprojIdeal.defs₀
  refine congrArg Defs.onTc (funext fun l => funext fun x => ?_)
  match l, x with
  | 0, (t, s) => rfl

theorem proj_defs_eq : Cert.Inproj.defs (F := Bits) = Cert.InprojIdeal.defs (F := Bits) :=
  congrArg (Pipeline.defs Cert.InprojIdeal.pcfgs) proj_bodies_eq

theorem frame_inproj : Cert.quiescent_Inproj := fun m ρ _ => by
  rw [proj_defs_eq]
  exact (θ_run Cert.InprojIdeal.defs _ _).mono (fun _ h => h) (Cert.Proj.frame_run (F := Bits) m ρ)

theorem frame_inproj_ideal : Cert.quiescent_InprojIdeal := fun m ρ _ => Cert.Proj.frame_run (F := Ideal) m ρ

theorem frame_projections : Cert.quiescent_ProjectionsIdeal := fun m ρ _ =>
  (θ_run Cert.ProjectionsIdeal.defs _ _).mono (fun r h => ⟨fun c => (h c).2.2, sem_eq_zero_of_no_sems (by decide) r.2⟩)
    (Cert.ProjectionsIdeal.Value.run (F := Ideal) m ρ)

/-- The one constant the ideal program names. -/
theorem prescale : Cert.preserves_Inproj_InprojIdeal := IdealRules.named_const.statement Cert.InprojIdeal.κ "prescale" .f32 _ _ rfl

/-- The projection call and its reference compute the same two arrays over the extended reals. -/
theorem proj_algebraic : Cert.algebraic_InprojIdeal_ProjectionsIdeal := by
  intro m g m' g' _ hagree
  refine ⟨fun c => Cert.ProjectionsIdeal.Read.val_main_v26 (F := Ideal) (Cert.Proj.Xm m c) (Cert.Proj.Gm m c) (Cert.Proj.Wm m c),
    fun c => Cert.ProjectionsIdeal.Read.val_main_v25 (F := Ideal) (Cert.Proj.Xm m c) (Cert.Proj.Gm m c) (Cert.Proj.Wm m c), ?_, ?_⟩
  · refine (θ_run Cert.InprojIdeal.defs _ _).mono (fun r h c => ⟨?_, ?_, ?_, ?_, ?_⟩) (Cert.Proj.launch m g)
    · exact ((h.1 c).1 4).trans (Cert.Proj.final4 m c)
    · exact ((h.1 c).1 5).trans (Cert.Proj.final5 m c)
    · exact ((h.1 c).1 0).trans (((Cert.Proj.dats m 0 c).arrAt_in 0 rfl _).trans ((Cert.Proj.A_eq m c 0).trans (Cert.InprojIdeal.Gen.V_main_arg0 m c)))
    · exact ((h.1 c).2 Cert.InprojIdeal.main_arg1 (Pipeline.mem_restRefs_of _ (by decide) (by decide))).trans (Cert.InprojIdeal.Gen.V_main_arg1 m c)
    · exact ((h.1 c).2 Cert.InprojIdeal.main_arg2 (Pipeline.mem_restRefs_of _ (by decide) (by decide))).trans (Cert.InprojIdeal.Gen.V_main_arg2 m c)
  · refine (θ_run Cert.ProjectionsIdeal.defs _ _).mono (fun r h c => ⟨?_, ?_, (h c).2.2⟩) (Cert.ProjectionsIdeal.Value.run (F := Ideal) m' g')
    · rw [(h c).1, Cert.ProjectionsIdeal.Read.val_main_v26_eq, (hagree c).1, (hagree c).2.1, (hagree c).2.2]
      rfl
    · rw [(h c).2.1, Cert.ProjectionsIdeal.Read.val_main_v25_eq, (hagree c).1, (hagree c).2.1, (hagree c).2.2]
      rfl

/-! ## The merge call -/

instance mergeFacts : Cert.Merge.Facts := Cert.Merge.Gen.facts
instance mergeIdealFacts : Cert.MergeIdeal.Facts := Cert.MergeIdeal.Gen.facts
instance residualFacts : Cert.ResidualIdeal.Facts := Cert.ResidualIdeal.Gen.facts

/-- The kernel packs its rows into words and the ideal program keeps them as pairs: a run for each. -/
theorem frame_merge : Cert.quiescent_Merge := fun m ρ _ => Cert.MixBits.frame_run (F := Bits) m ρ

theorem frame_merge_ideal : Cert.quiescent_MergeIdeal := fun m ρ _ => Cert.Mix.frame_run (F := Ideal) m ρ

theorem frame_residual : Cert.quiescent_ResidualIdeal := fun m ρ _ =>
  (θ_run Cert.ResidualIdeal.defs _ _).mono (fun r h => ⟨fun c => (h c).2, sem_eq_zero_of_no_sems (by decide) r.2⟩)
    (Cert.ResidualIdeal.Value.run (F := Ideal) m ρ)

/-- The words of the packed rows, read as pairs. -/
theorem packing : Cert.preserves_Merge_MergeIdeal :=
  ⟨IdealRules.bf16_pair.bufferStatement _ _, IdealRules.bf16_pair.bufferStatement _ _,
    IdealRules.bf16_pair.statement _ _, IdealRules.bf16_pack.statement _⟩

/-- The merge call's residual sum and its reference are the same array over the extended reals. -/
theorem merge_algebraic : Cert.algebraic_MergeIdeal_ResidualIdeal := by
  intro m g m' g' _ hagree
  refine ⟨fun c => Cert.ResidualIdeal.Read.val_main_v24 (F := Ideal) (Cert.Mix.Hm m c) (Cert.Mix.Om m c) (Cert.Mix.Zm m c) (Cert.Mix.Xm m c) (Cert.Mix.Lm m c)
    (Cert.Mix.Am m c) (Cert.Mix.Pm m c), ?_, ?_⟩
  · exact (θ_run Cert.MergeIdeal.defs _ _).mono (fun r h c => ⟨(h.1 c).1.trans (Cert.Mix.final11 m c), (h.1 c).2⟩) (Cert.Mix.run_all (F := Ideal) m g)
  · refine (θ_run Cert.ResidualIdeal.defs _ _).mono (fun r h c => ⟨?_, (h c).2⟩) (Cert.ResidualIdeal.Value.run (F := Ideal) m' g')
    obtain ⟨h0, h1, h2, h3, h4, h5, h6, _⟩ := hagree c
    rw [(h c).1, Cert.ResidualIdeal.Read.val_main_v24_eq, h0, h1, h2, h3, h4, h5, h6]
    rfl

/-! ## The gate call -/

instance forgetFacts : Cert.Forget.Facts := Cert.Forget.Gen.facts
instance forgetIdealFacts : Cert.ForgetIdeal.Facts := Cert.ForgetIdeal.Gen.facts
instance gatesFacts : Cert.GatesIdeal.Facts := Cert.GatesIdeal.Gen.facts

theorem frame_forget : Cert.quiescent_Forget := fun m ρ _ => Cert.Forget.Gen.frame (F := Bits) m ρ

theorem frame_forget_ideal : Cert.quiescent_ForgetIdeal := fun m ρ _ => Cert.ForgetIdeal.Gen.frame (F := Ideal) m ρ

theorem frame_forget_ideal_pre : Cert.quiescent_ForgetIdeal_pre_finite_logits := fun m ρ _ => Cert.ForgetIdeal.Gen.frame (F := Ideal) m ρ

theorem frame_gates : Cert.quiescent_GatesIdeal := fun m ρ _ =>
  (θ_run Cert.GatesIdeal.defs _ _).mono (fun r h => ⟨fun c => (h c).2, sem_eq_zero_of_no_sems (by decide) r.2⟩)
    (Cert.GatesIdeal.Value.run (F := Ideal) m ρ)

theorem frame_gates_pre : Cert.quiescent_GatesIdeal_pre_finite_logits := fun m ρ _ => frame_gates m ρ trivial

/-- The one constant the gate call's ideal program names. -/
theorem log2e : Cert.preserves_Forget_ForgetIdeal := IdealRules.named_const.statement Cert.ForgetIdeal.κ "log2e" .f32 _ _ rfl

/-- The gate call and its reference compute the same array over the extended reals. -/
theorem gates_algebraic : Cert.algebraic_ForgetIdeal_GatesIdeal_pre_finite_logits := by
  intro m g m' g' hpre hagree
  refine ⟨fun c => Cert.GatesIdeal.Read.val_main_v12 (F := Ideal) (Cert.Gate.Xm m c) (Cert.Gate.Bm m c), ?_, ?_⟩
  · exact (θ_run Cert.ForgetIdeal.defs _ _).mono (fun r h c => ⟨(h c).1.trans (Cert.Gate.final2 m c (Cert.Gate.real8_of_pre _ _ (hpre c))), (h c).2⟩)
      (Cert.ForgetIdeal.Value.run_blocks (F := Ideal) m g)
  · refine (θ_run Cert.GatesIdeal.defs _ _).mono (fun r h c => ⟨?_, (h c).2⟩) (Cert.GatesIdeal.Value.run (F := Ideal) m' g')
    rw [(h c).1, Cert.GatesIdeal.Read.val_main_v12_eq, (hagree c).1, (hagree c).2]
    rfl

theorem claim : Cert.Claim :=
  ⟨Cert.Kernel.Gen.facts, Cert.KernelIdeal.Gen.facts, Cert.ReferenceIdeal.Gen.facts, Cert.Inproj.Gen.facts, Cert.InprojIdeal.Gen.facts,
    Cert.ProjectionsIdeal.Gen.facts, Cert.Merge.Gen.facts, Cert.MergeIdeal.Gen.facts, Cert.ResidualIdeal.Gen.facts, Cert.Forget.Gen.facts,
    Cert.ForgetIdeal.Gen.facts, Cert.GatesIdeal.Gen.facts, Cert.Attn.preFacts, Cert.Gate.logitFacts,
    frame_kernel, frame_ideal, frame_ideal_pre, frame_reference, frame_reference_pre, frame_inproj, frame_inproj_ideal, frame_projections,
    frame_merge, frame_merge_ideal, frame_residual, frame_forget, frame_forget_ideal, frame_forget_ideal_pre, frame_gates, frame_gates_pre,
    trivial, algebraic, prescale, proj_algebraic, packing, merge_algebraic, log2e, gates_algebraic⟩

end Cert.Proof

end
